-- ==== Defs.lean ====
def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1Ideal_finite_qk [hPre_finite_qk : Cert.Pre_finite_qk.Facts] (m : (ℓ : Loc Cert.Attn1Ideal.nD Cert.Attn1Ideal.τ Cert.Attn1Ideal.sig) → Buf (Elt Ideal) ℓ) : Prop :=
  ∀ c : Dev Cert.Attn1Ideal.nD,
    (Cert.Pre_finite_qk.fn (F := Ideal) (m ((c.tc : Thread Cert.Attn1Ideal.nD Cert.Attn1Ideal.τ).loc Cert.Attn1Ideal.main_arg0)) (m ((c.tc : Thread Cert.Attn1Ideal.nD Cert.Attn1Ideal.τ).loc Cert.Attn1Ideal.main_arg1)) (m ((c.tc : Thread Cert.Attn1Ideal.nD Cert.Attn1Ideal.τ).loc Cert.Attn1Ideal.main_arg2))) = (fun _ => 1#1)

def Pre_Branch1Ideal (m : (ℓ : Loc Cert.Branch1Ideal.nD Cert.Branch1Ideal.τ Cert.Branch1Ideal.sig) → Buf (Elt Ideal) ℓ) : Prop :=
  True

def Pre_Branch1Ideal_finite_qk [hPre_finite_qk : Cert.Pre_finite_qk.Facts] (m : (ℓ : Loc Cert.Branch1Ideal.nD Cert.Branch1Ideal.τ Cert.Branch1Ideal.sig) → Buf (Elt Ideal) ℓ) : Prop :=
  ∀ c : Dev Cert.Branch1Ideal.nD,
    (Cert.Pre_finite_qk.fn (F := Ideal) (m ((c.tc : Thread Cert.Branch1Ideal.nD Cert.Branch1Ideal.τ).loc Cert.Branch1Ideal.main_arg0)) (m ((c.tc : Thread Cert.Branch1Ideal.nD Cert.Branch1Ideal.τ).loc Cert.Branch1Ideal.main_arg1)) (m ((c.tc : Thread Cert.Branch1Ideal.nD Cert.Branch1Ideal.τ).loc Cert.Branch1Ideal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_MixersIdeal (m : (ℓ : Loc Cert.MixersIdeal.nD Cert.MixersIdeal.τ Cert.MixersIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_finite_lse [hPre_finite_lse : Cert.Pre_finite_lse.Facts] (m : (ℓ : Loc Cert.OutIdeal.nD Cert.OutIdeal.τ Cert.OutIdeal.sig) → Buf (Elt Ideal) ℓ) : Prop :=
  ∀ c : Dev Cert.OutIdeal.nD,
    (Cert.Pre_finite_lse.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)) (m ((c.tc : Thread Cert.OutIdeal.nD Cert.OutIdeal.τ).loc Cert.OutIdeal.main_arg7)) (m ((c.tc : Thread Cert.OutIdeal.nD Cert.OutIdeal.τ).loc Cert.OutIdeal.main_arg8)) (m ((c.tc : Thread Cert.OutIdeal.nD Cert.OutIdeal.τ).loc Cert.OutIdeal.main_arg9)) (m ((c.tc : Thread Cert.OutIdeal.nD Cert.OutIdeal.τ).loc Cert.OutIdeal.main_arg10)) (m ((c.tc : Thread Cert.OutIdeal.nD Cert.OutIdeal.τ).loc Cert.OutIdeal.main_arg11)) (m ((c.tc : Thread Cert.OutIdeal.nD Cert.OutIdeal.τ).loc Cert.OutIdeal.main_arg12)) (m ((c.tc : Thread Cert.OutIdeal.nD Cert.OutIdeal.τ).loc Cert.OutIdeal.main_arg13)) (m ((c.tc : Thread Cert.OutIdeal.nD Cert.OutIdeal.τ).loc Cert.OutIdeal.main_arg14))) = (fun _ => 1#1)

def Pre_TailIdeal (m : (ℓ : Loc Cert.TailIdeal.nD Cert.TailIdeal.τ Cert.TailIdeal.sig) → Buf (Elt Ideal) ℓ) : Prop :=
  True

def Pre_TailIdeal_finite_lse [hPre_finite_lse : Cert.Pre_finite_lse.Facts] (m : (ℓ : Loc Cert.TailIdeal.nD Cert.TailIdeal.τ Cert.TailIdeal.sig) → Buf (Elt Ideal) ℓ) : Prop :=
  ∀ c : Dev Cert.TailIdeal.nD,
    (Cert.Pre_finite_lse.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14))) = (fun _ => 1#1)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0)
      ∧ r.2.mem ((c.tc : Thread Cert.Attn1.nD Cert.Attn1.τ).loc Cert.Attn1.main_arg1) = m ((c.tc : Thread Cert.Attn1.nD Cert.Attn1.τ).loc Cert.Attn1.main_arg1)
      ∧ r.2.mem ((c.tc : Thread Cert.Attn1.nD Cert.Attn1.τ).loc Cert.Attn1.main_arg2) = m ((c.tc : Thread Cert.Attn1.nD Cert.Attn1.τ).loc Cert.Attn1.main_arg2))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2))
      ∧ r.2.sem = fun _ => 0)

def quiescent_Attn1Ideal_pre_finite_qk [hAttn1Ideal : Cert.Attn1Ideal.Facts] [hPre_finite_qk : Cert.Pre_finite_qk.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal_finite_qk m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2))
      ∧ r.2.sem = fun _ => 0)

def quiescent_Branch1Ideal [hBranch1Ideal : Cert.Branch1Ideal.Facts] : Prop :=
  ∀ (m : (ℓ : Loc Cert.Branch1Ideal.nD Cert.Branch1Ideal.τ Cert.Branch1Ideal.sig) → Buf (Elt Ideal) ℓ) (g : Dev Cert.Branch1Ideal.nD → PrngReg), Pre_Branch1Ideal m →
    θ_run (Cert.Branch1Ideal.defs (F := Ideal)) (onTc (τ := Cert.Branch1Ideal.τ) (Cert.Branch1Ideal.main (F := Ideal))) ⟨m, fun _ => 0, g⟩ (fun r => (∀ c : Dev Cert.Branch1Ideal.nD,
      r.2.mem ((c.tc : Thread Cert.Branch1Ideal.nD Cert.Branch1Ideal.τ).loc Cert.Branch1Ideal.main_arg0) = m ((c.tc : Thread Cert.Branch1Ideal.nD Cert.Branch1Ideal.τ).loc Cert.Branch1Ideal.main_arg0)
      ∧ r.2.mem ((c.tc : Thread Cert.Branch1Ideal.nD Cert.Branch1Ideal.τ).loc Cert.Branch1Ideal.main_arg1) = m ((c.tc : Thread Cert.Branch1Ideal.nD Cert.Branch1Ideal.τ).loc Cert.Branch1Ideal.main_arg1)
      ∧ r.2.mem ((c.tc : Thread Cert.Branch1Ideal.nD Cert.Branch1Ideal.τ).loc Cert.Branch1Ideal.main_arg2) = m ((c.tc : Thread Cert.Branch1Ideal.nD Cert.Branch1Ideal.τ).loc Cert.Branch1Ideal.main_arg2))
      ∧ r.2.sem = fun _ => 0)

def quiescent_Branch1Ideal_pre_finite_qk [hBranch1Ideal : Cert.Branch1Ideal.Facts] [hPre_finite_qk : Cert.Pre_finite_qk.Facts] : Prop :=
  ∀ (m : (ℓ : Loc Cert.Branch1Ideal.nD Cert.Branch1Ideal.τ Cert.Branch1Ideal.sig) → Buf (Elt Ideal) ℓ) (g : Dev Cert.Branch1Ideal.nD → PrngReg), Pre_Branch1Ideal_finite_qk m →
    θ_run (Cert.Branch1Ideal.defs (F := Ideal)) (onTc (τ := Cert.Branch1Ideal.τ) (Cert.Branch1Ideal.main (F := Ideal))) ⟨m, fun _ => 0, g⟩ (fun r => (∀ c : Dev Cert.Branch1Ideal.nD,
      r.2.mem ((c.tc : Thread Cert.Branch1Ideal.nD Cert.Branch1Ideal.τ).loc Cert.Branch1Ideal.main_arg0) = m ((c.tc : Thread Cert.Branch1Ideal.nD Cert.Branch1Ideal.τ).loc Cert.Branch1Ideal.main_arg0)
      ∧ r.2.mem ((c.tc : Thread Cert.Branch1Ideal.nD Cert.Branch1Ideal.τ).loc Cert.Branch1Ideal.main_arg1) = m ((c.tc : Thread Cert.Branch1Ideal.nD Cert.Branch1Ideal.τ).loc Cert.Branch1Ideal.main_arg1)
      ∧ r.2.mem ((c.tc : Thread Cert.Branch1Ideal.nD Cert.Branch1Ideal.τ).loc Cert.Branch1Ideal.main_arg2) = m ((c.tc : Thread Cert.Branch1Ideal.nD Cert.Branch1Ideal.τ).loc Cert.Branch1Ideal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
      ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
      ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
      ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
      ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12)
      ∧ r.2.mem ((c.tc : Thread Cert.Out.nD Cert.Out.τ).loc Cert.Out.main_arg13) = m ((c.tc : Thread Cert.Out.nD Cert.Out.τ).loc Cert.Out.main_arg13)
      ∧ r.2.mem ((c.tc : Thread Cert.Out.nD Cert.Out.τ).loc Cert.Out.main_arg14) = m ((c.tc : Thread Cert.Out.nD Cert.Out.τ).loc Cert.Out.main_arg14))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
      ∧ r.2.mem ((c.tc : Thread Cert.OutIdeal.nD Cert.OutIdeal.τ).loc Cert.OutIdeal.main_arg14) = m ((c.tc : Thread Cert.OutIdeal.nD Cert.OutIdeal.τ).loc Cert.OutIdeal.main_arg14))
      ∧ r.2.sem = fun _ => 0)

def quiescent_OutIdeal_pre_finite_lse [hOutIdeal : Cert.OutIdeal.Facts] [hPre_finite_lse : Cert.Pre_finite_lse.Facts] : Prop :=
  ∀ (m : (ℓ : Loc Cert.OutIdeal.nD Cert.OutIdeal.τ Cert.OutIdeal.sig) → Buf (Elt Ideal) ℓ) (g : Dev Cert.OutIdeal.nD → PrngReg), Pre_OutIdeal_finite_lse m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
      ∧ r.2.mem ((c.tc : Thread Cert.OutIdeal.nD Cert.OutIdeal.τ).loc Cert.OutIdeal.main_arg14) = m ((c.tc : Thread Cert.OutIdeal.nD Cert.OutIdeal.τ).loc Cert.OutIdeal.main_arg14))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ r.2.sem = fun _ => 0)

def quiescent_TailIdeal_pre_finite_lse [hTailIdeal : Cert.TailIdeal.Facts] [hPre_finite_lse : Cert.Pre_finite_lse.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_lse m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14))
      ∧ r.2.sem = fun _ => 0)

def preserves_Attn1_Attn1Ideal : Prop :=
  True

def algebraic_Attn1Ideal_Branch1Ideal_pre_finite_qk [hAttn1Ideal : Cert.Attn1Ideal.Facts] [hBranch1Ideal : Cert.Branch1Ideal.Facts] [hPre_finite_qk : Cert.Pre_finite_qk.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Branch1Ideal.nD Cert.Branch1Ideal.τ Cert.Branch1Ideal.sig) → Buf (Elt Ideal) ℓ) (g' : Dev Cert.Branch1Ideal.nD → PrngReg), Pre_Attn1Ideal_finite_qk m →
    (∀ c : Dev Cert.Attn1Ideal.nD,
      m' ((c.tc : Thread Cert.Branch1Ideal.nD Cert.Branch1Ideal.τ).loc Cert.Branch1Ideal.main_arg0) = m ((c.tc : Thread Cert.Attn1Ideal.nD Cert.Attn1Ideal.τ).loc Cert.Attn1Ideal.main_arg0)
      ∧ m' ((c.tc : Thread Cert.Branch1Ideal.nD Cert.Branch1Ideal.τ).loc Cert.Branch1Ideal.main_arg1) = m ((c.tc : Thread Cert.Attn1Ideal.nD Cert.Attn1Ideal.τ).loc Cert.Attn1Ideal.main_arg1)
      ∧ m' ((c.tc : Thread Cert.Branch1Ideal.nD Cert.Branch1Ideal.τ).loc Cert.Branch1Ideal.main_arg2) = m ((c.tc : Thread Cert.Attn1Ideal.nD Cert.Attn1Ideal.τ).loc Cert.Attn1Ideal.main_arg2)) →
    ∃ (v0 : (c : Dev Cert.Attn1Ideal.nD) → Buf (Elt Ideal) ((c.tc : Thread Cert.Attn1Ideal.nD Cert.Attn1Ideal.τ).loc Cert.Attn1Ideal.main_v24_0)) (v1 : (c : Dev Cert.Attn1Ideal.nD) → Buf (Elt Ideal) ((c.tc : Thread Cert.Attn1Ideal.nD Cert.Attn1Ideal.τ).loc Cert.Attn1Ideal.main_v24_1)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v24_0) = v0 c
          ∧ r.2.mem ((c.tc : Thread Cert.Attn1Ideal.nD Cert.Attn1Ideal.τ).loc Cert.Attn1Ideal.main_v24_1) = v1 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
          ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
          ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2))
      ∧ θ_run (Cert.Branch1Ideal.defs (F := Ideal)) (onTc (τ := Cert.Branch1Ideal.τ) (Cert.Branch1Ideal.main (F := Ideal))) ⟨m', fun _ => 0, g'⟩ (fun r => ∀ c : Dev Cert.Branch1Ideal.nD,
          r.2.mem ((c.tc : Thread Cert.Branch1Ideal.nD Cert.Branch1Ideal.τ).loc Cert.Branch1Ideal.main_v88) = v0 c
          ∧ r.2.mem ((c.tc : Thread Cert.Branch1Ideal.nD Cert.Branch1Ideal.τ).loc Cert.Branch1Ideal.main_v89) = v1 c
          ∧ r.2.mem ((c.tc : Thread Cert.Branch1Ideal.nD Cert.Branch1Ideal.τ).loc Cert.Branch1Ideal.main_arg0) = m' ((c.tc : Thread Cert.Branch1Ideal.nD Cert.Branch1Ideal.τ).loc Cert.Branch1Ideal.main_arg0)
          ∧ r.2.mem ((c.tc : Thread Cert.Branch1Ideal.nD Cert.Branch1Ideal.τ).loc Cert.Branch1Ideal.main_arg1) = m' ((c.tc : Thread Cert.Branch1Ideal.nD Cert.Branch1Ideal.τ).loc Cert.Branch1Ideal.main_arg1)
          ∧ r.2.mem ((c.tc : Thread Cert.Branch1Ideal.nD Cert.Branch1Ideal.τ).loc Cert.Branch1Ideal.main_arg2) = m' ((c.tc : Thread Cert.Branch1Ideal.nD Cert.Branch1Ideal.τ).loc Cert.Branch1Ideal.main_arg2))

def preserves_Proj_ProjIdeal : Prop :=
  True

def algebraic_ProjIdeal_MixersIdeal [hProjIdeal : Cert.ProjIdeal.Facts] [hMixersIdeal : Cert.MixersIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.MixersIdeal.nD Cert.MixersIdeal.τ Cert.MixersIdeal.sig) → Buf (Elt Ideal) ℓ) (g' : Dev Cert.MixersIdeal.nD → PrngReg), Pre_ProjIdeal m →
    (∀ c : Dev Cert.ProjIdeal.nD,
      m' ((c.tc : Thread Cert.MixersIdeal.nD Cert.MixersIdeal.τ).loc Cert.MixersIdeal.main_arg0) = m ((c.tc : Thread Cert.ProjIdeal.nD Cert.ProjIdeal.τ).loc Cert.ProjIdeal.main_arg0)
      ∧ m' ((c.tc : Thread Cert.MixersIdeal.nD Cert.MixersIdeal.τ).loc Cert.MixersIdeal.main_arg1) = m ((c.tc : Thread Cert.ProjIdeal.nD Cert.ProjIdeal.τ).loc Cert.ProjIdeal.main_arg1)
      ∧ m' ((c.tc : Thread Cert.MixersIdeal.nD Cert.MixersIdeal.τ).loc Cert.MixersIdeal.main_arg2) = m ((c.tc : Thread Cert.ProjIdeal.nD Cert.ProjIdeal.τ).loc Cert.ProjIdeal.main_arg2)
      ∧ m' ((c.tc : Thread Cert.MixersIdeal.nD Cert.MixersIdeal.τ).loc Cert.MixersIdeal.main_arg3) = m ((c.tc : Thread Cert.ProjIdeal.nD Cert.ProjIdeal.τ).loc Cert.ProjIdeal.main_arg3)
      ∧ m' ((c.tc : Thread Cert.MixersIdeal.nD Cert.MixersIdeal.τ).loc Cert.MixersIdeal.main_arg4) = m ((c.tc : Thread Cert.ProjIdeal.nD Cert.ProjIdeal.τ).loc Cert.ProjIdeal.main_arg4)
      ∧ m' ((c.tc : Thread Cert.MixersIdeal.nD Cert.MixersIdeal.τ).loc Cert.MixersIdeal.main_arg5) = m ((c.tc : Thread Cert.ProjIdeal.nD Cert.ProjIdeal.τ).loc Cert.ProjIdeal.main_arg5)
      ∧ m' ((c.tc : Thread Cert.MixersIdeal.nD Cert.MixersIdeal.τ).loc Cert.MixersIdeal.main_arg6) = m ((c.tc : Thread Cert.ProjIdeal.nD Cert.ProjIdeal.τ).loc Cert.ProjIdeal.main_arg6)
      ∧ m' ((c.tc : Thread Cert.MixersIdeal.nD Cert.MixersIdeal.τ).loc Cert.MixersIdeal.main_arg7) = m ((c.tc : Thread Cert.ProjIdeal.nD Cert.ProjIdeal.τ).loc Cert.ProjIdeal.main_arg7)
      ∧ m' ((c.tc : Thread Cert.MixersIdeal.nD Cert.MixersIdeal.τ).loc Cert.MixersIdeal.main_arg8) = m ((c.tc : Thread Cert.ProjIdeal.nD Cert.ProjIdeal.τ).loc Cert.ProjIdeal.main_arg8)
      ∧ m' ((c.tc : Thread Cert.MixersIdeal.nD Cert.MixersIdeal.τ).loc Cert.MixersIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v38_0)) (v1 : (c : Dev Cert.ProjIdeal.nD) → Buf (Elt Ideal) ((c.tc : Thread Cert.ProjIdeal.nD Cert.ProjIdeal.τ).loc Cert.ProjIdeal.main_v38_1)) (v2 : (c : Dev Cert.ProjIdeal.nD) → Buf (Elt Ideal) ((c.tc : Thread Cert.ProjIdeal.nD Cert.ProjIdeal.τ).loc Cert.ProjIdeal.main_v38_2)) (v3 : (c : Dev Cert.ProjIdeal.nD) → Buf (Elt Ideal) ((c.tc : Thread Cert.ProjIdeal.nD Cert.ProjIdeal.τ).loc Cert.ProjIdeal.main_v38_3)) (v4 : (c : Dev Cert.ProjIdeal.nD) → Buf (Elt Ideal) ((c.tc : Thread Cert.ProjIdeal.nD Cert.ProjIdeal.τ).loc Cert.ProjIdeal.main_v38_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v38_0) = v0 c
          ∧ r.2.mem ((c.tc : Thread Cert.ProjIdeal.nD Cert.ProjIdeal.τ).loc Cert.ProjIdeal.main_v38_1) = v1 c
          ∧ r.2.mem ((c.tc : Thread Cert.ProjIdeal.nD Cert.ProjIdeal.τ).loc Cert.ProjIdeal.main_v38_2) = v2 c
          ∧ r.2.mem ((c.tc : Thread Cert.ProjIdeal.nD Cert.ProjIdeal.τ).loc Cert.ProjIdeal.main_v38_3) = v3 c
          ∧ r.2.mem ((c.tc : Thread Cert.ProjIdeal.nD Cert.ProjIdeal.τ).loc Cert.ProjIdeal.main_v38_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.MixersIdeal.defs (F := Ideal)) (onTc (τ := Cert.MixersIdeal.τ) (Cert.MixersIdeal.main (F := Ideal))) ⟨m', fun _ => 0, g'⟩ (fun r => ∀ c : Dev Cert.MixersIdeal.nD,
          r.2.mem ((c.tc : Thread Cert.MixersIdeal.nD Cert.MixersIdeal.τ).loc Cert.MixersIdeal.main_v174) = v0 c
          ∧ r.2.mem ((c.tc : Thread Cert.MixersIdeal.nD Cert.MixersIdeal.τ).loc Cert.MixersIdeal.main_v176) = v1 c
          ∧ r.2.mem ((c.tc : Thread Cert.MixersIdeal.nD Cert.MixersIdeal.τ).loc Cert.MixersIdeal.main_v177) = v2 c
          ∧ r.2.mem ((c.tc : Thread Cert.MixersIdeal.nD Cert.MixersIdeal.τ).loc Cert.MixersIdeal.main_v179) = v3 c
          ∧ r.2.mem ((c.tc : Thread Cert.MixersIdeal.nD Cert.MixersIdeal.τ).loc Cert.MixersIdeal.main_v180) = v4 c
          ∧ r.2.mem ((c.tc : Thread Cert.MixersIdeal.nD Cert.MixersIdeal.τ).loc Cert.MixersIdeal.main_arg0) = m' ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m' ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m' ((c.tc : Thread Cert.MixersIdeal.nD Cert.MixersIdeal.τ).loc Cert.MixersIdeal.main_arg2)
          ∧ r.2.mem ((c.tc : Thread Cert.MixersIdeal.nD Cert.MixersIdeal.τ).loc Cert.MixersIdeal.main_arg3) = m' ((c.tc : Thread Cert.MixersIdeal.nD Cert.MixersIdeal.τ).loc Cert.MixersIdeal.main_arg3)
          ∧ r.2.mem ((c.tc : Thread Cert.MixersIdeal.nD Cert.MixersIdeal.τ).loc Cert.MixersIdeal.main_arg4) = m' ((c.tc : Thread Cert.MixersIdeal.nD Cert.MixersIdeal.τ).loc Cert.MixersIdeal.main_arg4)
          ∧ r.2.mem ((c.tc : Thread Cert.MixersIdeal.nD Cert.MixersIdeal.τ).loc Cert.MixersIdeal.main_arg5) = m' ((c.tc : Thread Cert.MixersIdeal.nD Cert.MixersIdeal.τ).loc Cert.MixersIdeal.main_arg5)
          ∧ r.2.mem ((c.tc : Thread Cert.MixersIdeal.nD Cert.MixersIdeal.τ).loc Cert.MixersIdeal.main_arg6) = m' ((c.tc : Thread Cert.MixersIdeal.nD Cert.MixersIdeal.τ).loc Cert.MixersIdeal.main_arg6)
          ∧ r.2.mem ((c.tc : Thread Cert.MixersIdeal.nD Cert.MixersIdeal.τ).loc Cert.MixersIdeal.main_arg7) = m' ((c.tc : Thread Cert.MixersIdeal.nD Cert.MixersIdeal.τ).loc Cert.MixersIdeal.main_arg7)
          ∧ r.2.mem ((c.tc : Thread Cert.MixersIdeal.nD Cert.MixersIdeal.τ).loc Cert.MixersIdeal.main_arg8) = m' ((c.tc : Thread Cert.MixersIdeal.nD Cert.MixersIdeal.τ).loc Cert.MixersIdeal.main_arg8)
          ∧ r.2.mem ((c.tc : Thread Cert.MixersIdeal.nD Cert.MixersIdeal.τ).loc Cert.MixersIdeal.main_arg9) = m' ((c.tc : Thread Cert.MixersIdeal.nD Cert.MixersIdeal.τ).loc Cert.MixersIdeal.main_arg9))

def preserves_Out_OutIdeal : Prop :=
  True

def algebraic_OutIdeal_TailIdeal_pre_finite_lse [hOutIdeal : Cert.OutIdeal.Facts] [hTailIdeal : Cert.TailIdeal.Facts] [hPre_finite_lse : Cert.Pre_finite_lse.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.TailIdeal.nD Cert.TailIdeal.τ Cert.TailIdeal.sig) → Buf (Elt Ideal) ℓ) (g' : Dev Cert.TailIdeal.nD → PrngReg), Pre_OutIdeal_finite_lse m →
    (∀ c : Dev Cert.OutIdeal.nD,
      m' ((c.tc : Thread Cert.TailIdeal.nD Cert.TailIdeal.τ).loc Cert.TailIdeal.main_arg0) = m ((c.tc : Thread Cert.OutIdeal.nD Cert.OutIdeal.τ).loc Cert.OutIdeal.main_arg0)
      ∧ m' ((c.tc : Thread Cert.TailIdeal.nD Cert.TailIdeal.τ).loc Cert.TailIdeal.main_arg1) = m ((c.tc : Thread Cert.OutIdeal.nD Cert.OutIdeal.τ).loc Cert.OutIdeal.main_arg1)
      ∧ m' ((c.tc : Thread Cert.TailIdeal.nD Cert.TailIdeal.τ).loc Cert.TailIdeal.main_arg2) = m ((c.tc : Thread Cert.OutIdeal.nD Cert.OutIdeal.τ).loc Cert.OutIdeal.main_arg2)
      ∧ m' ((c.tc : Thread Cert.TailIdeal.nD Cert.TailIdeal.τ).loc Cert.TailIdeal.main_arg3) = m ((c.tc : Thread Cert.OutIdeal.nD Cert.OutIdeal.τ).loc Cert.OutIdeal.main_arg3)
      ∧ m' ((c.tc : Thread Cert.TailIdeal.nD Cert.TailIdeal.τ).loc Cert.TailIdeal.main_arg4) = m ((c.tc : Thread Cert.OutIdeal.nD Cert.OutIdeal.τ).loc Cert.OutIdeal.main_arg4)
      ∧ m' ((c.tc : Thread Cert.TailIdeal.nD Cert.TailIdeal.τ).loc Cert.TailIdeal.main_arg5) = m ((c.tc : Thread Cert.OutIdeal.nD Cert.OutIdeal.τ).loc Cert.OutIdeal.main_arg5)
      ∧ m' ((c.tc : Thread Cert.TailIdeal.nD Cert.TailIdeal.τ).loc Cert.TailIdeal.main_arg6) = m ((c.tc : Thread Cert.OutIdeal.nD Cert.OutIdeal.τ).loc Cert.OutIdeal.main_arg6)
      ∧ m' ((c.tc : Thread Cert.TailIdeal.nD Cert.TailIdeal.τ).loc Cert.TailIdeal.main_arg7) = m ((c.tc : Thread Cert.OutIdeal.nD Cert.OutIdeal.τ).loc Cert.OutIdeal.main_arg7)
      ∧ m' ((c.tc : Thread Cert.TailIdeal.nD Cert.TailIdeal.τ).loc Cert.TailIdeal.main_arg8) = m ((c.tc : Thread Cert.OutIdeal.nD Cert.OutIdeal.τ).loc Cert.OutIdeal.main_arg8)
      ∧ m' ((c.tc : Thread Cert.TailIdeal.nD Cert.TailIdeal.τ).loc Cert.TailIdeal.main_arg9) = m ((c.tc : Thread Cert.OutIdeal.nD Cert.OutIdeal.τ).loc Cert.OutIdeal.main_arg9)
      ∧ m' ((c.tc : Thread Cert.TailIdeal.nD Cert.TailIdeal.τ).loc Cert.TailIdeal.main_arg10) = m ((c.tc : Thread Cert.OutIdeal.nD Cert.OutIdeal.τ).loc Cert.OutIdeal.main_arg10)
      ∧ m' ((c.tc : Thread Cert.TailIdeal.nD Cert.TailIdeal.τ).loc Cert.TailIdeal.main_arg11) = m ((c.tc : Thread Cert.OutIdeal.nD Cert.OutIdeal.τ).loc Cert.OutIdeal.main_arg11)
      ∧ m' ((c.tc : Thread Cert.TailIdeal.nD Cert.TailIdeal.τ).loc Cert.TailIdeal.main_arg12) = m ((c.tc : Thread Cert.OutIdeal.nD Cert.OutIdeal.τ).loc Cert.OutIdeal.main_arg12)
      ∧ m' ((c.tc : Thread Cert.TailIdeal.nD Cert.TailIdeal.τ).loc Cert.TailIdeal.main_arg13) = m ((c.tc : Thread Cert.OutIdeal.nD Cert.OutIdeal.τ).loc Cert.OutIdeal.main_arg13)
      ∧ m' ((c.tc : Thread Cert.TailIdeal.nD Cert.TailIdeal.τ).loc Cert.TailIdeal.main_arg14) = m ((c.tc : Thread Cert.OutIdeal.nD Cert.OutIdeal.τ).loc Cert.OutIdeal.main_arg14)) →
    ∃ (v0 : (c : Dev Cert.OutIdeal.nD) → Buf (Elt Ideal) ((c.tc : Thread Cert.OutIdeal.nD Cert.OutIdeal.τ).loc Cert.OutIdeal.main_v34)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v34) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
          ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
          ∧ r.2.mem ((c.tc : Thread Cert.OutIdeal.nD Cert.OutIdeal.τ).loc Cert.OutIdeal.main_arg14) = m ((c.tc : Thread Cert.OutIdeal.nD Cert.OutIdeal.τ).loc Cert.OutIdeal.main_arg14))
      ∧ θ_run (Cert.TailIdeal.defs (F := Ideal)) (onTc (τ := Cert.TailIdeal.τ) (Cert.TailIdeal.main (F := Ideal))) ⟨m', fun _ => 0, g'⟩ (fun r => ∀ c : Dev Cert.TailIdeal.nD,
          r.2.mem ((c.tc : Thread Cert.TailIdeal.nD Cert.TailIdeal.τ).loc Cert.TailIdeal.main_v76) = v0 c
          ∧ r.2.mem ((c.tc : Thread Cert.TailIdeal.nD Cert.TailIdeal.τ).loc Cert.TailIdeal.main_arg0) = m' ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m' ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m' ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m' ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m' ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m' ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m' ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m' ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m' ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m' ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m' ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m' ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m' ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m' ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m' ((c.tc : Thread Cert.TailIdeal.nD Cert.TailIdeal.τ).loc Cert.TailIdeal.main_arg14))

def Claim : Prop :=
  ∃ (hAttn1 : Cert.Attn1.Facts) (hAttn1Ideal : Cert.Attn1Ideal.Facts) (hBranch1Ideal : Cert.Branch1Ideal.Facts) (hProj : Cert.Proj.Facts) (hProjIdeal : Cert.ProjIdeal.Facts) (hMixersIdeal : Cert.MixersIdeal.Facts) (hOut : Cert.Out.Facts) (hOutIdeal : Cert.OutIdeal.Facts) (hTailIdeal : Cert.TailIdeal.Facts) (hPre_finite_qk : Cert.Pre_finite_qk.Facts) (hPre_finite_lse : Cert.Pre_finite_lse.Facts),
    quiescent_Attn1 (hAttn1 := hAttn1)
    ∧ quiescent_Attn1Ideal (hAttn1Ideal := hAttn1Ideal)
    ∧ quiescent_Attn1Ideal_pre_finite_qk (hAttn1Ideal := hAttn1Ideal) (hPre_finite_qk := hPre_finite_qk)
    ∧ quiescent_Branch1Ideal (hBranch1Ideal := hBranch1Ideal)
    ∧ quiescent_Branch1Ideal_pre_finite_qk (hBranch1Ideal := hBranch1Ideal) (hPre_finite_qk := hPre_finite_qk)
    ∧ quiescent_Proj (hProj := hProj)
    ∧ quiescent_ProjIdeal (hProjIdeal := hProjIdeal)
    ∧ quiescent_MixersIdeal (hMixersIdeal := hMixersIdeal)
    ∧ quiescent_Out (hOut := hOut)
    ∧ quiescent_OutIdeal (hOutIdeal := hOutIdeal)
    ∧ quiescent_OutIdeal_pre_finite_lse (hOutIdeal := hOutIdeal) (hPre_finite_lse := hPre_finite_lse)
    ∧ quiescent_TailIdeal (hTailIdeal := hTailIdeal)
    ∧ quiescent_TailIdeal_pre_finite_lse (hTailIdeal := hTailIdeal) (hPre_finite_lse := hPre_finite_lse)
    ∧ preserves_Attn1_Attn1Ideal
    ∧ algebraic_Attn1Ideal_Branch1Ideal_pre_finite_qk (hAttn1Ideal := hAttn1Ideal) (hBranch1Ideal := hBranch1Ideal) (hPre_finite_qk := hPre_finite_qk)
    ∧ preserves_Proj_ProjIdeal
    ∧ algebraic_ProjIdeal_MixersIdeal (hProjIdeal := hProjIdeal) (hMixersIdeal := hMixersIdeal)
    ∧ preserves_Out_OutIdeal
    ∧ algebraic_OutIdeal_TailIdeal_pre_finite_lse (hOutIdeal := hOutIdeal) (hTailIdeal := hTailIdeal) (hPre_finite_lse := hPre_finite_lse)
-- ==== Pre_finite_lse.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x8192x128 : Shape := ⟨3, ![4, 8192, 128]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel

variable [Facts]

def fn {F : FTy → Type} [FloatOps F] (main_arg0 : FVec F S4x8192x1024 .f32) (main_arg1 : FVec F S4x8192x256 .f32) (main_arg2 : FVec F S4x8192x512 .bf16) (main_arg3 : FVec F S4x8192x512 .bf16) (main_arg4 : FVec F S4x8192x512 .bf16) (main_arg5 : FVec F S4x8192x128 .f32) (main_arg6 : FVec F S4x8192x128 .f32) (main_arg7 : FVec F S4x8192x128 .f32) (main_arg8 : FVec F S4x8192x512 .bf16) (main_arg9 : FVec F S4x8192x512 .bf16) (main_arg10 : FVec F S1024x1024 .f32) (main_arg11 : FVec F S1024 .f32) (main_arg12 : FVec F S1024x1024 .f32) (main_arg13 : FVec F S1024 .f32) (main_arg14 : FVec F S256x1024 .f32) : IVec S_ 1 :=
  let main_v0 : FVec F S4x8192x128 .f32 := Host.absf main_arg5
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S4x8192x128 .f32 := Host.absf main_arg6
  let main_cst_0 : FVec F S_ .f32 := constant S_ .f32 0x7F800000#32
  let main_v5 : FVec F S4x8192x128 .f32 := broadcastInDim S4x8192x128 ![] bcast_S_S4x8192x128 main_cst_0
  let main_v6 : IVec S4x8192x128 1 := cmpf .olt main_v4 main_v5
  let main_c_1 : IVec S_ 1 := constantI S_ 1 1#1
  let main_v7 : IVec S_ 1 := (fun x v => Host.reduce IntOp.andi x v reducesTo_S4x8192x128_S_d0_1_2 h_S_) main_v6 main_c_1
  let main_v8 : IVec S_ 1 := andi main_v3 main_v7
  let main_v9 : FVec F S4x8192x128 .f32 := Host.absf main_arg7
  let main_cst_2 : FVec F S_ .f32 := constant S_ .f32 0x7F800000#32
  let main_v10 : FVec F S4x8192x128 .f32 := broadcastInDim S4x8192x128 ![] bcast_S_S4x8192x128 main_cst_2
  let main_v11 : IVec S4x8192x128 1 := cmpf .olt main_v9 main_v10
  let main_c_3 : IVec S_ 1 := constantI S_ 1 1#1
  let main_v12 : IVec S_ 1 := (fun x v => Host.reduce IntOp.andi x v reducesTo_S4x8192x128_S_d0_1_2 h_S_) main_v11 main_c_3
  let main_v13 : IVec S_ 1 := andi main_v8 main_v12
  main_v13
-- ==== Pre_finite_qk.lean ====
abbrev S4x8192x512 : Shape := ⟨3, ![4, 8192, 512]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel

variable [Facts]

def fn {F : FTy → Type} [FloatOps F] (main_arg0 : FVec F S4x8192x512 .bf16) (main_arg1 : FVec F S4x8192x512 .bf16) (main_arg2 : FVec F S4x8192x512 .bf16) : IVec S_ 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_c : IVec S_ 1 := constantI S_ 1 1#1
  let main_v4 : IVec S_ 1 := (fun x v => Host.reduce IntOp.andi x v reducesTo_S4x8192x512_S_d0_1_2 h_S_) main_v3 main_c
  let main_v5 : FVec F S4x8192x512 .f32 := (extf .f32 · bitsLt_bf16_f32) main_arg1
  let main_v6 : FVec F S4x8192x512 .f32 := Host.absf main_v5
  let main_cst_0 : FVec F S_ .f32 := constant S_ .f32 0x7F800000#32
  let main_v7 : FVec F S4x8192x512 .f32 := broadcastInDim S4x8192x512 ![] bcast_S_S4x8192x512 main_cst_0
  let main_v8 : IVec S4x8192x512 1 := cmpf .olt main_v6 main_v7
  let main_c_1 : IVec S_ 1 := constantI S_ 1 1#1
  let main_v9 : IVec S_ 1 := (fun x v => Host.reduce IntOp.andi x v reducesTo_S4x8192x512_S_d0_1_2 h_S_) main_v8 main_c_1
  let main_v10 : IVec S_ 1 := andi main_v4 main_v9
  main_v10
-- ==== Attn1.lean ====
abbrev S4x8192x512 : Shape := ⟨3, ![4, 8192, 512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S2x128x256 : Shape := ⟨3, ![2, 128, 256]⟩
abbrev S2x256x256 : Shape := ⟨3, ![2, 256, 256]⟩
abbrev S4x8192x128 : Shape := ⟨3, ![4, 8192, 128]⟩
abbrev S1x512x512 : Shape := ⟨3, ![1, 512, 512]⟩
abbrev S1x128x512 : Shape := ⟨3, ![1, 128, 512]⟩
abbrev S1x512x128 : Shape := ⟨3, ![1, 512, 128]⟩
abbrev S1x128 : Shape := ⟨2, ![1, 128]⟩
abbrev S1x256x256 : Shape := ⟨3, ![1, 256, 256]⟩
abbrev S256x256 : Shape := ⟨2, ![256, 256]⟩
abbrev S1x128x128 : Shape := ⟨3, ![1, 128, 128]⟩
abbrev S128x128 : Shape := ⟨2, ![128, 128]⟩
abbrev S256x128 : Shape := ⟨2, ![256, 128]⟩
abbrev S256x1 : Shape := ⟨2, ![256, 1]⟩
abbrev S128x512 : Shape := ⟨2, ![128, 512]⟩
abbrev S512x256 : Shape := ⟨2, ![512, 256]⟩
abbrev S1x256x128 : Shape := ⟨3, ![1, 256, 128]⟩

abbrev nBuf : Space → Nat
  | .hbm => 37
  | .vmem => 15
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S_, .i32⟩
  | .hbm, ⟨21, _⟩ => ⟨S1x256, .i32⟩
  | .hbm, ⟨22, _⟩ => ⟨S1x256, .i1⟩
  | .hbm, ⟨23, _⟩ => ⟨S128x256, .i1⟩
  | .hbm, ⟨24, _⟩ => ⟨S128x256, .i1⟩
  | .hbm, ⟨25, _⟩ => ⟨S1x128x256, .i1⟩
  | .hbm, ⟨26, _⟩ => ⟨S1x128x256, .i1⟩
  | .hbm, ⟨27, _⟩ => ⟨S2x128x256, .i1⟩
  | .hbm, ⟨28, _⟩ => ⟨S_, .f32⟩
  | .hbm, ⟨29, _⟩ => ⟨S_, .f32⟩
  | .hbm, ⟨30, _⟩ => ⟨S2x128x256, .f32⟩
  | .hbm, ⟨31, _⟩ => ⟨S2x128x256, .f32⟩
  | .hbm, ⟨32, _⟩ => ⟨S2x128x256, .f32⟩
  | .hbm, ⟨33, _⟩ => ⟨S2x128x256, .f32⟩
  | .hbm, ⟨34, _⟩ => ⟨S2x256x256, .f32⟩
  | .hbm, ⟨35, _⟩ => ⟨S4x8192x512, .bf16⟩
  | .hbm, ⟨36, _⟩ => ⟨S4x8192x128, .f32⟩
  | .local _ .vmem, ⟨0, _⟩ => ⟨S2x256x256, .f32⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x128, .f32⟩
  | .local _ .vmem, ⟨14, _⟩ => ⟨S1x512x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 16, 1], ![false, false, false]⟩

def k0_off1 (i : grid0.Coords) : Fin 3 → Nat :=
  let arg1 : BitVec 32 := BitVec.ofNat 32 (i 1).val
  let c0_i32 : BitVec 32 := 0#32
  let v0 : BitVec 1 := Scalar.cmpi .eq arg1 c0_i32
  let v1 : BitVec 32 := Scalar.extui v0
  let v50 : Index := Scalar.indexCast v1
  let c0 : Index := 0#32
  let c0_10 : Index := 0#32
  ![v50.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Branch1Ideal.lean ====
abbrev S4x8192x512 : Shape := ⟨3, ![4, 8192, 512]⟩
abbrev S4x8192x8x64 : Shape := ⟨4, ![4, 8192, 8, 64]⟩
abbrev S4x8192x1x8x64 : Shape := ⟨5, ![4, 8192, 1, 8, 64]⟩
abbrev S4x1x8192x8x64 : Shape := ⟨5, ![4, 1, 8192, 8, 64]⟩
abbrev S4x64x128x8x64 : Shape := ⟨5, ![4, 64, 128, 8, 64]⟩
abbrev S_ : Shape := ⟨0, ![]⟩
abbrev S4x65x128x8x64 : Shape := ⟨5, ![4, 65, 128, 8, 64]⟩
abbrev S4x64x256x8x64 : Shape := ⟨5, ![4, 64, 256, 8, 64]⟩
abbrev S4x64x8x128x256 : Shape := ⟨5, ![4, 64, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x128x256 : Shape := ⟨5, ![1, 64, 1, 128, 256]⟩
abbrev S4x64x8x128 : Shape := ⟨4, ![4, 64, 8, 128]⟩
abbrev S4x64x8x128x1 : Shape := ⟨5, ![4, 64, 8, 128, 1]⟩
abbrev S4x64x8x64x128 : Shape := ⟨5, ![4, 64, 8, 64, 128]⟩
abbrev S4x64x128x8 : Shape := ⟨4, ![4, 64, 128, 8]⟩
abbrev S4x8192x8 : Shape := ⟨3, ![4, 8192, 8]⟩
abbrev S4x1x8192x8 : Shape := ⟨4, ![4, 1, 8192, 8]⟩
abbrev S4x8192x1x8 : Shape := ⟨4, ![4, 8192, 1, 8]⟩
abbrev S4x8192x4x2 : Shape := ⟨4, ![4, 8192, 4, 2]⟩
abbrev S4x8192x2x4 : Shape := ⟨4, ![4, 8192, 2, 4]⟩
abbrev S4x8192x8x1 : Shape := ⟨4, ![4, 8192, 8, 1]⟩
abbrev S4x8192x8x16 : Shape := ⟨4, ![4, 8192, 8, 16]⟩
abbrev S4x8192x128 : Shape := ⟨3, ![4, 8192, 128]⟩

abbrev nBuf : Space → Nat
  | .hbm => 109
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .f32⟩
  | .hbm, ⟨4, _⟩ => ⟨S4x8192x8x64, .f32⟩
  | .hbm, ⟨5, _⟩ => ⟨S4x8192x512, .f32⟩
  | .hbm, ⟨6, _⟩ => ⟨S4x8192x8x64, .f32⟩
  | .hbm, ⟨7, _⟩ => ⟨S4x8192x512, .f32⟩
  | .hbm, ⟨8, _⟩ => ⟨S4x8192x8x64, .f32⟩
  | .hbm, ⟨9, _⟩ => ⟨S4x8192x1x8x64, .f32⟩
  | .hbm, ⟨10, _⟩ => ⟨S4x1x8192x8x64, .f32⟩
  | .hbm, ⟨11, _⟩ => ⟨S4x8192x8x64, .f32⟩
  | .hbm, ⟨12, _⟩ => ⟨S4x64x128x8x64, .f32⟩
  | .hbm, ⟨13, _⟩ => ⟨S4x8192x1x8x64, .f32⟩
  | .hbm, ⟨14, _⟩ => ⟨S4x1x8192x8x64, .f32⟩
  | .hbm, ⟨15, _⟩ => ⟨S4x8192x8x64, .f32⟩
  | .hbm, ⟨16, _⟩ => ⟨S4x64x128x8x64, .f32⟩
  | .hbm, ⟨17, _⟩ => ⟨S4x8192x1x8x64, .f32⟩
  | .hbm, ⟨18, _⟩ => ⟨S4x1x8192x8x64, .f32⟩
  | .hbm, ⟨19, _⟩ => ⟨S4x8192x8x64, .f32⟩
  | .hbm, ⟨20, _⟩ => ⟨S4x64x128x8x64, .f32⟩
  | .hbm, ⟨21, _⟩ => ⟨S_, .i32⟩
  | .hbm, ⟨22, _⟩ => ⟨S_, .f32⟩
  | .hbm, ⟨23, _⟩ => ⟨S4x65x128x8x64, .f32⟩
  | .hbm, ⟨24, _⟩ => ⟨S4x64x128x8x64, .f32⟩
  | .hbm, ⟨25, _⟩ => ⟨S_, .i32⟩
  | .hbm, ⟨26, _⟩ => ⟨S_, .f32⟩
  | .hbm, ⟨27, _⟩ => ⟨S4x65x128x8x64, .f32⟩
  | .hbm, ⟨28, _⟩ => ⟨S4x64x128x8x64, .f32⟩
  | .hbm, ⟨29, _⟩ => ⟨S4x64x256x8x64, .f32⟩
  | .hbm, ⟨30, _⟩ => ⟨S4x64x256x8x64, .f32⟩
  | .hbm, ⟨31, _⟩ => ⟨S4x64x8x128x256, .f32⟩
  | .hbm, ⟨32, _⟩ => ⟨S128, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i1⟩
  | .hbm, ⟨49, _⟩ => ⟨S64, .i32⟩
  | .hbm, ⟨50, _⟩ => ⟨S64x1, .i32⟩
  | .hbm, ⟨51, _⟩ => ⟨S_, .i32⟩
  | .hbm, ⟨52, _⟩ => ⟨S64x1, .i32⟩
  | .hbm, ⟨53, _⟩ => ⟨S64x1, .i32⟩
  | .hbm, ⟨54, _⟩ => ⟨S_, .i32⟩
  | .hbm, ⟨55, _⟩ => ⟨S64x1, .i32⟩
  | .hbm, ⟨56, _⟩ => ⟨S64x1, .i32⟩
  | .hbm, ⟨57, _⟩ => ⟨S256, .i32⟩
  | .hbm, ⟨58, _⟩ => ⟨S1x256, .i32⟩
  | .hbm, ⟨59, _⟩ => ⟨S64x256, .i32⟩
  | .hbm, ⟨60, _⟩ => ⟨S64x256, .i32⟩
  | .hbm, ⟨61, _⟩ => ⟨S64x256, .i32⟩
  | .hbm, ⟨62, _⟩ => ⟨S1x128x256, .i1⟩
  | .hbm, ⟨63, _⟩ => ⟨S_, .i32⟩
  | .hbm, ⟨64, _⟩ => ⟨S64x256, .i32⟩
  | .hbm, ⟨65, _⟩ => ⟨S64x256, .i1⟩
  | .hbm, ⟨66, _⟩ => ⟨S64x1x256, .i1⟩
  | .hbm, ⟨67, _⟩ => ⟨S64x128x256, .i1⟩
  | .hbm, ⟨68, _⟩ => ⟨S64x128x256, .i1⟩
  | .hbm, ⟨69, _⟩ => ⟨S64x128x256, .i1⟩
  | .hbm, ⟨70, _⟩ => ⟨S1x64x1x128x256, .i1⟩
  | .hbm, ⟨71, _⟩ => ⟨S_, .f32⟩
  | .hbm, ⟨72, _⟩ => ⟨S_, .f32⟩
  | .hbm, ⟨73, _⟩ => ⟨S4x64x8x128x256, .i1⟩
  | .hbm, ⟨74, _⟩ => ⟨S4x64x8x128x256, .f32⟩
  | .hbm, ⟨75, _⟩ => ⟨S4x64x8x128x256, .f32⟩
  | .hbm, ⟨76, _⟩ => ⟨S_, .f32⟩
  | .hbm, ⟨77, _⟩ => ⟨S4x64x8x128, .f32⟩
  | .hbm, ⟨78, _⟩ => ⟨S4x64x8x128x1, .f32⟩
  | .hbm, ⟨79, _⟩ => ⟨S4x64x8x128x256, .f32⟩
  | .hbm, ⟨80, _⟩ => ⟨S4x64x8x128x256, .f32⟩
  | .hbm, ⟨81, _⟩ => ⟨S4x64x8x128x256, .f32⟩
  | .hbm, ⟨82, _⟩ => ⟨S_, .f32⟩
  | .hbm, ⟨83, _⟩ => ⟨S4x64x8x128, .f32⟩
  | .hbm, ⟨84, _⟩ => ⟨S4x64x8x128x1, .f32⟩
  | .hbm, ⟨85, _⟩ => ⟨S4x64x8x128x256, .f32⟩
  | .hbm, ⟨86, _⟩ => ⟨S4x64x8x128x256, .f32⟩
  | .hbm, ⟨87, _⟩ => ⟨S4x64x8x64x128, .f32⟩
  | .hbm, ⟨88, _⟩ => ⟨S4x64x128x8x64, .f32⟩
  | .hbm, ⟨89, _⟩ => ⟨S4x64x8x128x1, .f32⟩
  | .hbm, ⟨90, _⟩ => ⟨S4x64x8x128x1, .f32⟩
  | .hbm, ⟨91, _⟩ => ⟨S4x64x8x128, .f32⟩
  | .hbm, ⟨92, _⟩ => ⟨S4x64x128x8, .f32⟩
  | .hbm, ⟨93, _⟩ => ⟨S4x8192x8, .f32⟩
  | .hbm, ⟨94, _⟩ => ⟨S4x8192x8x64, .f32⟩
  | .hbm, ⟨95, _⟩ => ⟨S4x1x8192x8x64, .f32⟩
  | .hbm, ⟨96, _⟩ => ⟨S4x8192x1x8x64, .f32⟩
  | .hbm, ⟨97, _⟩ => ⟨S4x8192x8x64, .f32⟩
  | .hbm, ⟨98, _⟩ => ⟨S4x1x8192x8, .f32⟩
  | .hbm, ⟨99, _⟩ => ⟨S4x8192x1x8, .f32⟩
  | .hbm, ⟨100, _⟩ => ⟨S4x8192x8, .f32⟩
  | .hbm, ⟨101, _⟩ => ⟨S4x8192x4x2, .f32⟩
  | .hbm, ⟨102, _⟩ => ⟨S4x8192x2x4, .f32⟩
  | .hbm, ⟨103, _⟩ => ⟨S4x8192x8, .f32⟩
  | .hbm, ⟨104, _⟩ => ⟨S4x8192x8x1, .f32⟩
  | .hbm, ⟨105, _⟩ => ⟨S4x8192x8x16, .f32⟩
  | .hbm, ⟨106, _⟩ => ⟨S4x8192x8x64, .bf16⟩
  | .hbm, ⟨107, _⟩ => ⟨S4x8192x512, .bf16⟩
  | .hbm, ⟨108, _⟩ => ⟨S4x8192x128, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_call1_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_2 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩

abbrev nD : Nat := 1
abbrev τ : Topo := Topo.v7x

variable {F : FTy → Type} [FloatOps F]
-- ==== Proj.lean ====
abbrev S4x8192x1024 : Shape := ⟨3, ![4, 8192, 1024]⟩
abbrev S4x8192 : Shape := ⟨2, ![4, 8192]⟩
abbrev S1024 : Shape := ⟨1, ![1024]⟩
abbrev S1024x3584 : Shape := ⟨2, ![1024, 3584]⟩
abbrev S64 : Shape := ⟨1, ![64]⟩
abbrev S4x128x128 : Shape := ⟨3, ![4, 128, 128]⟩
abbrev S4x128 : Shape := ⟨2, ![4, 128]⟩
abbrev S512 : Shape := ⟨1, ![512]⟩
abbrev S4x8192x1 : Shape := ⟨3, ![4, 8192, 1]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x1024 : Shape := ⟨2, ![1, 1024]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S128x4 : Shape := ⟨2, ![128, 4]⟩
abbrev S128x4x128 : Shape := ⟨3, ![128, 4, 128]⟩
abbrev S128x512 : Shape := ⟨2, ![128, 512]⟩
abbrev S4x8192x512 : Shape := ⟨3, ![4, 8192, 512]⟩
abbrev S1x512x1024 : Shape := ⟨3, ![1, 512, 1024]⟩
abbrev S1x512x1 : Shape := ⟨3, ![1, 512, 1]⟩
abbrev S1x512x512 : Shape := ⟨3, ![1, 512, 512]⟩
abbrev S512x1024 : Shape := ⟨2, ![512, 1024]⟩
abbrev S512x128 : Shape := ⟨2, ![512, 128]⟩
abbrev S1024x512 : Shape := ⟨2, ![1024, 512]⟩
abbrev S128x128 : Shape := ⟨2, ![128, 128]⟩
abbrev S1x128x128 : Shape := ⟨3, ![1, 128, 128]⟩
abbrev S1x128x512 : Shape := ⟨3, ![1, 128, 512]⟩

abbrev nBuf : Space → Nat
  | .hbm => 73
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S1024, .f32⟩
  | .hbm, ⟨3, _⟩ => ⟨S1024x3584, .f32⟩
  | .hbm, ⟨4, _⟩ => ⟨S64, .f32⟩
  | .hbm, ⟨5, _⟩ => ⟨S64, .f32⟩
  | .hbm, ⟨6, _⟩ => ⟨S4x128x128, .f32⟩
  | .hbm, ⟨7, _⟩ => ⟨S4x128, .f32⟩
  | .hbm, ⟨8, _⟩ => ⟨S512, .f32⟩
  | .hbm, ⟨9, _⟩ => ⟨S512, .f32⟩
  | .hbm, ⟨10, _⟩ => ⟨S4x8192, .f32⟩
  | .hbm, ⟨11, _⟩ => ⟨S4x8192x1, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S1x128, .f32⟩
  | .hbm, ⟨24, _⟩ => ⟨S1x1024, .f32⟩
  | .hbm, ⟨25, _⟩ => ⟨S1024x3584, .bf16⟩
  | .hbm, ⟨26, _⟩ => ⟨S512, .i32⟩
  | .hbm, ⟨27, _⟩ => ⟨S_, .i32⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S512, .i32⟩
  | .hbm, ⟨36, _⟩ => ⟨S512, .i32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S512, .i1⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S512x1, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S512x512, .f32⟩
  | .hbm, ⟨51, _⟩ => ⟨S_, .f32⟩
  | .hbm, ⟨52, _⟩ => ⟨S512x512, .f32⟩
  | .hbm, ⟨53, _⟩ => ⟨S512x512, .f32⟩
  | .hbm, ⟨54, _⟩ => ⟨S512x512, .bf16⟩
  | .hbm, ⟨55, _⟩ => ⟨S1x64, .f32⟩
  | .hbm, ⟨56, _⟩ => ⟨S8x64, .f32⟩
  | .hbm, ⟨57, _⟩ => ⟨S512, .f32⟩
  | .hbm, ⟨58, _⟩ => ⟨S1x512, .f32⟩
  | .hbm, ⟨59, _⟩ => ⟨S1x64, .f32⟩
  | .hbm, ⟨60, _⟩ => ⟨S8x64, .f32⟩
  | .hbm, ⟨61, _⟩ => ⟨S512, .f32⟩
  | .hbm, ⟨62, _⟩ => ⟨S1x512, .f32⟩
  | .hbm, ⟨63, _⟩ => ⟨S128x4, .f32⟩
  | .hbm, ⟨64, _⟩ => ⟨S128x4x128, .f32⟩
  | .hbm, ⟨65, _⟩ => ⟨S128x512, .f32⟩
  | .hbm, ⟨66, _⟩ => ⟨S1x512, .f32⟩
  | .hbm, ⟨67, _⟩ => ⟨S1x512, .f32⟩
  | .hbm, ⟨68, _⟩ => ⟨S4x8192x512, .bf16⟩
  | .hbm, ⟨69, _⟩ => ⟨S4x8192x512, .bf16⟩
  | .hbm, ⟨70, _⟩ => ⟨S4x8192x512, .bf16⟩
  | .hbm, ⟨71, _⟩ => ⟨S4x8192x512, .bf16⟩
  | .hbm, ⟨72, _⟩ => ⟨S4x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1, .f32⟩
  | .local _ .vmem, ⟨3, _⟩ => ⟨S1x512x1, .f32⟩
  | .local _ .vmem, ⟨4, _⟩ => ⟨S1x128, .f32⟩
  | .local _ .vmem, ⟨5, _⟩ => ⟨S1x1024, .f32⟩
  | .local _ .vmem, ⟨6, _⟩ => ⟨S1024x3584, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S4x128x128, .f32⟩
  | .local _ .vmem, ⟨11, _⟩ => ⟨S128x512, .f32⟩
  | .local _ .vmem, ⟨12, _⟩ => ⟨S1x512, .f32⟩
  | .local _ .vmem, ⟨13, _⟩ => ⟨S1x512, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_1 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38_0 : Ref sig .tc := ⟨.hbm, 68, rfl⟩
abbrev main_v38_1 : Ref sig .tc := ⟨.hbm, 69, rfl⟩
abbrev main_v38_2 : Ref sig .tc := ⟨.hbm, 70, rfl⟩
abbrev main_v38_3 : Ref sig .tc := ⟨.hbm, 71, rfl⟩
abbrev main_v38_4 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MixersIdeal.lean ====
abbrev S4x8192x1024 : Shape := ⟨3, ![4, 8192, 1024]⟩
abbrev S4x8192 : Shape := ⟨2, ![4, 8192]⟩
abbrev S1024 : Shape := ⟨1, ![1024]⟩
abbrev S1024x3584 : Shape := ⟨2, ![1024, 3584]⟩
abbrev S64 : Shape := ⟨1, ![64]⟩
abbrev S4x128x128 : Shape := ⟨3, ![4, 128, 128]⟩
abbrev S4x128 : Shape := ⟨2, ![4, 128]⟩
abbrev S512 : Shape := ⟨1, ![512]⟩
abbrev S_ : Shape := ⟨0, ![]⟩
abbrev S4x8192x1 : Shape := ⟨3, ![4, 8192, 1]⟩
abbrev S1x1x1024 : Shape := ⟨3, ![1, 1, 1024]⟩
abbrev S4x8192x3584 : Shape := ⟨3, ![4, 8192, 3584]⟩
abbrev S4x8192x512 : Shape := ⟨3, ![4, 8192, 512]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S32 : Shape := ⟨1, ![32]⟩
abbrev S1x1x32 : Shape := ⟨3, ![1, 1, 32]⟩
abbrev S4x8192x32 : Shape := ⟨3, ![4, 8192, 32]⟩
abbrev S4x8192x1x32 : Shape := ⟨4, ![4, 8192, 1, 32]⟩
abbrev S4x8192x8x32 : Shape := ⟨4, ![4, 8192, 8, 32]⟩
abbrev S1x1x512 : Shape := ⟨3, ![1, 1, 512]⟩
abbrev S4x64x128x4x128 : Shape := ⟨5, ![4, 64, 128, 4, 128]⟩
abbrev S128x128 : Shape := ⟨2, ![128, 128]⟩
abbrev S1x128x128 : Shape := ⟨3, ![1, 128, 128]⟩
abbrev S4x4x64x128x128 : Shape := ⟨5, ![4, 4, 64, 128, 128]⟩
abbrev S128x4 : Shape := ⟨2, ![128, 4]⟩
abbrev S1x1x128x4x1 : Shape := ⟨5, ![1, 1, 128, 4, 1]⟩

abbrev nBuf : Space → Nat
  | .hbm => 243
  | .vmem => 0
  | .smem => 0
  | _ => 0

abbrev hbmTy0_0 (i : Nat) : BufTy := match i % 128 with
  | 0 => ⟨S4x8192x1024, .f32⟩
  | 1 => ⟨S4x8192, .i32⟩
  | 2 => ⟨S1024, .f32⟩
  | 3 => ⟨S1024x3584, .f32⟩
  | 4 => ⟨S64, .f32⟩
  | 5 => ⟨S64, .f32⟩
  | 6 => ⟨S4x128x128, .f32⟩
  | 7 => ⟨S4x128, .f32⟩
  | 8 => ⟨S512, .f32⟩
  | 9 => ⟨S512, .f32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S4x8192x3584, .f32⟩
  | 27 => ⟨S4x8192x512, .f32⟩
  | 28 => ⟨S4x8192x512, .f32⟩
  | 29 => ⟨S4x8192x512, .f32⟩
  | 30 => ⟨S4x8192x512, .f32⟩
  | 31 => ⟨S4x8192x512, .f32⟩
  | 32 => ⟨S4x8192x512, .f32⟩
  | 33 => ⟨S4x8192x512, .f32⟩
  | 34 => ⟨S4x8192x8x64, .f32⟩
  | 35 => ⟨S4x8192x8x64, .f32⟩
  | 36 => ⟨S_, .f32⟩
  | 37 => ⟨S4x8192x8, .f32⟩
  | 38 => ⟨S4x8192x8x1, .f32⟩
  | 39 => ⟨S_, .f32⟩
  | 40 => ⟨S4x8192x8x1, .f32⟩
  | 41 => ⟨S4x8192x8x1, .f32⟩
  | 42 => ⟨S_, .f32⟩
  | 43 => ⟨S4x8192x8x1, .f32⟩
  | 44 => ⟨S4x8192x8x1, .f32⟩
  | 45 => ⟨S4x8192x8x1, .f32⟩
  | 46 => ⟨S4x8192x8x64, .f32⟩
  | 47 => ⟨S4x8192x8x64, .f32⟩
  | 48 => ⟨S1x1x1x64, .f32⟩
  | 49 => ⟨S4x8192x8x64, .f32⟩
  | 50 => ⟨S4x8192x8x64, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S32, .f32⟩
  | 59 => ⟨S4x8192, .f32⟩
  | 60 => ⟨S4x8192x1, .f32⟩
  | 61 => ⟨S1x1x32, .f32⟩
  | 62 => ⟨S4x8192x32, .f32⟩
  | 63 => ⟨S4x8192x32, .f32⟩
  | 64 => ⟨S4x8192x32, .f32⟩
  | 65 => ⟨S4x8192x32, .f32⟩
  | 66 => ⟨S4x8192x1x32, .f32⟩
  | 67 => ⟨S4x8192x32, .f32⟩
  | 68 => ⟨S4x8192x1x32, .f32⟩
  | 69 => ⟨S4x8192x8x32, .f32⟩
  | 70 => ⟨S4x8192x8x32, .f32⟩
  | 71 => ⟨S4x8192x8x32, .f32⟩
  | 72 => ⟨S4x8192x8x32, .f32⟩
  | 73 => ⟨S4x8192x8x32, .f32⟩
  | 74 => ⟨S4x8192x8x32, .f32⟩
  | 75 => ⟨S4x8192x8x32, .f32⟩
  | 76 => ⟨S4x8192x8x32, .f32⟩
  | 77 => ⟨S4x8192x8x32, .f32⟩
  | 78 => ⟨S4x8192x8x32, .f32⟩
  | 79 => ⟨S4x8192x8x32, .f32⟩
  | 80 => ⟨S4x8192x8x32, .f32⟩
  | 81 => ⟨S4x8192x8x64, .f32⟩
  | 82 => ⟨S_, .f32⟩
  | 83 => ⟨S4x8192x8x64, .f32⟩
  | 84 => ⟨S4x8192x8x64, .f32⟩
  | 85 => ⟨S4x8192x8x64, .f32⟩
  | 86 => ⟨S4x8192x8x64, .f32⟩
  | 87 => ⟨S_, .f32⟩
  | 88 => ⟨S4x8192x8, .f32⟩
  | 89 => ⟨S4x8192x8x1, .f32⟩
  | 90 => ⟨S_, .f32⟩
  | 91 => ⟨S4x8192x8x1, .f32⟩
  | 92 => ⟨S4x8192x8x1, .f32⟩
  | 93 => ⟨S_, .f32⟩
  | 94 => ⟨S4x8192x8x1, .f32⟩
  | 95 => ⟨S4x8192x8x1, .f32⟩
  | 96 => ⟨S4x8192x8x1, .f32⟩
  | 97 => ⟨S4x8192x8x64, .f32⟩
  | 98 => ⟨S4x8192x8x64, .f32⟩
  | 99 => ⟨S1x1x1x64, .f32⟩
  | 100 => ⟨S4x8192x8x64, .f32⟩
  | 101 => ⟨S4x8192x8x64, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S32, .f32⟩
  | 110 => ⟨S4x8192, .f32⟩
  | 111 => ⟨S4x8192x1, .f32⟩
  | 112 => ⟨S1x1x32, .f32⟩
  | 113 => ⟨S4x8192x32, .f32⟩
  | 114 => ⟨S4x8192x32, .f32⟩
  | 115 => ⟨S4x8192x32, .f32⟩
  | 116 => ⟨S4x8192x32, .f32⟩
  | 117 => ⟨S4x8192x1x32, .f32⟩
  | 118 => ⟨S4x8192x32, .f32⟩
  | 119 => ⟨S4x8192x1x32, .f32⟩
  | 120 => ⟨S4x8192x8x32, .f32⟩
  | 121 => ⟨S4x8192x8x32, .f32⟩
  | 122 => ⟨S4x8192x8x32, .f32⟩
  | 123 => ⟨S4x8192x8x32, .f32⟩
  | 124 => ⟨S4x8192x8x32, .f32⟩
  | 125 => ⟨S4x8192x8x32, .f32⟩
  | 126 => ⟨S4x8192x8x32, .f32⟩
  | 127 => ⟨S4x8192x8x32, .f32⟩
  | _ => ⟨S4x8192x1024, .f32⟩

abbrev hbmTy0_1 (i : Nat) : BufTy := match i % 128 with
  | 0 => ⟨S4x8192x8x32, .f32⟩
  | 1 => ⟨S4x8192x8x32, .f32⟩
  | 2 => ⟨S4x8192x8x32, .f32⟩
  | 3 => ⟨S4x8192x8x32, .f32⟩
  | 4 => ⟨S4x8192x8x64, .f32⟩
  | 5 => ⟨S4x8192x512, .f32⟩
  | 6 => ⟨S4x8192x512, .f32⟩
  | 7 => ⟨S_, .f32⟩
  | 8 => ⟨S4x8192x512, .f32⟩
  | 9 => ⟨S4x8192x512, .f32⟩
  | 10 => ⟨S4x8192x512, .f32⟩
  | 11 => ⟨S_, .f32⟩
  | 12 => ⟨S4x8192x512, .f32⟩
  | 13 => ⟨S4x8192x512, .f32⟩
  | 14 => ⟨S4x8192x512, .f32⟩
  | 15 => ⟨S_, .f32⟩
  | 16 => ⟨S4x8192x512, .f32⟩
  | 17 => ⟨S4x8192x512, .f32⟩
  | 18 => ⟨S_, .f32⟩
  | 19 => ⟨S4x8192x512, .f32⟩
  | 20 => ⟨S4x8192x512, .f32⟩
  | 21 => ⟨S4x8192x512, .f32⟩
  | 22 => ⟨S4x8192x512, .f32⟩
  | 23 => ⟨S4x8192x512, .f32⟩
  | 24 => ⟨S_, .f32⟩
  | 25 => ⟨S4x8192x512, .f32⟩
  | 26 => ⟨S4x8192x512, .f32⟩
  | 27 => ⟨S4x8192x512, .f32⟩
  | 28 => ⟨S_, .f32⟩
  | 29 => ⟨S4x8192x512, .f32⟩
  | 30 => ⟨S4x8192x512, .f32⟩
  | 31 => ⟨S4x8192x512, .f32⟩
  | 32 => ⟨S_, .f32⟩
  | 33 => ⟨S4x8192x512, .f32⟩
  | 34 => ⟨S4x8192x512, .f32⟩
  | 35 => ⟨S_, .f32⟩
  | 36 => ⟨S4x8192x512, .f32⟩
  | 37 => ⟨S4x8192x512, .f32⟩
  | 38 => ⟨S4x8192x512, .f32⟩
  | 39 => ⟨S_, .f32⟩
  | 40 => ⟨S4x8192, .f32⟩
  | 41 => ⟨S4x8192x1, .f32⟩
  | 42 => ⟨S_, .f32⟩
  | 43 => ⟨S4x8192x1, .f32⟩
  | 44 => ⟨S4x8192x1, .f32⟩
  | 45 => ⟨S4x8192x512, .f32⟩
  | 46 => ⟨S4x8192x512, .f32⟩
  | 47 => ⟨S4x8192x512, .f32⟩
  | 48 => ⟨S_, .f32⟩
  | 49 => ⟨S4x8192, .f32⟩
  | 50 => ⟨S4x8192x1, .f32⟩
  | 51 => ⟨S_, .f32⟩
  | 52 => ⟨S4x8192x1, .f32⟩
  | 53 => ⟨S4x8192x1, .f32⟩
  | 54 => ⟨S_, .f32⟩
  | 55 => ⟨S4x8192x1, .f32⟩
  | 56 => ⟨S4x8192x1, .f32⟩
  | 57 => ⟨S4x8192x1, .f32⟩
  | 58 => ⟨S4x8192x512, .f32⟩
  | 59 => ⟨S4x8192x512, .f32⟩
  | 60 => ⟨S1x1x512, .f32⟩
  | 61 => ⟨S4x8192x512, .f32⟩
  | 62 => ⟨S4x8192x512, .f32⟩
  | 63 => ⟨S1x1x512, .f32⟩
  | 64 => ⟨S4x8192x512, .f32⟩
  | 65 => ⟨S4x8192x512, .f32⟩
  | 66 => ⟨S4x64x128x4x128, .f32⟩
  | 67 => ⟨S_, .f32⟩
  | 68 => ⟨S128x128, .f32⟩
  | 69 => ⟨S128x128, .i32⟩
  | 70 => ⟨S_, .i32⟩
  | 71 => ⟨S128x128, .i32⟩
  | 72 => ⟨S128x128, .i32⟩
  | 73 => ⟨S128x128, .i32⟩
  | 74 => ⟨S128x128, .i1⟩
  | 75 => ⟨S_, .f32⟩
  | 76 => ⟨S128x128, .f32⟩
  | 77 => ⟨S128x128, .f32⟩
  | 78 => ⟨S1x128x128, .f32⟩
  | 79 => ⟨S4x128x128, .f32⟩
  | 80 => ⟨S4x128x128, .f32⟩
  | 81 => ⟨S4x4x64x128x128, .f32⟩
  | 82 => ⟨S4x64x128x4x128, .f32⟩
  | 83 => ⟨S128x4, .f32⟩
  | 84 => ⟨S1x1x128x4x1, .f32⟩
  | 85 => ⟨S4x64x128x4x128, .f32⟩
  | 86 => ⟨S4x64x128x4x128, .f32⟩
  | 87 => ⟨S4x8192x512, .f32⟩
  | 88 => ⟨S4x8192x512, .f32⟩
  | 89 => ⟨S4x8192x512, .f32⟩
  | 90 => ⟨S4x8192x512, .f32⟩
  | 91 => ⟨S_, .f32⟩
  | 92 => ⟨S4x8192x512, .f32⟩
  | 93 => ⟨S4x8192x512, .f32⟩
  | 94 => ⟨S_, .f32⟩
  | 95 => ⟨S4x8192x512, .f32⟩
  | 96 => ⟨S4x8192x512, .f32⟩
  | 97 => ⟨S4x8192x512, .f32⟩
  | 98 => ⟨S4x8192x512, .f32⟩
  | 99 => ⟨S4x8192x512, .f32⟩
  | 100 => ⟨S4x8192x512, .bf16⟩
  | 101 => ⟨S4x8192x512, .f32⟩
  | 102 => ⟨S4x8192x512, .bf16⟩
  | 103 => ⟨S4x8192x512, .bf16⟩
  | 104 => ⟨S4x8192x512, .f32⟩
  | 105 => ⟨S4x8192x512, .f32⟩
  | 106 => ⟨S_, .f32⟩
  | 107 => ⟨S4x8192x512, .f32⟩
  | 108 => ⟨S4x8192x512, .f32⟩
  | 109 => ⟨S_, .f32⟩
  | 110 => ⟨S4x8192x512, .f32⟩
  | 111 => ⟨S4x8192x512, .f32⟩
  | 112 => ⟨S4x8192x512, .f32⟩
  | 113 => ⟨S4x8192x512, .bf16⟩
  | 114 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_v82 : Ref sig .tc := ⟨.hbm, 105, rfl⟩
abbrev main_cst_12 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_13 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_14 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_15 : Ref sig .tc := ⟨.hbm, 143, rfl⟩
abbrev main_v117 : Ref sig .tc := ⟨.hbm, 144, rfl⟩
abbrev main_v118 : Ref sig .tc := ⟨.hbm, 145, rfl⟩
abbrev main_cst_16 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_17 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_18 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_19 : Ref sig .tc := ⟨.hbm, 160, rfl⟩
abbrev main_v130 : Ref sig .tc := ⟨.hbm, 161, rfl⟩
abbrev main_v131 : Ref sig .tc := ⟨.hbm, 162, rfl⟩
abbrev main_cst_20 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_21 : Ref sig .tc := ⟨.hbm, 167, rfl⟩
abbrev main_v135 : Ref sig .tc := ⟨.hbm, 168, rfl⟩
abbrev main_v136 : Ref sig .tc := ⟨.hbm, 169, rfl⟩
abbrev main_cst_22 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_23 : Ref sig .tc := ⟨.hbm, 176, rfl⟩
abbrev main_v142 : Ref sig .tc := ⟨.hbm, 177, rfl⟩
abbrev main_v143 : Ref sig .tc := ⟨.hbm, 178, rfl⟩
abbrev main_cst_24 : Ref sig .tc := ⟨.hbm, 179, rfl⟩
abbrev main_v144 : Ref sig .tc := ⟨.hbm, 180, rfl⟩
abbrev main_v145 : Ref sig .tc := ⟨.hbm, 181, rfl⟩
abbrev main_cst_25 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_26 : Ref sig .tc := ⟨.hbm, 195, rfl⟩
abbrev main_v158 : Ref sig .tc := ⟨.hbm, 196, rfl⟩
abbrev main_call0_v0 : Ref sig .tc := ⟨.hbm, 197, rfl⟩
abbrev main_call0_c : Ref sig .tc := ⟨.hbm, 198, rfl⟩
abbrev main_call0_v1 : Ref sig .tc := ⟨.hbm, 199, rfl⟩
abbrev main_call0_v2 : Ref sig .tc := ⟨.hbm, 200, rfl⟩
abbrev main_call0_v3 : Ref sig .tc := ⟨.hbm, 201, rfl⟩
abbrev main_call0_v4 : Ref sig .tc := ⟨.hbm, 202, rfl⟩
abbrev main_call0_cst : Ref sig .tc := ⟨.hbm, 203, rfl⟩
abbrev main_call0_v5 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_call1_v0 : Ref sig .tc := ⟨.hbm, 217, rfl⟩
abbrev main_call1_v1 : Ref sig .tc := ⟨.hbm, 218, rfl⟩
abbrev main_call1_cst : Ref sig .tc := ⟨.hbm, 219, rfl⟩
abbrev main_call1_v2 : Ref sig .tc := ⟨.hbm, 220, rfl⟩
abbrev main_call1_v3 : Ref sig .tc := ⟨.hbm, 221, rfl⟩
abbrev main_call1_cst_0 : Ref sig .tc := ⟨.hbm, 222, rfl⟩
abbrev main_call1_v4 : Ref sig .tc := ⟨.hbm, 223, rfl⟩
abbrev main_call1_v5 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_call2_v0 : Ref sig .tc := ⟨.hbm, 232, rfl⟩
abbrev main_call2_v1 : Ref sig .tc := ⟨.hbm, 233, rfl⟩
abbrev main_call2_cst : Ref sig .tc := ⟨.hbm, 234, rfl⟩
abbrev main_call2_v2 : Ref sig .tc := ⟨.hbm, 235, rfl⟩
abbrev main_call2_v3 : Ref sig .tc := ⟨.hbm, 236, rfl⟩
abbrev main_call2_cst_0 : Ref sig .tc := ⟨.hbm, 237, rfl⟩
abbrev main_call2_v4 : Ref sig .tc := ⟨.hbm, 238, rfl⟩
abbrev main_call2_v5 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩

abbrev nD : Nat := 1
abbrev τ : Topo := Topo.v7x

variable {F : FTy → Type} [FloatOps F]
-- ==== Out.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x8192x128 : Shape := ⟨3, ![4, 8192, 128]⟩
abbrev S1024x1024 : Shape := ⟨2, ![1024, 1024]⟩
abbrev S1024 : Shape := ⟨1, ![1024]⟩
abbrev S256x1024 : Shape := ⟨2, ![256, 1024]⟩
abbrev S128 : Shape := ⟨1, ![128]⟩
abbrev S_ : Shape := ⟨0, ![]⟩
abbrev S512 : Shape := ⟨1, ![512]⟩
abbrev S128x1 : Shape := ⟨2, ![128, 1]⟩
abbrev S1x512 : Shape := ⟨2, ![1, 512]⟩
abbrev S128x512 : Shape := ⟨2, ![128, 512]⟩
abbrev S256x512 : Shape := ⟨2, ![256, 512]⟩
abbrev S1x1024 : Shape := ⟨2, ![1, 1024]⟩
abbrev S1x512x1024 : Shape := ⟨3, ![1, 512, 1024]⟩
abbrev S1x512x256 : Shape := ⟨3, ![1, 512, 256]⟩
abbrev S1x512x512 : Shape := ⟨3, ![1, 512, 512]⟩
abbrev S1x512x128 : Shape := ⟨3, ![1, 512, 128]⟩
abbrev S512x128 : Shape := ⟨2, ![512, 128]⟩
abbrev S512x256 : Shape := ⟨2, ![512, 256]⟩
abbrev S512x512 : Shape := ⟨2, ![512, 512]⟩
abbrev S512x1024 : Shape := ⟨2, ![512, 1024]⟩
abbrev S512x1 : Shape := ⟨2, ![512, 1]⟩

abbrev nBuf : Space → Nat
  | .hbm => 111
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x512, .bf16⟩
  | .hbm, ⟨3, _⟩ => ⟨S4x8192x512, .bf16⟩
  | .hbm, ⟨4, _⟩ => ⟨S4x8192x512, .bf16⟩
  | .hbm, ⟨5, _⟩ => ⟨S4x8192x128, .f32⟩
  | .hbm, ⟨6, _⟩ => ⟨S4x8192x128, .f32⟩
  | .hbm, ⟨7, _⟩ => ⟨S4x8192x128, .f32⟩
  | .hbm, ⟨8, _⟩ => ⟨S4x8192x512, .bf16⟩
  | .hbm, ⟨9, _⟩ => ⟨S4x8192x512, .bf16⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S256x1024, .f32⟩
  | .hbm, ⟨15, _⟩ => ⟨S128, .i32⟩
  | .hbm, ⟨16, _⟩ => ⟨S_, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S_, .i32⟩
  | .hbm, ⟨62, _⟩ => ⟨S128, .i32⟩
  | .hbm, ⟨63, _⟩ => ⟨S128, .i1⟩
  | .hbm, ⟨64, _⟩ => ⟨S_, .i32⟩
  | .hbm, ⟨65, _⟩ => ⟨S_, .i1⟩
  | .hbm, ⟨66, _⟩ => ⟨S128, .i1⟩
  | .hbm, ⟨67, _⟩ => ⟨S128, .i1⟩
  | .hbm, ⟨68, _⟩ => ⟨S128, .i1⟩
  | .hbm, ⟨69, _⟩ => ⟨S128, .i32⟩
  | .hbm, ⟨70, _⟩ => ⟨S128, .i32⟩
  | .hbm, ⟨71, _⟩ => ⟨S128, .i32⟩
  | .hbm, ⟨72, _⟩ => ⟨S_, .i32⟩
  | .hbm, ⟨73, _⟩ => ⟨S128, .i32⟩
  | .hbm, ⟨74, _⟩ => ⟨S128, .i1⟩
  | .hbm, ⟨75, _⟩ => ⟨S512, .i32⟩
  | .hbm, ⟨76, _⟩ => ⟨S_, .i32⟩
  | .hbm, ⟨77, _⟩ => ⟨S_, .i32⟩
  | .hbm, ⟨78, _⟩ => ⟨S512, .i32⟩
  | .hbm, ⟨79, _⟩ => ⟨S512, .i32⟩
  | .hbm, ⟨80, _⟩ => ⟨S512, .i32⟩
  | .hbm, ⟨81, _⟩ => ⟨S_, .i32⟩
  | .hbm, ⟨82, _⟩ => ⟨S512, .i32⟩
  | .hbm, ⟨83, _⟩ => ⟨S512, .i1⟩
  | .hbm, ⟨84, _⟩ => ⟨S512, .i32⟩
  | .hbm, ⟨85, _⟩ => ⟨S512, .i32⟩
  | .hbm, ⟨86, _⟩ => ⟨S_, .i32⟩
  | .hbm, ⟨87, _⟩ => ⟨S512, .i32⟩
  | .hbm, ⟨88, _⟩ => ⟨S512, .i1⟩
  | .hbm, ⟨89, _⟩ => ⟨S512, .i1⟩
  | .hbm, ⟨90, _⟩ => ⟨S_, .i32⟩
  | .hbm, ⟨91, _⟩ => ⟨S512, .i32⟩
  | .hbm, ⟨92, _⟩ => ⟨S512, .i32⟩
  | .hbm, ⟨93, _⟩ => ⟨S512, .i32⟩
  | .hbm, ⟨94, _⟩ => ⟨S128x1, .i32⟩
  | .hbm, ⟨95, _⟩ => ⟨S1x512, .i32⟩
  | .hbm, ⟨96, _⟩ => ⟨S128x512, .i32⟩
  | .hbm, ⟨97, _⟩ => ⟨S128x512, .i32⟩
  | .hbm, ⟨98, _⟩ => ⟨S128x512, .i1⟩
  | .hbm, ⟨99, _⟩ => ⟨S128x1, .i1⟩
  | .hbm, ⟨100, _⟩ => ⟨S128x512, .i1⟩
  | .hbm, ⟨101, _⟩ => ⟨S128x512, .i1⟩
  | .hbm, ⟨102, _⟩ => ⟨S128x512, .f32⟩
  | .hbm, ⟨103, _⟩ => ⟨S256x512, .f32⟩
  | .hbm, ⟨104, _⟩ => ⟨S256x512, .bf16⟩
  | .hbm, ⟨105, _⟩ => ⟨S1024x1024, .bf16⟩
  | .hbm, ⟨106, _⟩ => ⟨S1x1024, .f32⟩
  | .hbm, ⟨107, _⟩ => ⟨S1024x1024, .bf16⟩
  | .hbm, ⟨108, _⟩ => ⟨S1x1024, .f32⟩
  | .hbm, ⟨109, _⟩ => ⟨S256x1024, .bf16⟩
  | .hbm, ⟨110, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S256x512, .bf16⟩
  | .local _ .vmem, ⟨21, _⟩ => ⟨S1024x1024, .bf16⟩
  | .local _ .vmem, ⟨22, _⟩ => ⟨S1x1024, .f32⟩
  | .local _ .vmem, ⟨23, _⟩ => ⟨S1024x1024, .bf16⟩
  | .local _ .vmem, ⟨24, _⟩ => ⟨S1x1024, .f32⟩
  | .local _ .vmem, ⟨25, _⟩ => ⟨S256x1024, .bf16⟩
  | .local _ .vmem, ⟨26, _⟩ => ⟨S1x512x1024, .f32⟩
  | .local _ .vmem, ⟨27, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v1 : Ref sig .tc := ⟨.hbm, 33, rfl⟩
abbrev main_c_0 : Ref sig .tc := ⟨.hbm, 34, rfl⟩
abbrev main_v2 : Ref sig .tc := ⟨.hbm, 35, rfl⟩
abbrev main_v3 : Ref sig .tc := ⟨.hbm, 36, rfl⟩
abbrev main_c_1 : Ref sig .tc := ⟨.hbm, 37, rfl⟩
abbrev main_v4 : Ref sig .tc := ⟨.hbm, 38, rfl⟩
abbrev main_v5 : Ref sig .tc := ⟨.hbm, 39, rfl⟩
abbrev main_c_2 : Ref sig .tc := ⟨.hbm, 40, rfl⟩
abbrev main_v6 : Ref sig .tc := ⟨.hbm, 41, rfl⟩
abbrev main_v7 : Ref sig .tc := ⟨.hbm, 42, rfl⟩
abbrev main_c_3 : Ref sig .tc := ⟨.hbm, 43, rfl⟩
abbrev main_v8 : Ref sig .tc := ⟨.hbm, 44, rfl⟩
abbrev main_v9 : Ref sig .tc := ⟨.hbm, 45, rfl⟩
abbrev main_c_4 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_c_5 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v13 : Ref sig .tc := ⟨.hbm, 71, rfl⟩
abbrev main_c_6 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_c_7 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== TailIdeal.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x8192x128 : Shape := ⟨3, ![4, 8192, 128]⟩
abbrev S1024x1024 : Shape := ⟨2, ![1024, 1024]⟩
abbrev S1024 : Shape := ⟨1, ![1024]⟩
abbrev S256x1024 : Shape := ⟨2, ![256, 1024]⟩
abbrev S4x8192x8x64 : Shape := ⟨4, ![4, 8192, 8, 64]⟩
abbrev S4x8192x2x4x16 : Shape := ⟨5, ![4, 8192, 2, 4, 16]⟩
abbrev S4x8192x2x4x1 : Shape := ⟨5, ![4, 8192, 2, 4, 1]⟩
abbrev S4x8192x2x4 : Shape := ⟨4, ![4, 8192, 2, 4]⟩
abbrev S4x8192x4x2 : Shape := ⟨4, ![4, 8192, 4, 2]⟩
abbrev S4x8192x8 : Shape := ⟨3, ![4, 8192, 8]⟩
abbrev S1x4x8192x8 : Shape := ⟨4, ![1, 4, 8192, 8]⟩
abbrev S3x4x8192x8 : Shape := ⟨4, ![3, 4, 8192, 8]⟩
abbrev S_ : Shape := ⟨0, ![]⟩
abbrev S3x4x8192x8x1 : Shape := ⟨5, ![3, 4, 8192, 8, 1]⟩
abbrev S1x4x8192x8x64 : Shape := ⟨5, ![1, 4, 8192, 8, 64]⟩
abbrev S3x4x8192x8x64 : Shape := ⟨5, ![3, 4, 8192, 8, 64]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x512, .bf16⟩
  | .hbm, ⟨3, _⟩ => ⟨S4x8192x512, .bf16⟩
  | .hbm, ⟨4, _⟩ => ⟨S4x8192x512, .bf16⟩
  | .hbm, ⟨5, _⟩ => ⟨S4x8192x128, .f32⟩
  | .hbm, ⟨6, _⟩ => ⟨S4x8192x128, .f32⟩
  | .hbm, ⟨7, _⟩ => ⟨S4x8192x128, .f32⟩
  | .hbm, ⟨8, _⟩ => ⟨S4x8192x512, .bf16⟩
  | .hbm, ⟨9, _⟩ => ⟨S4x8192x512, .bf16⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S256x1024, .f32⟩
  | .hbm, ⟨15, _⟩ => ⟨S4x8192x512, .f32⟩
  | .hbm, ⟨16, _⟩ => ⟨S4x8192x8x64, .f32⟩
  | .hbm, ⟨17, _⟩ => ⟨S4x8192x512, .f32⟩
  | .hbm, ⟨18, _⟩ => ⟨S4x8192x8x64, .f32⟩
  | .hbm, ⟨19, _⟩ => ⟨S4x8192x512, .f32⟩
  | .hbm, ⟨20, _⟩ => ⟨S4x8192x8x64, .f32⟩
  | .hbm, ⟨21, _⟩ => ⟨S4x8192x2x4x16, .f32⟩
  | .hbm, ⟨22, _⟩ => ⟨S4x8192x2x4x1, .f32⟩
  | .hbm, ⟨23, _⟩ => ⟨S4x8192x2x4, .f32⟩
  | .hbm, ⟨24, _⟩ => ⟨S4x8192x4x2, .f32⟩
  | .hbm, ⟨25, _⟩ => ⟨S4x8192x8, .f32⟩
  | .hbm, ⟨26, _⟩ => ⟨S4x8192x2x4x16, .f32⟩
  | .hbm, ⟨27, _⟩ => ⟨S4x8192x2x4x1, .f32⟩
  | .hbm, ⟨28, _⟩ => ⟨S4x8192x2x4, .f32⟩
  | .hbm, ⟨29, _⟩ => ⟨S4x8192x4x2, .f32⟩
  | .hbm, ⟨30, _⟩ => ⟨S4x8192x8, .f32⟩
  | .hbm, ⟨31, _⟩ => ⟨S4x8192x2x4x16, .f32⟩
  | .hbm, ⟨32, _⟩ => ⟨S4x8192x2x4x1, .f32⟩
  | .hbm, ⟨33, _⟩ => ⟨S4x8192x2x4, .f32⟩
  | .hbm, ⟨34, _⟩ => ⟨S4x8192x4x2, .f32⟩
  | .hbm, ⟨35, _⟩ => ⟨S4x8192x8, .f32⟩
  | .hbm, ⟨36, _⟩ => ⟨S1x4x8192x8, .f32⟩
  | .hbm, ⟨37, _⟩ => ⟨S1x4x8192x8, .f32⟩
  | .hbm, ⟨38, _⟩ => ⟨S1x4x8192x8, .f32⟩
  | .hbm, ⟨39, _⟩ => ⟨S3x4x8192x8, .f32⟩
  | .hbm, ⟨40, _⟩ => ⟨S_, .f32⟩
  | .hbm, ⟨41, _⟩ => ⟨S4x8192x8, .f32⟩
  | .hbm, ⟨42, _⟩ => ⟨S_, .f32⟩
  | .hbm, ⟨43, _⟩ => ⟨S4x8192x8, .f32⟩
  | .hbm, ⟨44, _⟩ => ⟨S4x8192x8, .f32⟩
  | .hbm, ⟨45, _⟩ => ⟨S1x4x8192x8, .f32⟩
  | .hbm, ⟨46, _⟩ => ⟨S3x4x8192x8, .f32⟩
  | .hbm, ⟨47, _⟩ => ⟨S3x4x8192x8, .f32⟩
  | .hbm, ⟨48, _⟩ => ⟨S3x4x8192x8, .f32⟩
  | .hbm, ⟨49, _⟩ => ⟨S_, .f32⟩
  | .hbm, ⟨50, _⟩ => ⟨S4x8192x8, .f32⟩
  | .hbm, ⟨51, _⟩ => ⟨S1x4x8192x8, .f32⟩
  | .hbm, ⟨52, _⟩ => ⟨S3x4x8192x8, .f32⟩
  | .hbm, ⟨53, _⟩ => ⟨S3x4x8192x8, .f32⟩
  | .hbm, ⟨54, _⟩ => ⟨S3x4x8192x8x1, .f32⟩
  | .hbm, ⟨55, _⟩ => ⟨S1x4x8192x8x64, .f32⟩
  | .hbm, ⟨56, _⟩ => ⟨S1x4x8192x8x64, .f32⟩
  | .hbm, ⟨57, _⟩ => ⟨S1x4x8192x8x64, .f32⟩
  | .hbm, ⟨58, _⟩ => ⟨S3x4x8192x8x64, .f32⟩
  | .hbm, ⟨59, _⟩ => ⟨S3x4x8192x8x64, .f32⟩
  | .hbm, ⟨60, _⟩ => ⟨S3x4x8192x8x64, .f32⟩
  | .hbm, ⟨61, _⟩ => ⟨S_, .f32⟩
  | .hbm, ⟨62, _⟩ => ⟨S4x8192x8x64, .f32⟩
  | .hbm, ⟨63, _⟩ => ⟨S4x8192x512, .f32⟩
  | .hbm, ⟨64, _⟩ => ⟨S4x8192x512, .f32⟩
  | .hbm, ⟨65, _⟩ => ⟨S4x8192x512, .f32⟩
  | .hbm, ⟨66, _⟩ => ⟨S4x8192x512, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S_, .f32⟩
  | .hbm, ⟨75, _⟩ => ⟨S4x8192x1, .f32⟩
  | .hbm, ⟨76, _⟩ => ⟨S4x8192x1, .f32⟩
  | .hbm, ⟨77, _⟩ => ⟨S_, .f32⟩
  | .hbm, ⟨78, _⟩ => ⟨S4x8192x1, .f32⟩
  | .hbm, ⟨79, _⟩ => ⟨S4x8192x1, .f32⟩
  | .hbm, ⟨80, _⟩ => ⟨S4x8192x1, .f32⟩
  | .hbm, ⟨81, _⟩ => ⟨S4x8192x1024, .f32⟩
  | .hbm, ⟨82, _⟩ => ⟨S4x8192x1024, .f32⟩
  | .hbm, ⟨83, _⟩ => ⟨S1x1x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S1x1x1024, .f32⟩
  | .hbm, ⟨88, _⟩ => ⟨S4x8192x1024, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S_, .f32⟩
  | .hbm, ⟨93, _⟩ => ⟨S4x8192x1024, .f32⟩
  | .hbm, ⟨94, _⟩ => ⟨S4x8192x1024, .f32⟩
  | .hbm, ⟨95, _⟩ => ⟨S_, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | .hbm, ⟨99, _⟩ => ⟨S4x8192x1024, .f32⟩
  | .hbm, ⟨100, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_6 : Ref sig .tc := ⟨.hbm, 92, rfl⟩
abbrev main_v70 : Ref sig .tc := ⟨.hbm, 93, rfl⟩
abbrev main_v71 : Ref sig .tc := ⟨.hbm, 94, rfl⟩
abbrev main_cst_7 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Proof.Math.Reals.lean ====
/- Finite extended reals: what the attention's softmax needs of the idealized operations. -/
module

public import Idealize.ShloMosaic.PureOps.Ideal.Laws
public import Idealize.ShloMosaic.Lib.Pointwise
public import Mathlib.Analysis.SpecialFunctions.Log.Basic

@[expose] public section

set_option maxRecDepth 16384

noncomputable section

open Idealize.ShloMosaic

namespace Cert.Math

/-- An extended real that is a real number. -/
def Fin' (x : EReal) : Prop := ∃ r : ℝ, x = (r : EReal)

theorem Fin'.coe (r : ℝ) : Fin' (r : EReal) := ⟨r, rfl⟩
theorem Fin'.zero : Fin' 0 := ⟨0, rfl⟩
theorem Fin'.one : Fin' 1 := ⟨1, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.neg {x : EReal} (hx : Fin' x) : Fin' (-x) := by
  obtain ⟨a, rfl⟩ := hx; exact ⟨-a, (EReal.coe_neg a).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.max {x y : EReal} (hx : Fin' x) (hy : Fin' y) : Fin' (max x y) := by
  rcases max_choice x y with h | h <;> rw [h] <;> assumption
theorem Fin'.sum {ι : Type*} (s : Finset ι) {f : ι → EReal} (hf : ∀ i ∈ s, Fin' (f i)) : Fin' (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))
theorem Fin'.ne_bot {x : EReal} (hx : Fin' x) : x ≠ ⊥ := by obtain ⟨a, rfl⟩ := hx; exact EReal.coe_ne_bot a
theorem Fin'.ne_top {x : EReal} (hx : Fin' x) : x ≠ ⊤ := by obtain ⟨a, rfl⟩ := hx; exact EReal.coe_ne_top a

/-- A sum of coerced reals is the coerced sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_coe' (x : EReal) {b : ℝ} (hb : b ≠ 0) : Ideal.div x (b : EReal) = x * ((b⁻¹ : ℝ) : EReal) := by
  unfold Ideal.div
  rw [if_neg (by exact_mod_cast hb), ← EReal.coe_inv]

theorem Fin'.div {x : EReal} (hx : Fin' x) {b : ℝ} (hb : b ≠ 0) : Fin' (Ideal.div x (b : EReal)) := by
  rw [div_coe' x hb]; exact hx.mul (Fin'.coe _)

theorem exp_coe (r : ℝ) : Ideal.exp (r : EReal) = ((Real.exp r : ℝ) : EReal) := rfl
theorem exp_bot : Ideal.exp ⊥ = 0 := rfl
theorem log_coe {r : ℝ} (hr : 0 < r) : Ideal.log (r : EReal) = ((Real.log r : ℝ) : EReal) := by
  show (if r ≤ 0 then (⊥ : EReal) else (Real.log r : EReal)) = _
  rw [if_neg (not_le.2 hr)]
theorem rsqrt_coe {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 hr.le), if_neg hr.ne']

/-- The reciprocal root of a mean of squares plus a positive constant is a real number. -/
theorem Fin'.rms {n : ℕ} {f : Fin n → EReal} (hf : ∀ k, Fin' (f k)) {b e : ℝ} (hb : 0 < b) (he : 0 < e) :
    Fin' (Ideal.rsqrt (Ideal.div (∑ k, f k * f k) (b : EReal) + (e : EReal))) := by
  choose g hg using hf
  have h1 : (∑ k, f k * f k) = ((∑ k, g k * g k : ℝ) : EReal) := by
    rw [← coe_sum]; exact Finset.sum_congr rfl fun k _ => by rw [hg k, EReal.coe_mul]
  rw [h1, div_coe' _ hb.ne', ← EReal.coe_mul, ← EReal.coe_add, rsqrt_coe]
  · exact Fin'.coe _
  · have : 0 ≤ ∑ k, g k * g k := Finset.sum_nonneg fun k _ => mul_self_nonneg _
    positivity

/-- Scores with the masked ones at `⊥`. -/
def masked {n : ℕ} (σ : Fin n → EReal) (ok : Fin n → Prop) [DecidablePred ok] (j : Fin n) : EReal := if ok j then σ j else ⊥

/-- The softmax row over real scores, at least one of them unmasked: the maximum is real, the exponentials are
    reals, zero where masked, and their sum is positive. -/
theorem soft_row {n : ℕ} (σ : Fin n → EReal) (ok : Fin n → Prop) [DecidablePred ok] (hσ : ∀ j, ok j → Fin' (σ j))
    (hex : ∃ j, ok j) :
    ∃ (M : ℝ) (e : Fin n → ℝ), Finset.univ.fold max (⊥ : EReal) (masked σ ok) = (M : EReal)
      ∧ (∀ j, Ideal.exp (masked σ ok j - (M : EReal)) = (e j : EReal)) ∧ (∀ j, ¬ ok j → e j = 0) ∧ 0 < ∑ j, e j := by
  obtain ⟨j0, hj0⟩ := hex
  have hle : ∀ j, masked σ ok j ≤ Finset.univ.fold max (⊥ : EReal) (masked σ ok) := fun j =>
    (Finset.le_fold_max _).2 (Or.inr ⟨j, Finset.mem_univ j, le_rfl⟩)
  have hreal : Fin' (Finset.univ.fold max (⊥ : EReal) (masked σ ok)) := by
    have hM := (Finset.le_fold_max (s := Finset.univ) (f := masked σ ok) (b := ⊥)
      (Finset.univ.fold max (⊥ : EReal) (masked σ ok))).1 le_rfl
    have h0 : (⊥ : EReal) < masked σ ok j0 := by
      unfold masked; rw [if_pos hj0]; exact bot_lt_iff_ne_bot.2 (hσ j0 hj0).ne_bot
    rcases hM with h | ⟨j, -, h⟩
    · exact absurd (lt_of_lt_of_le h0 ((hle j0).trans h)) (lt_irrefl _)
    · have heq := le_antisymm h (hle j)
      rw [heq]
      by_cases hj : ok j
      · unfold masked; rw [if_pos hj]; exact hσ j hj
      · exfalso
        have : masked σ ok j = ⊥ := by unfold masked; rw [if_neg hj]
        rw [this] at heq
        exact absurd (lt_of_lt_of_le h0 (heq ▸ hle j0)) (lt_irrefl _)
  obtain ⟨M, hM⟩ := hreal
  have hx : ∀ j, ∃ r : ℝ, Ideal.exp (masked σ ok j - (M : EReal)) = (r : EReal) ∧ (¬ ok j → r = 0) ∧ 0 ≤ r ∧ (ok j → 0 < r) := by
    intro j
    by_cases hj : ok j
    · obtain ⟨s, hs⟩ := hσ j hj
      refine ⟨Real.exp (s - M), ?_, fun h => absurd hj h, (Real.exp_pos _).le, fun _ => Real.exp_pos _⟩
      unfold masked; rw [if_pos hj, hs, ← EReal.coe_sub]; rfl
    · refine ⟨0, ?_, fun _ => rfl, le_rfl, fun h => absurd h hj⟩
      unfold masked; rw [if_neg hj, EReal.bot_sub]; rfl
  choose e he using hx
  refine ⟨M, e, hM, fun j => (he j).1, fun j => (he j).2.1, ?_⟩
  exact Finset.sum_pos' (fun j _ => (he j).2.2.1) ⟨j0, Finset.mem_univ _, (he j0).2.2.2 hj0⟩

/-- A real number distributes over a sum when it is not negative, whatever the terms. -/
theorem sum_mul_coe {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih,
      EReal.right_distrib_of_nonneg_of_ne_top (EReal.coe_nonneg.2 ha) (EReal.coe_ne_top a)]

/-- Dividing the weighted sum by the denominator is weighting by the quotients: over a softmax row. -/
theorem weighted {n : ℕ} (e : Fin n → ℝ) (hD : 0 < ∑ j, e j) (v v' : Fin n → EReal) (ok : Fin n → Prop)
    (he : ∀ j, ¬ ok j → e j = 0) (hvv : ∀ j, ok j → v j = v' j) :
    Ideal.div (∑ j, (e j : EReal) * v j) ((∑ j, e j : ℝ) : EReal)
      = ∑ j, v' j * Ideal.div (e j : EReal) ((∑ j, e j : ℝ) : EReal) := by
  classical
  rw [div_coe' _ hD.ne', sum_mul_coe _ _ (inv_nonneg.2 hD.le)]
  refine Finset.sum_congr rfl fun j _ => ?_
  rw [div_coe' _ hD.ne']
  by_cases hj : ok j
  · rw [hvv j hj, mul_comm (e j : EReal), mul_assoc]
  · rw [he j hj]; simp

end Cert.Math

end
-- ==== Proof.Attn.Cell.lean ====
/- One cell of the attention body: a block of 128 queries against its 256 keys, on one pair of heads. -/
module

public import proofs.«01_k».proof.Proof.Gen.Attn1Ideal.Skeleton
public import proofs.«01_k».proof.Proof.Math.Reals
public import Idealize.ShloMosaic.Lib.Pointwise

@[expose] public section

set_option maxRecDepth 16384

noncomputable section

open Idealize.ShloMosaic Idealize.ShloMosaic.TcCoe Idealize.SL.Sem
open Cert.Attn1Ideal Cert.Attn1Ideal.Gen

namespace Cert.Attn

/-- The masks of the pair's two heads over the 128 lanes. -/
abbrev mA : FVec Ideal S1x128 .bf16 := k0_pay3 (F := Ideal)
abbrev mB : FVec Ideal S1x128 .bf16 := k0_pay4 (F := Ideal)

/-- Both heads' scores, the first head's queries in rows 0–127 and the second's in rows 128–255. -/
def scores (b : FVec Ideal S256x256 .f32) (q : FVec Ideal S128x128 .bf16) (k : FVec Ideal S256x128 .bf16) : FVec Ideal S256x256 .f32 :=
  addf (matmul dot_S256x128_S256x128_S256x256_1_1_0_0_n_n none
    (concatenate S256x128 0 [⟨S128x128, mulf q (broadcastTo S128x128 mA broadcasts_S1x128_S128x128)⟩,
      ⟨S128x128, mulf q (broadcastTo S128x128 mB broadcasts_S1x128_S128x128)⟩] concatenates_S128x128_S128x128_S256x128_d0)
    k (constant S256x256 .f32 0x00000000#32)) b

/-- Each score row's maximum. -/
def rowMax (s : FVec Ideal S256x256 .f32) : FVec Ideal S256x1 .f32 :=
  shapeCast S256x1 (multiReduction .maximumf [1] S256 s 0xFF800000#32 reduces_S256x256_S256 (.inl rfl) rfl) shapeCasts_S256_S256x1

/-- The exponentials, the two heads' rows side by side. -/
def expo (s : FVec Ideal S256x256 .f32) : FVec Ideal S128x512 .bf16 :=
  have e : FVec Ideal S256x256 .bf16 := truncf .bf16 (exp (subf s (broadcastTo S256x256 (rowMax s) broadcasts_S256x1_S256x256))) bitsLt_bf16_f32
  concatenate S128x512 1 [⟨S128x256, extractStridedSlice S128x256 ![0, 0] e slices_S256x256_o0_0_S128x256⟩,
    ⟨S128x256, extractStridedSlice S128x256 ![128, 0] e slices_S256x256_o128_0_S128x256⟩] concatenates_S128x256_S128x256_S128x512_d1

/-- The weighted values in lanes 0–127, the denominators in lanes 128–255. -/
def mix (s : FVec Ideal S256x256 .f32) (v : FVec Ideal S256x128 .bf16) : FVec Ideal S128x256 .f32 :=
  matmul dot_S128x512_S512x256_S128x256_1_0_0_1_n_n none (expo s)
    (concatenate S512x256 0
      [⟨S256x256, concatenate S256x256 1 [⟨S256x128, mulf v (broadcastTo S256x128 mA broadcasts_S1x128_S256x128)⟩,
          ⟨S256x128, broadcastTo S256x128 (shapeCast S1x128 mA shapeCasts_S1x128_S1x128) broadcasts_S1x128_S256x128⟩] concatenates_S256x128_S256x128_S256x256_d1⟩,
        ⟨S256x256, concatenate S256x256 1 [⟨S256x128, mulf v (broadcastTo S256x128 mB broadcasts_S1x128_S256x128)⟩,
          ⟨S256x128, broadcastTo S256x128 (shapeCast S1x128 mB shapeCasts_S1x128_S1x128) broadcasts_S1x128_S256x128⟩] concatenates_S256x128_S256x128_S256x256_d1⟩]
      concatenates_S256x256_S256x256_S512x256_d0) (constant S128x256 .f32 0x00000000#32)

/-- The cell's output rows. -/
def outv (s : FVec Ideal S256x256 .f32) (v : FVec Ideal S256x128 .bf16) : FVec Ideal S128x128 .bf16 :=
  truncf .bf16 (divf (extractStridedSlice S128x128 ![0, 0] (mix s v) slices_S128x256_o0_0_S128x128)
    (extractStridedSlice S128x128 ![0, 128] (mix s v) slices_S128x256_o0_128_S128x128)) bitsLt_bf16_f32

/-- The cell's log-sum-exps, each head's in its own lanes. -/
def lsev (s : FVec Ideal S256x256 .f32) (v : FVec Ideal S256x128 .bf16) : FVec Ideal S128x128 .f32 :=
  addf (select (broadcastTo S128x128 (shapeCast S1x128 k0_pay2 shapeCasts_S1x128_S1x128) broadcasts_S1x128_S128x128)
      (broadcastTo S128x128 (shapeCast S128x1 (extractStridedSlice S128x1 ![0, 0] (rowMax s) slices_S256x1_o0_0_S128x1) shapeCasts_S128x1_S128x1) broadcasts_S128x1_S128x128)
      (broadcastTo S128x128 (shapeCast S128x1 (extractStridedSlice S128x1 ![128, 0] (rowMax s) slices_S256x1_o128_0_S128x1) shapeCasts_S128x1_S128x1) broadcasts_S128x1_S128x128))
    (log (extractStridedSlice S128x128 ![0, 128] (mix s v) slices_S128x256_o0_128_S128x128))

/-- A mask as a number. -/
def ind (p : Prop) [Decidable p] : EReal := if p then 1 else 0

theorem slt_64 : ∀ l : Fin 128, IntOp.cmpi CmpIPredicate.slt (BitVec.ofNat 32 ↑l) 64#32 = if (l : ℕ) < 64 then 1#1 else 0#1 := by
  decide +kernel

theorem bit_one : FloatOps.sitofp (F := Ideal) FTy.f32 (BitVec.setWidth 32 (1#1)) = (1 : EReal) := by
  show (((BitVec.setWidth 32 (1#1)).toInt : ℝ) : EReal) = 1
  simp

theorem bit_zero : FloatOps.sitofp (F := Ideal) FTy.f32 (BitVec.setWidth 32 (0#1)) = (0 : EReal) := by
  show (((BitVec.setWidth 32 (0#1)).toInt : ℝ) : EReal) = 0
  simp

theorem mA_at (l : Fin 128) : mA (ix2 0 l) = ind ((l : ℕ) < 64) := by
  pointwise [k0_pay3, k0_pay2]
  rw [slt_64]
  unfold ind
  by_cases h : (l : ℕ) < 64
  · simp only [h, if_true]; exact bit_one
  · simp only [h, if_false]; exact bit_zero

theorem mB_at (l : Fin 128) : mB (ix2 0 l) = ind (64 ≤ (l : ℕ)) := by
  pointwise [k0_pay4, k0_pay2]
  have h := mA_at l
  rw [show k0_pay3 (F := Ideal) (ix2 0 l) = _ from h]
  unfold ind
  by_cases h : (l : ℕ) < 64
  · have h4 : ¬ 64 ≤ (l : ℕ) := by omega
    simp only [h, h4, if_true, if_false]
    rw [← EReal.coe_one, ← EReal.coe_sub, sub_self, EReal.coe_zero]
  · have h4 : 64 ≤ (l : ℕ) := by omega
    simp [h, h4]

/-- The score row of output row `r` for the head of lane `l`. -/
def hrow (r l : Fin 128) : Fin 256 := if (l : ℕ) < 64 then ⟨r, by omega⟩ else ⟨128 + r, by omega⟩

/-- Lane `d` of the head that lane `l` belongs to. -/
def hlane (l : Fin 128) (d : Fin 64) : Fin 128 := ⟨64 * (l / 64) + d, by omega⟩

/-- A sum over the lanes that keeps one head's lanes. -/
theorem sum_head (l : Fin 128) (f : Fin 128 → EReal) (g : Fin 128 → EReal)
    (h : ∀ x : Fin 128, g x = if (x : ℕ) / 64 = (l : ℕ) / 64 then f x else 0) : ∑ x, g x = ∑ d, f (hlane l d) := by
  rw [Finset.sum_congr rfl fun x _ => h x, ← Finset.sum_filter]
  refine (Finset.sum_bij' (fun d _ => hlane l d) (fun x _ => ⟨(x : ℕ) % 64, by omega⟩) ?_ ?_ ?_ ?_ ?_).symm
  · intro d _; simp [hlane]; omega
  · intro x _; simp
  · intro d _; ext; simp [hlane]
  · intro x hx; simp at hx; ext; simp [hlane]; omega
  · intro d _; rfl

/-- A score: the head's dot product plus the bias entry. -/
theorem scores_at (b : FVec Ideal S256x256 .f32) (q : FVec Ideal S128x128 .bf16) (k : FVec Ideal S256x128 .bf16) (r l : Fin 128) (j : Fin 256) :
    scores b q k (ix2 (hrow r l) j) = (∑ d, q (ix2 r (hlane l d)) * k (ix2 j (hlane l d))) + b (ix2 (hrow r l) j) := by
  pointwise [scores]
  congr 1
  refine sum_head l (fun x => q (ix2 r x) * k (ix2 j x)) _ fun x => ?_
  rw [mA_at, mB_at]
  unfold ind hrow
  by_cases hl : (l : ℕ) < 64
  · have h1 : (l : ℕ) / 64 = 0 := by omega
    have h2 : (r : ℕ) < 128 := r.2
    by_cases hx : (x : ℕ) < 64
    · have h3 : (x : ℕ) / 64 = 0 := by omega
      simp [hl, hx, h1, h3, h2]
    · have h3 : (x : ℕ) / 64 ≠ 0 := by omega
      simp [hl, hx, h1, h3, h2]
  · have h1 : (l : ℕ) / 64 = 1 := by omega
    by_cases hx : (x : ℕ) < 64
    · have h3 : (x : ℕ) / 64 ≠ 1 := by omega
      have h4 : ¬ 64 ≤ (x : ℕ) := by omega
      simp [hl, hx, h1, h3, h4]
    · have h3 : (x : ℕ) / 64 = 1 := by omega
      have h4 : 64 ≤ (x : ℕ) := by omega
      simp [hl, hx, h1, h3, h4]

/-- A score row's maximum, from below. -/
def mx (s : FVec Ideal S256x256 .f32) (i : Fin 256) : EReal := Finset.fold max ⊥ (fun x => s (ix2 i x)) Finset.univ

theorem neg_inf : Ideal.ofBits FTy.f32 4286578688#32 = ⊥ := by decide +kernel

/-- The weighted values: the other head's terms vanish. -/
theorem mix_num (s : FVec Ideal S256x256 .f32) (v : FVec Ideal S256x128 .bf16) (r l : Fin 128) :
    mix s v (ix2 r ⟨(l : ℕ), by omega⟩) = ∑ j, Ideal.exp (s (ix2 (hrow r l) j) - mx s (hrow r l)) * v (ix2 j l) := by
  pointwise [mix, expo, rowMax]
  have hl128 : (l : ℕ) < 128 := l.2
  simp only [neg_inf, mA_at, mB_at, hl128, dite_true]
  unfold ind hrow mx
  by_cases hl : (l : ℕ) < 64
  · have h4 : ¬ 64 ≤ (l : ℕ) := by omega
    simp [hl, h4]
  · have h4 : 64 ≤ (l : ℕ) := by omega
    simp [hl, h4]

/-- The denominators. -/
theorem mix_den (s : FVec Ideal S256x256 .f32) (v : FVec Ideal S256x128 .bf16) (r l : Fin 128) :
    mix s v (ix2 r ⟨128 + (l : ℕ), by omega⟩) = ∑ j, Ideal.exp (s (ix2 (hrow r l) j) - mx s (hrow r l)) := by
  pointwise [mix, expo, rowMax]
  have hl128 : ¬ 128 + (l : ℕ) < 128 := by omega
  simp only [neg_inf, hl128, dite_false, Nat.add_sub_cancel_left, mA_at, mB_at]
  unfold ind hrow mx
  by_cases hl : (l : ℕ) < 64
  · have h4 : ¬ 64 ≤ (l : ℕ) := by omega
    simp [hl, h4]
  · have h4 : 64 ≤ (l : ℕ) := by omega
    simp [hl, h4]

/-- An output entry: the quotient of the two. -/
theorem outv_at (s : FVec Ideal S256x256 .f32) (v : FVec Ideal S256x128 .bf16) (r : Fin 128) (l : Fin 128) :
    outv s v (ix2 r l) = Ideal.div (∑ j, Ideal.exp (s (ix2 (hrow r l) j) - mx s (hrow r l)) * v (ix2 j l))
      (∑ j, Ideal.exp (s (ix2 (hrow r l) j) - mx s (hrow r l))) := by
  rw [← mix_num s v, ← mix_den s v]
  pointwise [outv]

/-- A log-sum-exp entry. -/
theorem lsev_at (s : FVec Ideal S256x256 .f32) (v : FVec Ideal S256x128 .bf16) (r : Fin 128) (l : Fin 128) :
    lsev s v (ix2 r l) = mx s (hrow r l) + Ideal.log (∑ j, Ideal.exp (s (ix2 (hrow r l) j) - mx s (hrow r l))) := by
  rw [← mix_den s v]
  pointwise [lsev, rowMax, k0_pay2]
  rw [slt_64, neg_inf]
  unfold hrow mx
  by_cases hl : (l : ℕ) < 64
  · simp [hl, Scalar.select]
  · simp [hl, Scalar.select]

/-- A softmax-weighted sum over a row of scores. -/
def rowOut (σ w : Fin 256 → EReal) : EReal :=
  Ideal.div (∑ j, Ideal.exp (σ j - Finset.fold max ⊥ σ Finset.univ) * w j) (∑ j, Ideal.exp (σ j - Finset.fold max ⊥ σ Finset.univ))

/-- A row's log-sum-exp. -/
def rowLse (σ : Fin 256 → EReal) : EReal :=
  Finset.fold max ⊥ σ Finset.univ + Ideal.log (∑ j, Ideal.exp (σ j - Finset.fold max ⊥ σ Finset.univ))

/-- A cell's output entry, given its scores and values at variables. -/
theorem cell_out (b : FVec Ideal S256x256 .f32) (q : FVec Ideal S128x128 .bf16) (k v : FVec Ideal S256x128 .bf16) (r l : Fin 128)
    (σ w : Fin 256 → EReal) (hs : ∀ j, (∑ d, q (ix2 r (hlane l d)) * k (ix2 j (hlane l d))) + b (ix2 (hrow r l) j) = σ j)
    (hw : ∀ j, v (ix2 j l) = w j) : outv (scores b q k) v (ix2 r l) = rowOut σ w := by
  rw [outv_at]
  unfold rowOut mx
  simp only [scores_at, hs, hw]

/-- A cell's log-sum-exp entry, likewise. -/
theorem cell_lse (b : FVec Ideal S256x256 .f32) (q : FVec Ideal S128x128 .bf16) (k v : FVec Ideal S256x128 .bf16) (r l : Fin 128)
    (σ : Fin 256 → EReal) (hs : ∀ j, (∑ d, q (ix2 r (hlane l d)) * k (ix2 j (hlane l d))) + b (ix2 (hrow r l) j) = σ j) :
    lsev (scores b q k) v (ix2 r l) = rowLse σ := by
  rw [lsev_at]
  unfold rowLse mx
  simp only [scores_at, hs]

/-- A rank-3 array read at natural numbers. -/
def rd3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

theorem eq_rd3 {n0 n1 n2 : ℕ} (X : (⟨3, ![n0, n1, n2]⟩ : Shape).Idx → EReal) (i : (⟨3, ![n0, n1, n2]⟩ : Shape).Idx) (a b c : ℕ)
    (ha : (i 0 : ℕ) = a) (hb : (i 1 : ℕ) = b) (hc : (i 2 : ℕ) = c) : X i = rd3 X a b c := by
  subst ha hb hc
  have h : (i 0 : ℕ) < n0 ∧ (i 1 : ℕ) < n1 ∧ (i 2 : ℕ) < n2 := ⟨(i 0).2, (i 1).2, (i 2).2⟩
  unfold rd3
  rw [dif_pos h]
  congr 1
  funext x
  fin_cases x <;> rfl

/-- Key row `n` of a query block: the 128 rows before the block, then the block's own. -/
def keyrd (X : (⟨3, ![1, 512, 512]⟩ : Shape).Idx → EReal) (P : (⟨3, ![1, 128, 512]⟩ : Shape).Idx → EReal) (j c : ℕ) : EReal :=
  if j < 128 then rd3 P 0 j c else rd3 X 0 (j - 128) c

/-- The scores of row `R`, column `C` of a query block, its bias table `w`. -/
def scoreRow (x0 : (⟨3, ![2, 256, 256]⟩ : Shape).Idx → EReal) (x1 x2 : (⟨3, ![1, 512, 512]⟩ : Shape).Idx → EReal) (x4 : (⟨3, ![1, 128, 512]⟩ : Shape).Idx → EReal)
    (w R C : ℕ) (j : Fin 256) : EReal :=
  (∑ d : Fin 64, rd3 x1 0 R (64 * (C / 64) + d) * keyrd x2 x4 (128 * (R / 128) + j) (64 * (C / 64) + d))
    + rd3 x0 w (R % 128 + if C % 128 < 64 then 0 else 128) j

/-- The values of column `C` at row `R`'s keys. -/
def vals (x3 : (⟨3, ![1, 512, 512]⟩ : Shape).Idx → EReal) (x5 : (⟨3, ![1, 128, 512]⟩ : Shape).Idx → EReal) (R C : ℕ) (j : Fin 256) : EReal :=
  keyrd x3 x5 (128 * (R / 128) + j) C

/-- The scores of a row from the reads that make them. -/
theorem eq_scoreRow (x0 : (⟨3, ![2, 256, 256]⟩ : Shape).Idx → EReal) (x1 x2 : (⟨3, ![1, 512, 512]⟩ : Shape).Idx → EReal) (x4 : (⟨3, ![1, 128, 512]⟩ : Shape).Idx → EReal)
    (w R C : ℕ) (j : Fin 256) (A B : Fin 64 → EReal) (b : EReal) (hA : ∀ d : Fin 64, A d = rd3 x1 0 R (64 * (C / 64) + d))
    (hB : ∀ d : Fin 64, B d = keyrd x2 x4 (128 * (R / 128) + j) (64 * (C / 64) + d))
    (hb : b = rd3 x0 w (R % 128 + if C % 128 < 64 then 0 else 128) j) : (∑ d, A d * B d) + b = scoreRow x0 x1 x2 x4 w R C j := by
  unfold scoreRow
  simp only [hA, hB, hb]

/-- A stored cell of the output block. -/
theorem piece_out (b : FVec Ideal S256x256 .f32) (q : FVec Ideal S128x128 .bf16) (k v : FVec Ideal S256x128 .bf16) (x : S1x128x128.Idx)
    (r l : Fin 128) (hr : (r : ℕ) = x 1) (hl : (l : ℕ) = x 2)
    (σ w : Fin 256 → EReal) (hs : ∀ j, (∑ d, q (ix2 r (hlane l d)) * k (ix2 j (hlane l d))) + b (ix2 (hrow r l) j) = σ j)
    (hw : ∀ j, v (ix2 j l) = w j) : shapeCast S1x128x128 (outv (scores b q k) v) shapeCasts_S128x128_S1x128x128 x = rowOut σ w := by
  rw [← cell_out b q k v r l σ w hs hw, show r = x 1 from Fin.ext hr, show l = x 2 from Fin.ext hl]
  pointwise

theorem keyrd_own (X : (⟨3, ![1, 512, 512]⟩ : Shape).Idx → EReal) (P : (⟨3, ![1, 128, 512]⟩ : Shape).Idx → EReal) (j c : ℕ)
    (i : (⟨3, ![1, 512, 512]⟩ : Shape).Idx) (h1 : (i 1 : ℕ) + 128 = j) (h2 : (i 2 : ℕ) = c) : X i = keyrd X P j c := by
  unfold keyrd
  rw [if_neg (by omega)]
  exact eq_rd3 _ _ _ _ _ (Nat.lt_one_iff.mp (i 0).2) (by omega) h2

theorem keyrd_both (X : (⟨3, ![1, 512, 512]⟩ : Shape).Idx → EReal) (P : (⟨3, ![1, 128, 512]⟩ : Shape).Idx → EReal) (j c k : ℕ)
    (i : k < 128 → (⟨3, ![1, 128, 512]⟩ : Shape).Idx) (i' : ¬ k < 128 → (⟨3, ![1, 512, 512]⟩ : Shape).Idx) (hk : k = j)
    (h1 : ∀ h, (i h 1 : ℕ) = j) (h2 : ∀ h, (i h 2 : ℕ) = c)
    (h1' : ∀ h, (i' h 1 : ℕ) + 128 = j) (h2' : ∀ h, (i' h 2 : ℕ) = c) :
    (if h : k < 128 then P (i h) else X (i' h)) = keyrd X P j c := by
  subst hk
  split
  · next h =>
    unfold keyrd
    rw [if_pos h]
    exact eq_rd3 _ _ _ _ _ (Nat.lt_one_iff.mp (i h 0).2) (h1 h) (h2 h)
  · next h => exact keyrd_own X P _ c _ (h1' h) (h2' h)

/-- Which head pair's log-sum-exp a lane carries. -/
abbrev grp : IVec S1x128 32 := k0_pay8 (Scalar.select (Scalar.cmpi .eq 4#32 0#32) 1#32 4#32) k0_pay5 k0_pay6 k0_pay7

theorem grp_at (l : Fin 128) (n : BitVec 32) (hn : n.toNat < 4) :
    IntOp.cmpi CmpIPredicate.eq (grp (ix2 0 l)) n = if (l : ℕ) / 16 % 4 = n.toNat then 1#1 else 0#1 := by
  have h : ∀ l : Fin 128, ∀ k : Fin 4, IntOp.cmpi CmpIPredicate.eq (grp (ix2 0 l)) (BitVec.ofNat 32 k) = if (l : ℕ) / 16 % 4 = k then 1#1 else 0#1 := by
    decide +kernel
  have := h l ⟨n.toNat, hn⟩
  simpa using this

/-- One pair's log-sum-exps put into its lanes. -/
def put (n : BitVec 32) (a b : FVec Ideal S128x128 .f32) : FVec Ideal S128x128 .f32 :=
  select (broadcastTo S128x128 (shapeCast S1x128 (cmpi .eq grp (broadcast S1x128 n)) shapeCasts_S1x128_S1x128) broadcasts_S1x128_S128x128) a b

theorem put_at (n : BitVec 32) (hn : n.toNat < 4) (a b : FVec Ideal S128x128 .f32) (r l : Fin 128) :
    put n a b (ix2 r l) = if (l : ℕ) / 16 % 4 = n.toNat then a (ix2 r l) else b (ix2 r l) := by
  pointwise [put]
  rw [grp_at l n hn]
  by_cases h : (l : ℕ) / 16 % 4 = n.toNat
  · simp [h, Scalar.select]
  · simp [h, Scalar.select]

/-- A lane of the packed log-sum-exps. -/
theorem pack_at (b0 b1 b2 b3 : FVec Ideal S256x256 .f32) (q0 q1 q2 q3 : FVec Ideal S128x128 .bf16) (k0 k1 k2 k3 v0 v1 v2 v3 : FVec Ideal S256x128 .bf16) (r l : Fin 128) (σ : Fin 256 → EReal)
    (hs0 : (l : ℕ) / 16 % 4 = 0 → ∀ j, (∑ d, q0 (ix2 r (hlane l d)) * k0 (ix2 j (hlane l d))) + b0 (ix2 (hrow r l) j) = σ j)
    (hs1 : (l : ℕ) / 16 % 4 = 1 → ∀ j, (∑ d, q1 (ix2 r (hlane l d)) * k1 (ix2 j (hlane l d))) + b1 (ix2 (hrow r l) j) = σ j)
    (hs2 : (l : ℕ) / 16 % 4 = 2 → ∀ j, (∑ d, q2 (ix2 r (hlane l d)) * k2 (ix2 j (hlane l d))) + b2 (ix2 (hrow r l) j) = σ j)
    (hs3 : (l : ℕ) / 16 % 4 = 3 → ∀ j, (∑ d, q3 (ix2 r (hlane l d)) * k3 (ix2 j (hlane l d))) + b3 (ix2 (hrow r l) j) = σ j) :
    (put 3#32 (lsev (scores b3 q3 k3) v3) (put 2#32 (lsev (scores b2 q2 k2) v2) (put 1#32 (lsev (scores b1 q1 k1) v1)
      (lsev (scores b0 q0 k0) v0)))) (ix2 r l) = rowLse σ := by
  rw [put_at _ (by decide), put_at _ (by decide), put_at _ (by decide)]
  have hl : (l : ℕ) / 16 % 4 < 4 := Nat.mod_lt _ (by decide)
  split
  · next h => exact cell_lse _ _ _ _ _ _ _ (hs3 h)
  split
  · next h => exact cell_lse _ _ _ _ _ _ _ (hs2 h)
  split
  · next h => exact cell_lse _ _ _ _ _ _ _ (hs1 h)
  · next h3 h2 h1 =>
    refine cell_lse _ _ _ _ _ _ _ (hs0 ?_)
    have h3' : ¬ (l : ℕ) / 16 % 4 = 3 := h3
    have h2' : ¬ (l : ℕ) / 16 % 4 = 2 := h2
    have h1' : ¬ (l : ℕ) / 16 % 4 = 1 := h1
    omega

/-- A stored row block of the packed log-sum-exps. -/
theorem piece_lse (b0 b1 b2 b3 : FVec Ideal S256x256 .f32) (q0 q1 q2 q3 : FVec Ideal S128x128 .bf16) (k0 k1 k2 k3 v0 v1 v2 v3 : FVec Ideal S256x128 .bf16) (x : S1x128x128.Idx)
    (r l : Fin 128) (hr : (r : ℕ) = x 1) (hl : (l : ℕ) = x 2) (σ : Fin 256 → EReal)
    (hs0 : (l : ℕ) / 16 % 4 = 0 → ∀ j, (∑ d, q0 (ix2 r (hlane l d)) * k0 (ix2 j (hlane l d))) + b0 (ix2 (hrow r l) j) = σ j)
    (hs1 : (l : ℕ) / 16 % 4 = 1 → ∀ j, (∑ d, q1 (ix2 r (hlane l d)) * k1 (ix2 j (hlane l d))) + b1 (ix2 (hrow r l) j) = σ j)
    (hs2 : (l : ℕ) / 16 % 4 = 2 → ∀ j, (∑ d, q2 (ix2 r (hlane l d)) * k2 (ix2 j (hlane l d))) + b2 (ix2 (hrow r l) j) = σ j)
    (hs3 : (l : ℕ) / 16 % 4 = 3 → ∀ j, (∑ d, q3 (ix2 r (hlane l d)) * k3 (ix2 j (hlane l d))) + b3 (ix2 (hrow r l) j) = σ j) :
    shapeCast S1x128x128 (put 3#32 (lsev (scores b3 q3 k3) v3) (put 2#32 (lsev (scores b2 q2 k2) v2) (put 1#32 (lsev (scores b1 q1 k1) v1)
      (lsev (scores b0 q0 k0) v0)))) shapeCasts_S128x128_S1x128x128 x = rowLse σ := by
  have e : ∀ A : FVec Ideal S128x128 .f32, shapeCast S1x128x128 A shapeCasts_S128x128_S1x128x128 x = A (ix2 r l) := by
    intro A; rw [show r = x 1 from Fin.ext hr, show l = x 2 from Fin.ext hl]; pointwise
  exact (e _).trans (pack_at _ _ _ _ _ _ _ _ _ _ _ _ _ _ _ _ r l σ hs0 hs1 hs2 hs3)

theorem hlane_val (l : Fin 128) (d : Fin 64) : (hlane l d : ℕ) = 64 * (l / 64) + d := rfl

theorem hrow_val (r l : Fin 128) : (hrow r l : ℕ) = r + if (l : ℕ) < 64 then 0 else 128 := by
  unfold hrow
  split
  · simp
  · simp; omega

attribute [irreducible] hrow hlane

/-- The bias table of a query block: the second for the first block of rows of a sequence's first tile. -/
def tab (first : Prop) [Decidable first] (R : ℕ) : ℕ := if R < 128 ∧ first then 1 else 0

theorem tab_rest (first : Prop) [Decidable first] (R : ℕ) (h : 128 ≤ R) : 0 = tab first R := by
  unfold tab; rw [if_neg (by omega)]

theorem tab_first (first : Prop) [Decidable first] (R : ℕ) (h : R < 128) : (if first then 1 else 0) = tab first R := by
  unfold tab; simp only [h, true_and]

/-- The readers, their coordinates as numbers. -/
theorem rd3_of {n0 n1 n2 : ℕ} (X : (⟨3, ![n0, n1, n2]⟩ : Shape).Idx → EReal) (a b c a' b' c' : ℕ) (ha : a < n0) (hb : b < n1) (hc : c < n2)
    (ea : a = a') (eb : b = b') (ec : c = c') : X (ix3 ⟨a, ha⟩ ⟨b, hb⟩ ⟨c, hc⟩) = rd3 X a' b' c' :=
  eq_rd3 X _ _ _ _ ea eb ec

theorem keyrd_of (X : (⟨3, ![1, 512, 512]⟩ : Shape).Idx → EReal) (P : (⟨3, ![1, 128, 512]⟩ : Shape).Idx → EReal) (b c j' c' : ℕ)
    (hb : b < 512) (hc : c < 512) (eb : b + 128 = j') (ec : c = c') : X (ix3 0 ⟨b, hb⟩ ⟨c, hc⟩) = keyrd X P j' c' :=
  keyrd_own X P _ _ _ eb ec

theorem keyrd_of_both (X : (⟨3, ![1, 512, 512]⟩ : Shape).Idx → EReal) (P : (⟨3, ![1, 128, 512]⟩ : Shape).Idx → EReal) (k : ℕ) (j' c' : ℕ)
    (A : k < 128 → EReal) (B : ¬ k < 128 → EReal) (ek : k = j') (hA : ∀ h, A h = rd3 P 0 j' c') (hB : ∀ h, B h = rd3 X 0 (j' - 128) c') :
    (if h : k < 128 then A h else B h) = keyrd X P j' c' := by
  subst ek
  unfold keyrd
  split
  · next h => rw [hA h]
  · next h => rw [hB h]

theorem hrow_eq (r l : Fin 128) (R C : ℕ) (hr : (r : ℕ) = R % 128) (hl : (l : ℕ) = C % 128) :
    (hrow r l : ℕ) = R % 128 + if C % 128 < 64 then 0 else 128 := by
  rw [hrow_val, hr, hl]

end Cert.Attn

end
-- ==== Proof.Attn.Block1.lean ====
/- What the first attention call leaves in its blocks. -/
module

public import proofs.«01_k».proof.Proof.Gen.Attn1Ideal.Frame
public import proofs.«01_k».proof.Proof.Attn.Cell
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Attn1Ideal Cert.Attn1Ideal.Gen

namespace Cert.Attn

variable (m : (ℓ : Loc nD τ sig) → Buf (Elt Ideal) ℓ)

theorem off1 : ∀ t : Fin cfg0.N, k0_off1 (grid0.coords t) 0 = (if (grid0.coords t 1 : ℕ) = 0 then 1 else 0)
    ∧ k0_off1 (grid0.coords t) 1 = 0 ∧ k0_off1 (grid0.coords t) 2 = 0 := by decide +kernel

set_option maxHeartbeats 2000000 in
/-- An entry of the output block: the softmax-weighted sum of the values at its row's keys. -/
theorem block1_out (c : Dev nD) (t : Fin cfg0.N) (y : S1x512x512.Idx) :
    (outsAt0 (F := Ideal) m c t).1 y = rowOut (scoreRow (iblk m c 0 t) (iblk m c 1 t) (iblk m c 2 t) (iblk m c 4 t) (tab ((grid0.coords t 1 : ℕ) = 0) (y 1)) (y 1) (y 2))
      (vals (iblk m c 3 t) (iblk m c 5 t) (y 1) (y 2)) := by
  have o := off1 t
  unfold outsAt0
  frame_out
  canon_tiles x h
  all_goals
    obtain ⟨r, hr⟩ : ∃ r : Fin 128, (r : ℕ) = x 1 := ⟨⟨_, x1_lt⟩, rfl⟩
    obtain ⟨l, hl⟩ : ∃ l : Fin 128, (l : ℕ) = x 2 := ⟨⟨_, x2_lt⟩, rfl⟩
    refine piece_out _ _ _ _ x r l hr hl _ _ (fun j => eq_scoreRow _ _ _ _ _ _ _ _ _ _ _ (fun d => ?_) (fun d => ?_) ?_) (fun j => ?_)
  all_goals
    open_payloads
    pointwise
    first
    | (refine rd3_of _ _ _ _ _ _ _ _ _ _ rfl ?_ ?_
       · omega
       · rw [hlane_val]; omega)
    | (refine keyrd_of _ _ _ _ _ _ _ _ ?_ ?_
       · omega
       · first | omega | (rw [hlane_val]; omega))
    | (refine keyrd_of_both _ _ _ _ _ _ _ ?_ (fun hk => rd3_of _ _ _ _ _ _ _ _ _ _ rfl ?_ ?_) (fun hk => rd3_of _ _ _ _ _ _ _ _ _ _ rfl ?_ ?_)
       · omega
       · omega
       · first | omega | (rw [hlane_val]; omega)
       · omega
       · first | omega | (rw [hlane_val]; omega))
    | (refine rd3_of _ _ _ _ _ _ _ _ _ _ ?_ ?_ ?_
       · exact tab_rest _ _ (by omega)
       · exact hrow_eq _ _ _ _ (by omega) (by omega)
       · omega)
    | (refine rd3_of _ _ _ _ _ _ _ _ _ _ ?_ ?_ ?_
       · exact o.1.trans (tab_first _ _ (by omega))
       · rw [o.2.1, Nat.zero_add]; exact hrow_eq _ _ _ _ (by omega) (by omega)
       · rw [o.2.2]; omega)

set_option maxHeartbeats 2000000 in
/-- A lane of the packed log-sum-exps: that of the head whose lanes it stands for. -/
theorem block1_lse (c : Dev nD) (t : Fin cfg0.N) (y : S1x512x128.Idx) :
    (outsAt0 (F := Ideal) m c t).2 y = rowLse (scoreRow (iblk m c 0 t) (iblk m c 1 t) (iblk m c 2 t) (iblk m c 4 t) (tab ((grid0.coords t 1 : ℕ) = 0) (y 1)) (y 1)
      (128 * ((y 2 : ℕ) / 16 % 4) + y 2)) := by
  have o := off1 t
  unfold outsAt0
  frame_out
  canon_tiles x h
  all_goals
    obtain ⟨r, hr⟩ : ∃ r : Fin 128, (r : ℕ) = x 1 := ⟨⟨_, x1_lt⟩, rfl⟩
    obtain ⟨l, hl⟩ : ∃ l : Fin 128, (l : ℕ) = x 2 := ⟨⟨_, x2_lt⟩, rfl⟩
    refine piece_lse _ _ _ _ _ _ _ _ _ _ _ _ _ _ _ _ x r l hr hl _ (fun hg j => eq_scoreRow _ _ _ _ _ _ _ _ _ _ _ (fun d => ?_) (fun d => ?_) ?_)
      (fun hg j => eq_scoreRow _ _ _ _ _ _ _ _ _ _ _ (fun d => ?_) (fun d => ?_) ?_) (fun hg j => eq_scoreRow _ _ _ _ _ _ _ _ _ _ _ (fun d => ?_) (fun d => ?_) ?_)
      (fun hg j => eq_scoreRow _ _ _ _ _ _ _ _ _ _ _ (fun d => ?_) (fun d => ?_) ?_)
  all_goals
    open_payloads
    pointwise
    first
    | (refine rd3_of _ _ _ _ _ _ _ _ _ _ rfl ?_ ?_
       · omega
       · rw [hlane_val]; omega)
    | (refine keyrd_of _ _ _ _ _ _ _ _ ?_ ?_
       · omega
       · first | omega | (rw [hlane_val]; omega))
    | (refine keyrd_of_both _ _ _ _ _ _ _ ?_ (fun hk => rd3_of _ _ _ _ _ _ _ _ _ _ rfl ?_ ?_) (fun hk => rd3_of _ _ _ _ _ _ _ _ _ _ rfl ?_ ?_)
       · omega
       · omega
       · first | omega | (rw [hlane_val]; omega)
       · omega
       · first | omega | (rw [hlane_val]; omega))
    | (refine rd3_of _ _ _ _ _ _ _ _ _ _ ?_ ?_ ?_
       · exact tab_rest _ _ (by omega)
       · exact hrow_eq _ _ _ _ (by omega) (by omega)
       · omega)
    | (refine rd3_of _ _ _ _ _ _ _ _ _ _ ?_ ?_ ?_
       · exact o.1.trans (tab_first _ _ (by omega))
       · rw [o.2.1, Nat.zero_add]; exact hrow_eq _ _ _ _ (by omega) (by omega)
       · rw [o.2.2]; omega)

end Cert.Attn

end
-- ==== Proof.Attn.Spec.lean ====
/- One branch of the dilated attention, each coordinate a natural number, and the equation of a row. -/
module

public import proofs.«01_k».proof.Proof.Math.Reals
public import proofs.«01_k».proof.Proof.Attn.Cell

@[expose] public section

set_option maxRecDepth 16384

noncomputable section

open Idealize.ShloMosaic Cert.Math

namespace Cert.Attn

/-- Arrays of tokens: batch, token, column. -/
abbrev Toks : Type := (⟨3, ![4, 8192, 512]⟩ : Shape).Idx → EReal

/-- Key `j` of 256 is in the band of query `row` of block `nb`, and not before the sequence. -/
abbrev ok (nb row j : ℕ) : Prop := (j ≤ row + 128 ∧ row ≤ j) ∧ 128 ≤ nb * 128 + j

/-- The product of a query and a key of head `h`, in residue class `cc` of dilation `r`. -/
def dots (r : ℕ) (Q K : Toks) (b cc nb row h j : ℕ) : EReal :=
  ∑ d : Fin 64, rd3 Q b ((nb * 128 + row) * r + cc) (64 * h + d) * rd3 K b ((nb * 128 + j - 128) * r + cc) (64 * h + d)

/-- The masked scores of a query. -/
def score (r : ℕ) (Q K : Toks) (b cc nb row h : ℕ) (j : Fin 256) : EReal :=
  if ok nb row j then dots r Q K b cc nb row h j else ⊥

/-- The values of column `c` at the keys of block `nb`, zero before the sequence. -/
def value (r : ℕ) (V : Toks) (b cc nb c : ℕ) (j : Fin 256) : EReal :=
  if nb * 128 + (j : ℕ) < 128 then 0 else rd3 V b ((nb * 128 + j - 128) * r + cc) c

/-- The values weighted by the softmax of the scores. -/
def softOut (σ w : Fin 256 → EReal) : EReal :=
  ∑ j, w j * Ideal.div (Ideal.exp (σ j - Finset.fold max ⊥ σ Finset.univ)) (∑ j, Ideal.exp (σ j - Finset.fold max ⊥ σ Finset.univ))

/-- Every entry of an array is a real number. -/
def AllFin (X : Toks) : Prop := ∀ i, Fin' (X i)

theorem AllFin.rd {X : Toks} (h : AllFin X) (a b c : ℕ) : Fin' (rd3 X a b c) := by
  unfold rd3
  split
  · exact h _
  · exact Fin'.zero

/-- A row of the kernel's form against the softmax's, over masked real scores. -/
theorem row_eq (r : ℕ) (Q K V : Toks) (hQ : AllFin Q) (hK : AllFin K) (b cc nb row h c : ℕ) (hr : row < 128)
    (σ w : Fin 256 → EReal) (hσ : ∀ j, σ j = score r Q K b cc nb row h j)
    (hw : ∀ j : Fin 256, 128 ≤ nb * 128 + (j : ℕ) → w j = value r V b cc nb c j) :
    rowOut σ w = softOut (score r Q K b cc nb row h) (value r V b cc nb c) := by
  have hd : ∀ j : Fin 256, Fin' (dots r Q K b cc nb row h j) := fun j =>
    Fin'.sum _ fun d _ => (hQ.rd _ _ _).mul (hK.rd _ _ _)
  obtain rfl : σ = score r Q K b cc nb row h := funext hσ
  obtain ⟨M, e, hM, he, h0, hpos⟩ := soft_row (fun j : Fin 256 => dots r Q K b cc nb row h j) (fun j : Fin 256 => ok nb row j)
    (fun j _ => hd j) ⟨⟨row + 128, by omega⟩, ⟨le_rfl, by simp⟩, by show 128 ≤ nb * 128 + (row + 128); omega⟩
  have hm : masked (fun j : Fin 256 => dots r Q K b cc nb row h j) (fun j : Fin 256 => ok nb row j) = score r Q K b cc nb row h := by
    funext j; rfl
  rw [hm] at hM he
  unfold rowOut softOut
  rw [hM]
  simp only [he, coe_sum]
  exact weighted e hpos w (value r V b cc nb c) (fun j => ok nb row j) h0 (fun j hj => hw j hj.2)

theorem rd3_congr {n0 n1 n2 : ℕ} (X : (⟨3, ![n0, n1, n2]⟩ : Shape).Idx → EReal) {a b c a' b' c' : ℕ} (ha : a = a') (hb : b = b') (hc : c = c') :
    rd3 X a b c = rd3 X a' b' c' := by subst ha hb hc; rfl

end Cert.Attn

end
-- ==== Proof.Attn.Bits.lean ====
/- The band mask as bits. -/
module

public import proofs.«01_k».proof.Proof.Attn.Spec

@[expose] public section

set_option maxRecDepth 16384

noncomputable section

open Idealize.ShloMosaic Cert.Math

namespace Cert.Attn

set_option maxHeartbeats 2000000 in
theorem band_bits : ∀ (row : Fin 128) (j : Fin 256),
    IntOp.andi (IntOp.cmpi CmpIPredicate.sge (IntOp.subi (IntOp.addi (BitVec.ofNat 32 ↑row) 128#32) (BitVec.ofNat 32 ↑j)) 0#32)
      (IntOp.cmpi CmpIPredicate.sle (IntOp.subi (IntOp.addi (BitVec.ofNat 32 ↑row) 128#32) (BitVec.ofNat 32 ↑j)) 128#32)
      = if (j : ℕ) ≤ row + 128 ∧ (row : ℕ) ≤ j then 1#1 else 0#1 := by decide +kernel

theorem start_bits : ∀ (nb : Fin 64) (j : Fin 256),
    IntOp.cmpi CmpIPredicate.sge (IntOp.addi (IntOp.subi (IntOp.muli (BitVec.ofNat 32 ↑nb) 128#32) 128#32) (BitVec.ofNat 32 ↑j)) 0#32
      = if 128 ≤ (nb : ℕ) * 128 + j then 1#1 else 0#1 := by decide +kernel

theorem half_bits : ∀ j : Fin 256, IntOp.cmpi CmpIPredicate.sge (BitVec.ofNat 32 ↑j) 128#32 = if 128 ≤ (j : ℕ) then 1#1 else 0#1 := by
  decide +kernel

theorem and_bits (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem select_bits {α : Type} (p : Prop) [Decidable p] (x y : α) : Scalar.select (if p then 1#1 else 0#1) x y = if p then x else y := by
  by_cases hp : p <;> simp [hp, Scalar.select]

theorem int_zero : FloatOps.sitofp (F := Ideal) FTy.f32 (0#32) = (0 : EReal) := by
  show (((BitVec.toInt (0#32) : ℤ) : ℝ) : EReal) = 0
  simp

end Cert.Attn

end
-- ==== Proof.Attn.Mask.lean ====
/- A tile's scores and values against the branch's. -/
module

public import proofs.«01_k».proof.Proof.Attn.Bits

@[expose] public section

set_option maxRecDepth 16384

noncomputable section

open Idealize.ShloMosaic Cert.Math

namespace Cert.Attn

/-- A row of a tile's scores is the branch's, its reads and its bias being so. -/
theorem scoreRow_eq (r : ℕ) (Q K : Toks) (b cc nb row h : ℕ) (x0 : (⟨3, ![2, 256, 256]⟩ : Shape).Idx → EReal)
    (x1 x2 : (⟨3, ![1, 512, 512]⟩ : Shape).Idx → EReal) (x4 : (⟨3, ![1, 128, 512]⟩ : Shape).Idx → EReal) (w R C : ℕ)
    (hq : ∀ d : Fin 64, rd3 x1 0 R (64 * (C / 64) + d) = rd3 Q b ((nb * 128 + row) * r + cc) (64 * h + d))
    (hk : ∀ j : Fin 256, 128 ≤ nb * 128 + (j : ℕ) → ∀ d : Fin 64,
      keyrd x2 x4 (128 * (R / 128) + j) (64 * (C / 64) + d) = rd3 K b ((nb * 128 + j - 128) * r + cc) (64 * h + d))
    (hb : ∀ j : Fin 256, rd3 x0 w (R % 128 + if C % 128 < 64 then 0 else 128) j = if ok nb row j then 0 else ⊥) (j : Fin 256) :
    scoreRow x0 x1 x2 x4 w R C j = score r Q K b cc nb row h j := by
  unfold scoreRow score dots
  rw [hb j]
  by_cases hj : ok nb row j
  · rw [if_pos hj, if_pos hj, add_zero]
    exact Finset.sum_congr rfl fun d _ => by rw [hq d, hk j hj.2 d]
  · rw [if_neg hj, if_neg hj, EReal.add_bot]

end Cert.Attn

end
-- ==== Proof.Attn.Table1.lean ====
/- The bias table the first attention call is given. -/
module

public import proofs.«01_k».proof.Proof.Gen.Attn1Ideal.Frame
public import proofs.«01_k».proof.Proof.Attn.Mask
public import Idealize.ShloMosaic.Lib.StableHlo.ReadAt

@[expose] public section

set_option maxRecDepth 16384

noncomputable section

open Idealize.ShloMosaic Idealize.ShloMosaic.TcCoe Idealize.SL.Sem
open Cert.Attn1Ideal Cert.Attn1Ideal.Gen

namespace Cert.Attn

variable (m : (ℓ : Loc nD τ sig) → Buf (Elt Ideal) ℓ)

/-- The two tables from their masks: nothing added where the mask holds, minus infinity elsewhere. -/
theorem table1_of (A B : (⟨S1x128x256, .i1⟩ : BufTy).Contents (Elt Ideal)) (j : Fin 256)
    (hA : ∀ (z : Fin 1) (R : Fin 128), A (ix3 z R j) = if (j : ℕ) ≤ R + 128 ∧ (R : ℕ) ≤ j then 1#1 else 0#1)
    (hB : ∀ (z : Fin 1) (R : Fin 128), B (ix3 z R j) = if ((j : ℕ) ≤ R + 128 ∧ (R : ℕ) ≤ j) ∧ 128 ≤ (j : ℕ) then 1#1 else 0#1)
    (w : Fin 2) (R : Fin 128) :
    id (select (concatenate S2x128x256 0 [⟨S1x128x256, A⟩, ⟨S1x128x256, B⟩] concatenates_S1x128x256_S1x128x256_S2x128x256_d0)
        (broadcastInDim S2x128x256 ![] bcast_S_S2x128x256 (constant (F := Ideal) S_ FTy.f32 0#32))
        (broadcastInDim S2x128x256 ![] bcast_S_S2x128x256 (constant (F := Ideal) S_ FTy.f32 4286578688#32))) (ix3 w R j)
      = if ((j : ℕ) ≤ R + 128 ∧ (R : ℕ) ≤ j) ∧ ((w : ℕ) = 0 ∨ 128 ≤ (j : ℕ)) then (0 : EReal) else (⊥ : EReal) := by
  rw [id_eq]
  pointwise
  rw [neg_inf]
  by_cases hw : (w : ℕ) < 1
  · rw [dif_pos hw, hA, select_bits]
    exact if_congr (by omega) rfl rfl
  · rw [dif_neg hw, hB, select_bits]
    exact if_congr (by omega) rfl rfl

set_option maxHeartbeats 2000000 in
theorem table1_at (c : Dev nD) (w : Fin 2) (R j : Fin 256) :
    (V m c main_v23 : (⟨3, ![2, 256, 256]⟩ : Shape).Idx → EReal) (ix3 w R j)
      = if ((j : ℕ) ≤ (R : ℕ) % 128 + 128 ∧ (R : ℕ) % 128 ≤ j) ∧ ((w : ℕ) = 0 ∨ 128 ≤ (j : ℕ)) then (0 : EReal) else (⊥ : EReal) := by
  have h18 : ∀ (z : Fin 1) (R : Fin 128), (V m c main_v18 : (⟨3, ![1, 128, 256]⟩ : Shape).Idx → BitVec 1) (ix3 z R j)
      = if (j : ℕ) ≤ R + 128 ∧ (R : ℕ) ≤ j then 1#1 else 0#1 := fun z R => by
    show StableHlo.after (List.flatten [hostOps0, hostOps0_1, hostOps0_2]) (fun b => m (c, b)) main_v18 (ix3 z R j) = _
    after_reads_at
    exact band_bits R j
  have h19 : ∀ (z : Fin 1) (R : Fin 128), (V m c main_v19 : (⟨3, ![1, 128, 256]⟩ : Shape).Idx → BitVec 1) (ix3 z R j)
      = if ((j : ℕ) ≤ R + 128 ∧ (R : ℕ) ≤ j) ∧ 128 ≤ (j : ℕ) then 1#1 else 0#1 := fun z R => by
    show StableHlo.after (List.flatten [hostOps0, hostOps0_1, hostOps0_2]) (fun b => m (c, b)) main_v19 (ix3 z R j) = _
    after_reads_at
    rw [band_bits R j, half_bits, and_bits]
  have e18 : V m c main_v18 = StableHlo.upto [hostOps0, hostOps0_1, hostOps0_2].flatten (fun b => m (c, b)) 24 (Proc.tc.devRef main_v18) := by
    show StableHlo.after (List.flatten [hostOps0, hostOps0_1, hostOps0_2]) (fun b => m (c, b)) main_v18 = _
    after_reads_simp
  have e19 : V m c main_v19 = StableHlo.upto [hostOps0, hostOps0_1, hostOps0_2].flatten (fun b => m (c, b)) 24 (Proc.tc.devRef main_v19) := by
    show StableHlo.after (List.flatten [hostOps0, hostOps0_1, hostOps0_2]) (fun b => m (c, b)) main_v19 = _
    after_reads_simp
  show StableHlo.after (List.flatten [hostOps0, hostOps0_1, hostOps0_2]) (fun b => m (c, b)) main_v23 (ix3 w R j) = _
  after_reads_at
  split
  · next h =>
    refine (table1_of _ _ j (fun z R => (congrFun e18.symm (ix3 z R j)).trans (h18 z R)) (fun z R => (congrFun e19.symm (ix3 z R j)).trans (h19 z R)) w ⟨R, h⟩).trans ?_
    rw [show (R : ℕ) % 128 = R by omega]
  · next h =>
    refine (table1_of _ _ j (fun z R => (congrFun e18.symm (ix3 z R j)).trans (h18 z R)) (fun z R => (congrFun e19.symm (ix3 z R j)).trans (h19 z R)) w ⟨R - 128, by omega⟩).trans ?_
    rw [show (R : ℕ) % 128 = R - 128 by omega]

end Cert.Attn

end
-- ==== Proof.Attn.Arr1.lean ====
/- The arrays the first attention call leaves. -/
module

public import proofs.«01_k».proof.Proof.Gen.Attn1Ideal.Value
public import proofs.«01_k».proof.Proof.Attn.Block1
public import proofs.«01_k».proof.Proof.Attn.Table1

@[expose] public section

set_option maxRecDepth 16384

noncomputable section

open Idealize.ShloMosaic Idealize.ShloMosaic.TcCoe Idealize.SL.Sem Cert.Math
open Idealize.ShloMosaic.Pipeline (Dat)
open Cert.Attn1Ideal Cert.Attn1Ideal.Gen

namespace Cert.Attn

variable (m : (ℓ : Loc nD τ sig) → Buf (Elt Ideal) ℓ)

theorem idx1_0 : ∀ t : Fin cfg0.N, win0_0.index t = ![0, 0, 0] := (by decide +kernel : ∀ t : Fin grid0.N, _)
theorem idx1_1 : ∀ t : Fin cfg0.N, win0_1.index t = ![(grid0.coords t 0 : ℕ), (grid0.coords t 1 : ℕ), 0] := (by decide +kernel : ∀ t : Fin grid0.N, _)
theorem idx1_2 : ∀ t : Fin cfg0.N, win0_2.index t = ![(grid0.coords t 0 : ℕ), (grid0.coords t 1 : ℕ), 0] := (by decide +kernel : ∀ t : Fin grid0.N, _)
theorem idx1_3 : ∀ t : Fin cfg0.N, win0_3.index t = ![(grid0.coords t 0 : ℕ), (grid0.coords t 1 : ℕ), 0] := (by decide +kernel : ∀ t : Fin grid0.N, _)
theorem idx1_4 : ∀ t : Fin cfg0.N, win0_4.index t = ![(grid0.coords t 0 : ℕ), (grid0.coords t 1 : ℕ) * 4 - 1, 0] := (by decide +kernel : ∀ t : Fin grid0.N, _)
theorem idx1_5 : ∀ t : Fin cfg0.N, win0_5.index t = ![(grid0.coords t 0 : ℕ), (grid0.coords t 1 : ℕ) * 4 - 1, 0] := (by decide +kernel : ∀ t : Fin grid0.N, _)
theorem idx1_6 : ∀ t : Fin cfg0.N, win0_6.index t = ![(grid0.coords t 0 : ℕ), (grid0.coords t 1 : ℕ), 0] := (by decide +kernel : ∀ t : Fin grid0.N, _)
theorem idx1_7 : ∀ t : Fin cfg0.N, win0_7.index t = ![(grid0.coords t 0 : ℕ), (grid0.coords t 1 : ℕ), 0] := (by decide +kernel : ∀ t : Fin grid0.N, _)
theorem crd1 : ∀ t : Fin cfg0.N, (grid0.coords t 0 : ℕ) < 4 ∧ (grid0.coords t 1 : ℕ) < 16 := (by decide +kernel : ∀ t : Fin grid0.N, _)

/-- The reads of the blocks, off the arrays at the region's entry. -/
theorem blk1_1 (c : Dev nD) (t : Fin cfg0.N) (R C : ℕ) (hR : R < 512) (hC : C < 512) :
    rd3 (iblk m c 1 t : (⟨3, ![1, 512, 512]⟩ : Shape).Idx → EReal) 0 R C
      = rd3 (V m c main_arg0 : Toks) (grid0.coords t 0) (512 * (grid0.coords t 1 : ℕ) + R) C := by
  rw [show rd3 (iblk m c 1 t : (⟨3, ![1, 512, 512]⟩ : Shape).Idx → EReal) 0 R C = (iblk m c 1 t) (ix3 0 ⟨R, hR⟩ ⟨C, hC⟩) from
    (rd3_of _ 0 R C 0 R C (by omega) hR hC rfl rfl rfl).symm]
  blk_simp [iblk, idx1_1]
  refine eq_rd3 _ _ _ _ _ ?_ ?_ ?_ <;> blk_simp [idx1_1]
  · exact Nat.add_zero _
  · show (grid0.coords t 1 : ℕ) * 512 + R = _; omega

theorem blk1_2 (c : Dev nD) (t : Fin cfg0.N) (R C : ℕ) (hR : R < 512) (hC : C < 512) :
    rd3 (iblk m c 2 t : (⟨3, ![1, 512, 512]⟩ : Shape).Idx → EReal) 0 R C
      = rd3 (V m c main_arg1 : Toks) (grid0.coords t 0) (512 * (grid0.coords t 1 : ℕ) + R) C := by
  rw [show rd3 (iblk m c 2 t : (⟨3, ![1, 512, 512]⟩ : Shape).Idx → EReal) 0 R C = (iblk m c 2 t) (ix3 0 ⟨R, hR⟩ ⟨C, hC⟩) from
    (rd3_of _ 0 R C 0 R C (by omega) hR hC rfl rfl rfl).symm]
  blk_simp [iblk, idx1_2]
  refine eq_rd3 _ _ _ _ _ ?_ ?_ ?_ <;> blk_simp [idx1_2]
  · exact Nat.add_zero _
  · show (grid0.coords t 1 : ℕ) * 512 + R = _; omega

theorem blk1_3 (c : Dev nD) (t : Fin cfg0.N) (R C : ℕ) (hR : R < 512) (hC : C < 512) :
    rd3 (iblk m c 3 t : (⟨3, ![1, 512, 512]⟩ : Shape).Idx → EReal) 0 R C
      = rd3 (V m c main_arg2 : Toks) (grid0.coords t 0) (512 * (grid0.coords t 1 : ℕ) + R) C := by
  rw [show rd3 (iblk m c 3 t : (⟨3, ![1, 512, 512]⟩ : Shape).Idx → EReal) 0 R C = (iblk m c 3 t) (ix3 0 ⟨R, hR⟩ ⟨C, hC⟩) from
    (rd3_of _ 0 R C 0 R C (by omega) hR hC rfl rfl rfl).symm]
  blk_simp [iblk, idx1_3]
  refine eq_rd3 _ _ _ _ _ ?_ ?_ ?_ <;> blk_simp [idx1_3]
  · exact Nat.add_zero _
  · show (grid0.coords t 1 : ℕ) * 512 + R = _; omega

theorem blk1_4 (c : Dev nD) (t : Fin cfg0.N) (R C : ℕ) (hR : R < 128) (hC : C < 512) :
    rd3 (iblk m c 4 t : (⟨3, ![1, 128, 512]⟩ : Shape).Idx → EReal) 0 R C
      = rd3 (V m c main_arg1 : Toks) (grid0.coords t 0) (128 * ((grid0.coords t 1 : ℕ) * 4 - 1) + R) C := by
  rw [show rd3 (iblk m c 4 t : (⟨3, ![1, 128, 512]⟩ : Shape).Idx → EReal) 0 R C = (iblk m c 4 t) (ix3 0 ⟨R, hR⟩ ⟨C, hC⟩) from
    (rd3_of _ 0 R C 0 R C (by omega) hR hC rfl rfl rfl).symm]
  blk_simp [iblk, idx1_4]
  refine eq_rd3 _ _ _ _ _ ?_ ?_ ?_ <;> blk_simp [idx1_4]
  · exact Nat.add_zero _
  · show ((grid0.coords t 1 : ℕ) * 4 - 1) * 128 + R = _; omega

theorem blk1_5 (c : Dev nD) (t : Fin cfg0.N) (R C : ℕ) (hR : R < 128) (hC : C < 512) :
    rd3 (iblk m c 5 t : (⟨3, ![1, 128, 512]⟩ : Shape).Idx → EReal) 0 R C
      = rd3 (V m c main_arg2 : Toks) (grid0.coords t 0) (128 * ((grid0.coords t 1 : ℕ) * 4 - 1) + R) C := by
  rw [show rd3 (iblk m c 5 t : (⟨3, ![1, 128, 512]⟩ : Shape).Idx → EReal) 0 R C = (iblk m c 5 t) (ix3 0 ⟨R, hR⟩ ⟨C, hC⟩) from
    (rd3_of _ 0 R C 0 R C (by omega) hR hC rfl rfl rfl).symm]
  blk_simp [iblk, idx1_5]
  refine eq_rd3 _ _ _ _ _ ?_ ?_ ?_ <;> blk_simp [idx1_5]
  · exact Nat.add_zero _
  · show ((grid0.coords t 1 : ℕ) * 4 - 1) * 128 + R = _; omega

theorem blk1_0 (c : Dev nD) (t : Fin cfg0.N) (w R C : ℕ) (hw : w < 2) (hR : R < 256) (hC : C < 256) :
    rd3 (iblk m c 0 t : (⟨3, ![2, 256, 256]⟩ : Shape).Idx → EReal) w R C
      = rd3 (V m c main_v23 : (⟨3, ![2, 256, 256]⟩ : Shape).Idx → EReal) w R C := by
  rw [show rd3 (iblk m c 0 t : (⟨3, ![2, 256, 256]⟩ : Shape).Idx → EReal) w R C = (iblk m c 0 t) (ix3 ⟨w, hw⟩ ⟨R, hR⟩ ⟨C, hC⟩) from
    (rd3_of _ w R C w R C hw hR hC rfl rfl rfl).symm]
  blk_simp [iblk, idx1_0]
  refine eq_rd3 _ _ _ _ _ ?_ ?_ ?_ <;> blk_simp [idx1_0]
  all_goals exact Nat.zero_add _

/-- A tile's scores are the branch's. -/
theorem tile1_score (c : Dev nD) (t : Fin cfg0.N) (R C : ℕ) (hR : R < 512) (hC : C < 512) (j : Fin 256) :
    scoreRow (iblk m c 0 t) (iblk m c 1 t) (iblk m c 2 t) (iblk m c 4 t) (tab ((grid0.coords t 1 : ℕ) = 0) R) R C j
      = score 1 (V m c main_arg0 : Toks) (V m c main_arg1 : Toks) (grid0.coords t 0) 0 (4 * (grid0.coords t 1 : ℕ) + R / 128) (R % 128) (C / 64) j := by
  refine scoreRow_eq 1 _ _ _ _ _ _ _ _ _ _ _ _ _ _ (fun d => ?_) (fun j hj d => ?_) (fun j => ?_) j
  · rw [blk1_1 m c t R _ hR (by omega)]
    exact rd3_congr _ rfl (by omega) rfl
  · unfold keyrd
    split
    · rw [blk1_4 m c t _ _ (by omega) (by omega)]
      exact rd3_congr _ rfl (by omega) rfl
    · rw [blk1_2 m c t _ _ (by omega) (by omega)]
      exact rd3_congr _ rfl (by omega) rfl
  · have hw : tab ((grid0.coords t 1 : ℕ) = 0) R < 2 := by unfold tab; split <;> omega
    have hr : (R % 128 + if C % 128 < 64 then 0 else 128) < 256 := by split <;> omega
    rw [blk1_0 m c t _ _ _ hw hr j.2, ← rd3_of _ _ _ _ _ _ _ hw hr j.2 rfl rfl rfl]
    refine (table1_at m c ⟨_, hw⟩ ⟨_, hr⟩ j).trans (if_congr ?_ rfl rfl)
    show ((j : ℕ) ≤ (R % 128 + if C % 128 < 64 then 0 else 128) % 128 + 128 ∧ (R % 128 + if C % 128 < 64 then 0 else 128) % 128 ≤ j)
      ∧ (tab ((grid0.coords t 1 : ℕ) = 0) R = 0 ∨ 128 ≤ (j : ℕ)) ↔ _
    rw [show (R % 128 + if C % 128 < 64 then 0 else 128) % 128 = R % 128 by split <;> omega]
    have e : tab ((grid0.coords t 1 : ℕ) = 0) R = 0 ↔ ¬ (R < 128 ∧ (grid0.coords t 1 : ℕ) = 0) := by unfold tab; split <;> simp [*]
    rw [e]
    unfold ok
    generalize (grid0.coords t 1 : ℕ) = i
    constructor
    · rintro ⟨h, h'⟩; exact ⟨h, by omega⟩
    · rintro ⟨h, h'⟩; exact ⟨h, by omega⟩

theorem tile1_value (c : Dev nD) (t : Fin cfg0.N) (R C : ℕ) (hR : R < 512) (hC : C < 512) (j : Fin 256)
    (hj : 128 ≤ (4 * (grid0.coords t 1 : ℕ) + R / 128) * 128 + (j : ℕ)) :
    vals (iblk m c 3 t) (iblk m c 5 t) R C j = value 1 (V m c main_arg2 : Toks) (grid0.coords t 0) 0 (4 * (grid0.coords t 1 : ℕ) + R / 128) C j := by
  unfold value vals keyrd
  rw [if_neg (show ¬ (4 * (grid0.coords t 1 : ℕ) + R / 128) * 128 + (j : ℕ) < 128 by omega)]
  split
  · rw [blk1_5 m c t _ _ (by omega) (by omega)]
    exact rd3_congr _ rfl (by omega) rfl
  · rw [blk1_3 m c t _ _ (by omega) (by omega)]
    exact rd3_congr _ rfl (by omega) rfl

/-- The first result: the branch's attended values. -/
theorem arr1_out (c : Dev nD) (hQ : AllFin (V m c main_arg0)) (hK : AllFin (V m c main_arg1)) :
    (dats (F := Ideal) m 0 c).arrAt 6 cfg0.N = fun i : S4x8192x512.Idx =>
      softOut (score 1 (V m c main_arg0 : Toks) (V m c main_arg1 : Toks) (i 0) 0 ((i 1 : ℕ) / 128) ((i 1 : ℕ) % 128) ((i 2 : ℕ) / 64))
        (value 1 (V m c main_arg2 : Toks) (i 0) 0 ((i 1 : ℕ) / 128) (i 2)) := by
  refine (dats m 0 c).arrAt_eq_of_covers 6 _ (by decide +kernel) fun t hf y => ?_
  blk_simp [idx1_6]
  rw [after0_6]
  refine (block1_out m c t y).trans ?_
  have h0 : (y 0 : ℕ) = 0 := by have : (y 0).val < 1 := (y 0).isLt; omega
  have h1 : (y 1 : ℕ) < 512 := (y 1).isLt
  have h2 : (y 2 : ℕ) < 512 := (y 2).isLt
  rw [row_eq 1 _ _ _ hQ hK (grid0.coords t 0) 0 (4 * (grid0.coords t 1 : ℕ) + (y 1 : ℕ) / 128) ((y 1 : ℕ) % 128) ((y 2 : ℕ) / 64) (y 2) (by omega) _ _
    (fun j => tile1_score m c t _ _ h1 h2 j) (fun j hj => tile1_value m c t _ _ h1 h2 j hj)]
  rw [show ((grid0.coords t 1 : ℕ) * 512 + (y 1 : ℕ)) / 128 = 4 * (grid0.coords t 1 : ℕ) + (y 1 : ℕ) / 128 by omega,
    show ((grid0.coords t 1 : ℕ) * 512 + (y 1 : ℕ)) % 128 = (y 1 : ℕ) % 128 by omega]

/-- The second result: the branch's log-sum-exps, by packed lanes. -/
theorem arr1_lse (c : Dev nD) :
    (dats (F := Ideal) m 0 c).arrAt 7 cfg0.N = fun i : S4x8192x128.Idx =>
      rowLse (score 1 (V m c main_arg0 : Toks) (V m c main_arg1 : Toks) (i 0) 0 ((i 1 : ℕ) / 128) ((i 1 : ℕ) % 128) ((i 2 : ℕ) / 16 % 4 * 2 + (i 2 : ℕ) / 64)) := by
  refine (dats m 0 c).arrAt_eq_of_covers 7 _ (by decide +kernel) fun t hf y => ?_
  blk_simp [idx1_7]
  rw [after0_7]
  refine (block1_lse m c t y).trans ?_
  have h0 : (y 0 : ℕ) = 0 := by have : (y 0).val < 1 := (y 0).isLt; omega
  have h1 : (y 1 : ℕ) < 512 := (y 1).isLt
  have h2 : (y 2 : ℕ) < 128 := (y 2).isLt
  refine congrArg rowLse (funext fun j => (tile1_score m c t _ _ h1 (by omega) j).trans ?_)
  rw [show ((grid0.coords t 1 : ℕ) * 512 + (y 1 : ℕ)) / 128 = 4 * (grid0.coords t 1 : ℕ) + (y 1 : ℕ) / 128 by omega,
    show ((grid0.coords t 1 : ℕ) * 512 + (y 1 : ℕ)) % 128 = (y 1 : ℕ) % 128 by omega,
    show (128 * ((y 2 : ℕ) / 16 % 4) + (y 2 : ℕ)) / 64 = (y 2 : ℕ) / 16 % 4 * 2 + (y 2 : ℕ) / 64 by omega]

end Cert.Attn

end
-- ==== Proof.Attn.Ref1.lean ====
/- What the reference of the first branch computes, entry by entry. -/
module

public import proofs.«01_k».proof.Proof.Gen.Branch1Ideal.Read
public import proofs.«01_k».proof.Proof.Attn.Mask

@[expose] public section

set_option maxRecDepth 16384

noncomputable section

open Idealize.ShloMosaic Idealize.ShloMosaic.TcCoe Idealize.SL.Sem
open Cert.Branch1Ideal Cert.Branch1Ideal.Gen Cert.Branch1Ideal.Read Cert.Math

namespace Cert.Attn.Ref1

variable (Q K V : Toks)

theorem heads_at (i : S4x8192x8x64.Idx) : val_main_v1 (F := Ideal) Q i = rd3 Q (i 0) (i 1) (64 * (i 2 : ℕ) + i 3) := by
  rw [val_main_v1_apply]
  have h0 : (i 0).val < 4 := (i 0).isLt
  have h1 : (i 1).val < 8192 := (i 1).isLt
  have h2 : (i 2).val < 8 := (i 2).isLt
  have h3 : (i 3).val < 64 := (i 3).isLt
  refine eq_rd3 Q _ _ _ _ ?_ ?_ ?_
  · show ((((i 0).val * 8192 + (i 1).val) * 8 + (i 2).val) * 64 + (i 3).val) / 4194304 = (i 0).val
    omega
  · show ((((i 0).val * 8192 + (i 1).val) * 8 + (i 2).val) * 64 + (i 3).val) / 512 % 8192 = (i 1).val
    omega
  · show ((((i 0).val * 8192 + (i 1).val) * 8 + (i 2).val) * 64 + (i 3).val) % 512 = 64 * (i 2).val + (i 3).val
    omega

/-- The tokens by residue class. -/
theorem split_at (n : Fin 4) (nb : Fin 64) (row : Fin 128) (h : Fin 8) (d : Fin 64) :
    val_main_v9 (F := Ideal) Q (ix5 n nb row h d) = rd3 Q ((n : ℕ) / 1) ((nb * 128 + row) * 1 + (n : ℕ) % 1) (64 * h + d) := by
  pointwise [val_main_v9, val_main_v8, val_main_v7, val_main_v6]
  rw [heads_at]
  refine rd3_congr Q ?_ ?_ ?_ <;> simp

theorem zero0 (i : S_.Idx) : val_main_call0_v0 (F := Ideal) i = (0 : EReal) := int_zero
theorem zero1 (i : S_.Idx) : val_main_call1_v0 (F := Ideal) i = (0 : EReal) := int_zero

/-- The keys of a block: the block before and the block itself, zeros before the sequence. -/
theorem keys_at (n : Fin 4) (nb : Fin 64) (j : Fin 256) (h : Fin 8) (d : Fin 64) :
    val_main_v22 (F := Ideal) K (ix5 n nb j h d) = value 1 K ((n : ℕ) / 1) ((n : ℕ) % 1) nb (64 * h + d) j := by
  have e := split_at K
  rw [show val_main_v9 (F := Ideal) K = val_main_v13 K from rfl] at e
  generalize hX : val_main_v13 (F := Ideal) K = X at e
  pointwise [val_main_v22, val_main_v19, val_main_v18, hX]
  simp only [e, zero0]
  unfold value
  split_ifs <;> first | rfl | (exfalso; omega) | (refine rd3_congr K ?_ ?_ ?_ <;> omega)

theorem values_at (n : Fin 4) (nb : Fin 64) (j : Fin 256) (h : Fin 8) (d : Fin 64) :
    val_main_v23 (F := Ideal) K (ix5 n nb j h d) = value 1 K ((n : ℕ) / 1) ((n : ℕ) % 1) nb (64 * h + d) j := by
  rw [show val_main_v23 (F := Ideal) K = val_main_v22 K from rfl, keys_at]

theorem scores_at (n : Fin 4) (nb : Fin 64) (h : Fin 8) (row : Fin 128) (j : Fin 256) :
    val_main_v58 (F := Ideal) Q K (ix5 n nb h row j) = score 1 Q K ((n : ℕ) / 1) ((n : ℕ) % 1) nb row h j := by
  have hY : val_main_v24 (F := Ideal) Q K (ix5 n nb h row j)
      = ∑ d : Fin 64, rd3 Q ((n : ℕ) / 1) ((nb * 128 + row) * 1 + (n : ℕ) % 1) (64 * h + d) * value 1 K ((n : ℕ) / 1) ((n : ℕ) % 1) nb (64 * h + d) j := by
    have e := split_at Q
    have e' := keys_at K
    generalize hX : val_main_v9 (F := Ideal) Q = X at e
    generalize hY : val_main_v22 (F := Ideal) K = Y at e'
    pointwise [val_main_v24, hX, hY]
    simp only [e, e', Nat.div_one, Nat.mod_one, Nat.mul_one, Nat.add_zero]
  generalize hX : val_main_v24 (F := Ideal) Q K = Y at hY
  pointwise [hX, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30,
    val_main_v29, val_main_v28, val_main_v27, val_main_v26, val_main_v25, val_main_call2_v0, val_main_call2_v1, val_main_call2_v2,
    val_main_c_1, val_main_c_2, val_main_c_3, val_main_c_4, val_main_c_5, val_main_c_6, val_main_cst]
  rw [band_bits, start_bits ⟨nb, by omega⟩ j, and_bits, select_bits]
  unfold score dots
  simp only [Nat.div_one, Nat.mod_one] at hY ⊢
  by_cases hj : ok nb row j
  swap
  · rw [if_neg hj, if_neg hj]; exact neg_inf
  have h1 := hj.2
  rw [if_pos hj, if_pos hj]
  refine hY.trans (Finset.sum_congr rfl fun d _ => ?_)
  unfold value
  rw [if_neg (by omega)]

end Cert.Attn.Ref1

end
-- ==== Proof.Attn.Ref1Out.lean ====
/- What the reference of the first branch computes, entry by entry: the softmax over its scores. -/
module

public import proofs.«01_k».proof.Proof.Gen.Branch1Ideal.Read
public import proofs.«01_k».proof.Proof.Attn.Mask

@[expose] public section

set_option maxRecDepth 16384

noncomputable section

open Idealize.ShloMosaic Idealize.ShloMosaic.TcCoe Idealize.SL.Sem
open Cert.Branch1Ideal Cert.Branch1Ideal.Gen Cert.Branch1Ideal.Read Cert.Math

namespace Cert.Attn.Ref1

variable (Q K V : Toks)

/-- The attended values of a token, by columns, over whatever the scores and the values are. -/
theorem out_soft (σ : ℕ → ℕ → ℕ → ℕ → Fin 256 → EReal) (ω : ℕ → ℕ → ℕ → Fin 256 → EReal)
    (e : ∀ (n : Fin 4) (nb : Fin 64) (h : Fin 8) (row : Fin 128) (j : Fin 256), val_main_v58 (F := Ideal) Q K (ix5 n nb h row j) = σ n nb row h j)
    (e' : ∀ (n : Fin 4) (nb : Fin 64) (j : Fin 256) (h : Fin 8) (d : Fin 64), val_main_v23 (F := Ideal) V (ix5 n nb j h d) = ω n nb (64 * h + d) j)
    (b : Fin 4) (t : Fin 8192) (c : Fin 512) :
    val_main_v88 (F := Ideal) Q K V (ix3 b t c)
      = softOut (σ b ((t : ℕ) / 128) ((t : ℕ) % 128) ((c : ℕ) / 64)) (ω b ((t : ℕ) / 128) c) := by
  generalize hS : val_main_v58 (F := Ideal) Q K = S at e
  generalize hW : val_main_v23 (F := Ideal) V = W at e'
  pointwise [val_main_v88, val_main_v87, val_main_v78, val_main_v77, val_main_v76, val_main_v75, val_main_v69, val_main_v68, val_main_v67,
    val_main_v66, val_main_v65, val_main_v64, val_main_v63, val_main_v62, val_main_v61, val_main_v60, val_main_v59, val_main_cst_7, val_main_cst_8, hS, hW]
  simp only [e, e', neg_inf]
  unfold softOut
  rw [show 64 * ((c : ℕ) / 64) + (c : ℕ) % 64 = c by omega]

end Cert.Attn.Ref1

end
-- ==== Proof.Attn.Ref1Lse.lean ====
/- What the reference of the first branch computes, entry by entry: the softmax over its scores. -/
module

public import proofs.«01_k».proof.Proof.Gen.Branch1Ideal.Read
public import proofs.«01_k».proof.Proof.Attn.Mask

@[expose] public section

set_option maxRecDepth 16384

noncomputable section

open Idealize.ShloMosaic Idealize.ShloMosaic.TcCoe Idealize.SL.Sem
open Cert.Branch1Ideal Cert.Branch1Ideal.Gen Cert.Branch1Ideal.Read Cert.Math

namespace Cert.Attn.Ref1

variable (Q K V : Toks)

/-- The log-sum-exps by packed lanes. -/
theorem lse_lanes (b : Fin 4) (t : Fin 8192) (l : Fin 128) :
    val_main_v89 (F := Ideal) Q K (ix3 b t l) = val_main_v74 (F := Ideal) Q K (ix3 b t ⟨(l : ℕ) / 16 % 4 * 2 + (l : ℕ) / 16 / 4, by omega⟩) := by
  generalize hS : val_main_v74 (F := Ideal) Q K = S
  pointwise [val_main_v89, val_main_v86, val_main_v85, val_main_v84, val_main_v83, val_main_v82, val_main_v81, val_main_v80, val_main_v79, hS]

theorem lse_heads (b : Fin 4) (t : Fin 8192) (h : Fin 8) :
    val_main_v74 (F := Ideal) Q K (ix3 b t h) = val_main_v72 (F := Ideal) Q K (ix4 b ⟨(t : ℕ) / 128, by omega⟩ h ⟨(t : ℕ) % 128, by omega⟩) := by
  generalize hS : val_main_v72 (F := Ideal) Q K = S
  pointwise [val_main_v74, val_main_v73, hS]

theorem lse_squeeze (n : Fin 4) (nb : Fin 64) (h : Fin 8) (row : Fin 128) :
    val_main_v72 (F := Ideal) Q K (ix4 n nb h row) = val_main_v71 (F := Ideal) Q K (ix5 n nb h row 0) := by
  generalize hS : val_main_v71 (F := Ideal) Q K = S
  pointwise [val_main_v72, hS]

theorem max_at (n : Fin 4) (nb : Fin 64) (h : Fin 8) (row : Fin 128) (σ : Fin 256 → EReal)
    (e : ∀ j : Fin 256, val_main_v58 (F := Ideal) Q K (ix5 n nb h row j) = σ j) :
    val_main_v59 (F := Ideal) Q K (ix4 n nb h row) = Finset.fold max ⊥ σ Finset.univ := by
  generalize hS : val_main_v58 (F := Ideal) Q K = S at e
  pointwise [val_main_v59, val_main_cst_7, hS]
  simp only [e, neg_inf]

theorem sum_at (n : Fin 4) (nb : Fin 64) (h : Fin 8) (row : Fin 128) (σ : Fin 256 → EReal)
    (e : ∀ j : Fin 256, val_main_v58 (F := Ideal) Q K (ix5 n nb h row j) = σ j) :
    val_main_v64 (F := Ideal) Q K (ix4 n nb h row) = ∑ j, Ideal.exp (σ j - Finset.fold max ⊥ σ Finset.univ) := by
  have hM := max_at Q K n nb h row σ e
  generalize hS : val_main_v58 (F := Ideal) Q K = S at e
  generalize hX : val_main_v59 (F := Ideal) Q K = M at hM
  pointwise [val_main_v64, val_main_v63, val_main_v62, val_main_v61, val_main_v60, val_main_cst_8, hX, hS]
  simp only [e, hM]

theorem lse_soft (n : Fin 4) (nb : Fin 64) (h : Fin 8) (row : Fin 128) (σ : Fin 256 → EReal)
    (e : ∀ j : Fin 256, val_main_v58 (F := Ideal) Q K (ix5 n nb h row j) = σ j) :
    val_main_v71 (F := Ideal) Q K (ix5 n nb h row 0) = rowLse σ := by
  have hi : idx_main_v60 (ix5 n nb h row 0) = ix4 n nb h row := by funext a; fin_cases a <;> rfl
  have hi' : idx_main_v65 (ix5 n nb h row 0) = ix4 n nb h row := by funext a; fin_cases a <;> rfl
  rw [val_main_v71_apply, val_main_v70_apply, val_main_v65_apply, val_main_v60_apply, hi, hi', max_at Q K n nb h row σ e, sum_at Q K n nb h row σ e]
  unfold rowLse
  rfl

end Cert.Attn.Ref1

end
-- ==== Proof.Attn.Finite.lean ====
/- The precondition read: every entry of the queries and the keys is a real number. -/
module

public import proofs.«01_k».proof.Proof.Gen.Pre_finite_qk
public import proofs.«01_k».proof.Proof.Attn.Spec
public import Idealize.ShloMosaic.Lib.ReduceAll

@[expose] public section

noncomputable section

open Idealize.ShloMosaic Cert.Math Cert.Pre_finite_qk

namespace Cert.Attn

theorem top_bits : Ideal.ofBits FTy.f32 2139095040#32 = ⊤ := by decide +kernel

/-- An absolute value under plus infinity is a real number's. -/
theorem fin_of_lt (x : EReal) (h : Ideal.cmp .olt (max x (-x)) ⊤ = 1#1) : Fin' x := by
  have h' : max x (-x) < ⊤ := by
    by_contra hn
    have : Ideal.cmp .olt (max x (-x)) ⊤ = 0#1 := by simp [Ideal.cmp, hn]
    rw [this] at h
    exact absurd h (by decide)
  induction x with
  | bot => simp at h'
  | coe r => exact Fin'.coe r
  | top => simp at h'

theorem allFin_of (X : FVec Ideal S4x8192x512 .bf16) (bits bc) (hr : S4x8192x512.ReducesTo [0, 1, 2] S_) (hs : 0 < S_.numel)
    (h : Host.reduce IntOp.andi (cmpf .olt (Host.absf (extf .f32 X bits : FVec Ideal S4x8192x512 .f32)) (broadcastInDim S4x8192x512 ![] bc (constant S_ .f32 0x7F800000#32)))
      (constantI S_ 1 1#1) hr hs = fun _ => 1#1) : AllFin X := fun i => by
  have e := Host.reduce_andi_all _ _ hr hs ix0 (congrFun h ix0) i
  refine fin_of_lt _ ?_
  rw [← top_bits]
  exact e

theorem and_ones (a b : IVec S_ 1) (h : andi a b = fun _ => 1#1) : a = (fun _ => 1#1) ∧ b = fun _ => 1#1 := by
  have h' : ∀ i, IntOp.andi (a i) (b i) = 1#1 := fun i => congrFun h i
  have k : ∀ c d : BitVec 1, IntOp.andi c d = 1#1 → c = 1#1 ∧ d = 1#1 := by decide
  exact ⟨funext fun i => (k _ _ (h' i)).1, funext fun i => (k _ _ (h' i)).2⟩

theorem fin_of_pre (X Y Z : FVec Ideal S4x8192x512 .bf16) (h : Cert.Pre_finite_qk.fn (F := Ideal) X Y Z = fun _ => 1#1) :
    AllFin X ∧ AllFin Y := by
  obtain ⟨h1, h2⟩ := and_ones _ _ h
  exact ⟨allFin_of X _ _ _ _ h1, allFin_of Y _ _ _ _ h2⟩

end Cert.Attn

end
-- ==== Proof.Attn.Same1.lean ====
/- The first attention call computes the first branch. -/
module

public import proofs.«01_k».proof.Defs
public import proofs.«01_k».proof.Proof.Attn.Arr1
public import proofs.«01_k».proof.Proof.Attn.Ref1
public import proofs.«01_k».proof.Proof.Attn.Ref1Out
public import proofs.«01_k».proof.Proof.Attn.Ref1Lse
public import proofs.«01_k».proof.Proof.Attn.Finite
public import proofs.«01_k».proof.Proof.Gen.Branch1Ideal.Run
public import Idealize.ShloMosaic.Lib.Claim

@[expose] public section

set_option maxRecDepth 16384

noncomputable section

open Idealize.ShloMosaic Idealize.ShloMosaic.TcCoe Idealize.SL.Sem Cert.Math
open Cert.Branch1Ideal.Read

namespace Cert.Attn

theorem ref1_out (Q K V : Toks) : val_main_v88 (F := Ideal) Q K V = fun i =>
    softOut (score 1 Q K (i 0) 0 ((i 1 : ℕ) / 128) ((i 1 : ℕ) % 128) ((i 2 : ℕ) / 64)) (value 1 V (i 0) 0 ((i 1 : ℕ) / 128) (i 2)) := by
  funext i
  rw [show i = ix3 (i 0) (i 1) (i 2) by funext a; fin_cases a <;> rfl]
  refine (Ref1.out_soft Q K V (fun n nb row h => score 1 Q K (n / 1) (n % 1) nb row h) (fun n nb c => value 1 V (n / 1) (n % 1) nb c)
    (fun n nb h row j => Ref1.scores_at Q K n nb h row j) (fun n nb j h d => Ref1.values_at V n nb j h d) (i 0) (i 1) (i 2)).trans ?_
  simp only [Nat.div_one, Nat.mod_one]
  rfl

theorem ref1_lse (Q K : Toks) : val_main_v89 (F := Ideal) Q K = fun i =>
    rowLse (score 1 Q K (i 0) 0 ((i 1 : ℕ) / 128) ((i 1 : ℕ) % 128) ((i 2 : ℕ) / 16 % 4 * 2 + (i 2 : ℕ) / 64)) := by
  funext i
  obtain ⟨b, t, l, rfl⟩ : ∃ (b : Fin 4) (t : Fin 8192) (l : Fin 128), i = ix3 b t l := ⟨i 0, i 1, i 2, by funext a; fin_cases a <;> rfl⟩
  rw [Ref1.lse_lanes, Ref1.lse_heads, Ref1.lse_squeeze, Ref1.lse_soft Q K _ _ _ _ _ (fun j => Ref1.scores_at Q K _ _ _ _ j)]
  simp only [Nat.div_one, Nat.mod_one]
  show rowLse (score 1 Q K b 0 ((t : ℕ) / 128) ((t : ℕ) % 128) ((l : ℕ) / 16 % 4 * 2 + (l : ℕ) / 16 / 4)) = rowLse (score 1 Q K b 0 ((t : ℕ) / 128) ((t : ℕ) % 128) ((l : ℕ) / 16 % 4 * 2 + (l : ℕ) / 64))
  rw [Nat.div_div_eq_div_mul]

open Cert.Attn1Ideal.Gen in
theorem same1 (m : (ℓ : Loc Cert.Attn1Ideal.nD Cert.Attn1Ideal.τ Cert.Attn1Ideal.sig) → Buf (Elt Ideal) ℓ) (hpre : Cert.Pre_Attn1Ideal_finite_qk m)
    (c : Dev Cert.Attn1Ideal.nD) (Q K V : Toks) (hQ : Q = m ((c.tc : Thread Cert.Attn1Ideal.nD Cert.Attn1Ideal.τ).loc Cert.Attn1Ideal.main_arg0))
    (hK : K = m ((c.tc : Thread Cert.Attn1Ideal.nD Cert.Attn1Ideal.τ).loc Cert.Attn1Ideal.main_arg1))
    (hV : V = m ((c.tc : Thread Cert.Attn1Ideal.nD Cert.Attn1Ideal.τ).loc Cert.Attn1Ideal.main_arg2)) :
    val_main_v88 (F := Ideal) Q K V = (dats (F := Ideal) m 0 c).arrAt 6 Cert.Attn1Ideal.cfg0.N
      ∧ val_main_v89 (F := Ideal) Q K = (dats (F := Ideal) m 0 c).arrAt 7 Cert.Attn1Ideal.cfg0.N := by
  obtain ⟨f0, f1⟩ := fin_of_pre _ _ _ (hpre c)
  have e0 := hQ.trans (V_main_arg0 m c).symm
  have e1 := hK.trans (V_main_arg1 m c).symm
  have e2 := hV.trans (V_main_arg2 m c).symm
  rw [← hQ] at f0
  rw [← hK] at f1
  subst e0 e1 e2
  exact ⟨(ref1_out _ _ _).trans (arr1_out m c f0 f1).symm, (ref1_lse _ _).trans (arr1_lse m c).symm⟩

theorem algebraic1 : Cert.algebraic_Attn1Ideal_Branch1Ideal_pre_finite_qk := by
  pair_intro
  · run_from Cert.Attn1Ideal.Value.run_blocks m g
  · exact (θ_run _ _ _).mono (fun r h c => ⟨(h c).1.trans ((val_main_v88_eq m' c).trans (same1 m hpre c _ _ _ (hagree c).1 (hagree c).2.1 (hagree c).2.2).1),
      (h c).2.1.trans ((val_main_v89_eq m' c).trans (same1 m hpre c _ _ _ (hagree c).1 (hagree c).2.1 (hagree c).2.2).2), (h c).2.2⟩) (Cert.Branch1Ideal.Value.run m' g')

end Cert.Attn

end
-- ==== Proof.Math.Spec.lean ====
/- The layer's formulas on one token's row, each coordinate a natural number. -/
module

public import proofs.«01_k».proof.Proof.Math.Reals
public import Idealize.ShloMosaic.Lib.Pointwise

@[expose] public section

set_option maxRecDepth 16384

noncomputable section

open Idealize.ShloMosaic

namespace Cert.Math

/-- The norms' small constant. -/
abbrev eps : EReal := Ideal.ofBits FTy.f32 897988541#32

/-- The width of the residual stream, as the mean divides by it. -/
abbrev width : EReal := Ideal.ofBits FTy.f32 1149239296#32

/-- The width of the gated branch. -/
abbrev half : EReal := Ideal.ofBits FTy.f32 1140850688#32

/-- The row's root-mean-square normalization. -/
def rmsn (X g : ℕ → EReal) (k : ℕ) : EReal :=
  X k * Ideal.rsqrt (Ideal.div (∑ j : Fin 1024, X j * X j) width + eps) * g k

/-- One column of a product over the residual width. -/
def col (A : ℕ → EReal) (W : ℕ → ℕ → EReal) (c : ℕ) : EReal := ∑ k : Fin 1024, A k * W k c

/-- The head norm, its mean of squares a product with an averaging table. -/
def headn (Z g : ℕ → EReal) (M : ℕ → ℕ → EReal) (c : ℕ) : EReal :=
  Z c * Ideal.rsqrt ((∑ x : Fin 512, Z x * Z x * M x c) + eps) * g c

/-- The rotary partner of a column. -/
def partner (c : ℕ) : ℕ := if c % 64 < 32 then c + 32 else c - 32

/-- The rotary embedding, its tables periodic over 128 lanes. -/
def turn (Y co si : ℕ → EReal) (c : ℕ) : EReal :=
  Y c * co (c % 128) + Y (partner c) * (if c % 64 < 32 then 0 - si (c % 128) else si (c % 128))

theorem turn_mk (Y co si : ℕ → EReal) (c n l a b : ℕ) (hn : n = c) (hl : l = c % 128) (ha : c % 64 < 32 → a = c + 32)
    (hb : ¬ c % 64 < 32 → b = c - 32) :
    Y n * co l + Scalar.select (if l % 64 < 32 then 1#1 else 0#1) (Y a) (Y b)
      * Scalar.select (if l % 64 < 32 then 1#1 else 0#1) (0 - si l) (si l) = turn Y co si c := by
  subst hn hl
  have e : n % 128 % 64 = n % 64 := by omega
  unfold turn partner
  rw [e]
  by_cases h : n % 64 < 32
  · rw [if_pos h, if_pos h, if_pos h, ha h]; rfl
  · rw [if_neg h, if_neg h, if_neg h, hb h]; rfl

/-- The tanh form of the gelu. -/
def gelu (x : EReal) : EReal :=
  x * (Ideal.ofBits FTy.f32 1056964608#32 * (1 + Ideal.tanh (Ideal.ofBits FTy.f32 1061962282#32
    * (x + Ideal.ofBits FTy.f32 1027024659#32 * (x * (x * x))))))

/-- The silu. -/
def silu (x : EReal) : EReal := x * Ideal.logistic x

/-- The layer norm of a row of the gated branch. -/
def lnorm (G g b : ℕ → EReal) (c : ℕ) : EReal :=
  (G c - Ideal.div (∑ x : Fin 512, G x) half)
      * Ideal.rsqrt (Ideal.div (∑ x : Fin 512, (G x - Ideal.div (∑ x : Fin 512, G x) half) * (G x - Ideal.div (∑ x : Fin 512, G x) half)) half + eps)
      * g c + b c

/-- The spatial mix of a chunk: the targets' earlier sources. -/
def mixrow (w : ℕ → EReal) (G : ℕ → EReal) (r : ℕ) : EReal := ∑ x : Fin 128, if (x : ℕ) ≤ r then w x * G x else 0

/-- A read of a matrix at numbers. -/
def rd2 {n0 n1 : ℕ} (X : (⟨2, ![n0, n1]⟩ : Shape).Idx → EReal) (a b : ℕ) : EReal :=
  if h : a < n0 ∧ b < n1 then X (ix2 ⟨a, h.1⟩ ⟨b, h.2⟩) else 0

theorem rd2_of {n0 n1 : ℕ} (X : (⟨2, ![n0, n1]⟩ : Shape).Idx → EReal) (a : Fin n0) (b : Fin n1) : X (ix2 a b) = rd2 X a b := by
  unfold rd2
  rw [dif_pos ⟨a.2, b.2⟩]

end Cert.Math

end
-- ==== Proof.Proj.Block.lean ====
/- What the projection call leaves in its blocks. -/
module

public import proofs.«01_k».proof.Proof.Gen.ProjIdeal.Frame
public import proofs.«01_k».proof.Proof.Attn.Cell
public import proofs.«01_k».proof.Proof.Math.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.ProjIdeal Cert.ProjIdeal.Gen Cert.Math Cert.Attn

namespace Cert.Mixer

theorem rd3_ix {n0 n1 n2 : ℕ} (X : (⟨3, ![n0, n1, n2]⟩ : Shape).Idx → EReal) (a : Fin n0) (b : Fin n1) (c : Fin n2) :
    X (ix3 a b c) = rd3 X a b c := rd3_of X _ _ _ _ _ _ a.2 b.2 c.2 rfl rfl rfl

/-- The normalized row. -/
theorem normed_at (v0 : Vec Ideal S1x512x1024 .f32) (v12 : Vec Ideal S1x1024 .f32) (r : Fin 512) (k : Fin 1024) :
    k0_pay2 v0 v12 (ix2 r k) = rmsn (rd3 v0 0 r) (rd2 v12 0) k := by
  have h : ∀ k : Fin 1024, v0 (ix3 0 r k) = rd3 v0 0 r k := fun k => rd3_ix v0 0 r k
  have h2 : v12 (ix2 0 k) = rd2 v12 0 k := rd2_of v12 0 k
  pointwise [k0_pay2]
  simp only [h, h2]
  rfl

/-- A product's column, over the normalized row. -/
theorem col_at (v : FVec Ideal S512x1024 .bf16) (w : Vec Ideal S1024x512 .bf16) (A : ℕ → EReal) (r : Fin 512) (c : Fin 512)
    (W : ℕ → ℕ → EReal) (o : ℕ)
    (hv : ∀ k : Fin 1024, v (ix2 r k) = A k) (hw : ∀ k : Fin 1024, ∀ c : Fin 512, w (ix2 k c) = W k (o + c)) :
    ∑ k, v (ix2 r k) * w (ix2 k c) = col A W (o + c) := by
  unfold col
  exact Finset.sum_congr rfl fun k _ => by rw [hv, hw]

/-- The first half of each head's lanes. -/
abbrev first : IVec S1x128 1 := k0_pay9 (Scalar.select (Scalar.cmpi .eq 64#32 0#32) 1#32 64#32) k0_pay6 k0_pay7 k0_pay8

theorem first_at : ∀ l : Fin 128, first (ix2 0 l) = if (l : ℕ) % 64 < 32 then 1#1 else 0#1 := by decide +kernel

/-- A head norm's entry. -/
theorem headn_at (v : FVec Ideal S512x1024 .bf16) (w : Vec Ideal S1024x512 .bf16) (M : Vec Ideal S512x512 .bf16) (g : Vec Ideal S1x512 .f32)
    (A : ℕ → EReal) (W : ℕ → ℕ → EReal) (o : ℕ) (r c : Fin 512)
    (hv : ∀ k : Fin 1024, v (ix2 r k) = A k) (hw : ∀ k : Fin 1024, ∀ c : Fin 512, w (ix2 k c) = W k (o + c)) :
    k0_pay11 v w M g (ix2 r c) = headn (fun c => col A W (o + c)) (rd2 g 0) (rd2 M) c := by
  have h (c : Fin 512) := col_at v w A r c W o hv hw
  have h2 : g (ix2 0 c) = rd2 g 0 c := rd2_of g 0 c
  have h3 : ∀ x : Fin 512, M (ix2 x c) = rd2 M x c := fun x => rd2_of M x c
  pointwise [k0_pay11]
  simp only [h, h2, h3]
  rfl

/-- The second head norm is the first's formula. -/
theorem headn_at' (v : FVec Ideal S512x1024 .bf16) (w : Vec Ideal S1024x512 .bf16) (M : Vec Ideal S512x512 .bf16) (g : Vec Ideal S1x512 .f32) :
    k0_pay15 v w M g = k0_pay11 v w M g := rfl

theorem cos_at (v1 : Vec Ideal S1x512x1 .f32) (v2 : Vec Ideal S1x128 .f32) (r : Fin 512) (l : Fin 128) :
    k0_pay4 v1 v2 (ix2 r l) = Ideal.cos (rd3 v1 0 r 0 * rd2 v2 0 l) := by
  rw [show rd2 v2 0 l = v2 (ix2 0 l) from (rd2_of v2 0 l).symm, show rd3 v1 0 r 0 = v1 (ix3 0 r 0) from (rd3_ix v1 0 r 0).symm]
  pointwise [k0_pay4, k0_pay3]

theorem sin_at (v1 : Vec Ideal S1x512x1 .f32) (v2 : Vec Ideal S1x128 .f32) (r : Fin 512) (l : Fin 128) :
    k0_pay5 v1 v2 (ix2 r l) = Ideal.sin (rd3 v1 0 r 0 * rd2 v2 0 l) := by
  rw [show rd2 v2 0 l = v2 (ix2 0 l) from (rd2_of v2 0 l).symm, show rd3 v1 0 r 0 = v1 (ix3 0 r 0) from (rd3_ix v1 0 r 0).symm]
  pointwise [k0_pay5, k0_pay3]

theorem dite_of {p : Prop} [Decidable p] {a : p → EReal} {b : ¬ p → EReal} {z : EReal} (ha : ∀ h, a h = z) (hb : ∀ h, b h = z) :
    (if h : p then a h else b h) = z := by
  by_cases h : p
  · rw [dif_pos h, ha h]
  · rw [dif_neg h, hb h]

/-- The rotated queries, from the head norm's entries. -/
theorem turn_q (v : FVec Ideal S512x1024 .bf16) (w : Vec Ideal S1024x512 .bf16) (M : Vec Ideal S512x512 .bf16) (g : Vec Ideal S1x512 .f32)
    (co si : FVec Ideal S512x128 .f32) (Y co' si' : ℕ → EReal) (r c : Fin 512)
    (hY : ∀ c : Fin 512, k0_pay11 v w M g (ix2 r c) = Y c) (hc : ∀ l : Fin 128, co (ix2 r l) = co' l) (hs : ∀ l : Fin 128, si (ix2 r l) = si' l) :
    k0_pay14 co first (k0_pay10 si (Scalar.select (Scalar.cmpi .eq 64#32 0#32) 1#32 64#32) k0_pay6 k0_pay7 k0_pay8)
      (k0_pay11 v w M g) (k0_pay12 v co si (Scalar.select (Scalar.cmpi .eq 64#32 0#32) 1#32 64#32) k0_pay6 k0_pay7 k0_pay8 w M g)
      (k0_pay13 v co si (Scalar.select (Scalar.cmpi .eq 64#32 0#32) 1#32 64#32) k0_pay6 k0_pay7 k0_pay8 w M g) (ix3 0 r c)
      = turn Y co' si' c * Ideal.ofBits FTy.f32 1040187392#32 := by
  have hf := first_at
  unfold first at hf ⊢
  generalize hF : k0_pay9 (Scalar.select (Scalar.cmpi .eq 64#32 0#32) 1#32 64#32) k0_pay6 k0_pay7 k0_pay8 = F at hf
  generalize hN : k0_pay11 v w M g = N at hY
  have hc2 : (c : ℕ) < 512 := c.2
  pointwise [k0_pay14, k0_pay12, k0_pay13, k0_pay10, hF, hN]
  congr 1
  simp only [hF, hN, hf, hY, hc, hs]
  refine dite_of (fun h => ?_) (fun h => dite_of (fun h => ?_) (fun h => dite_of (fun h => ?_) (fun h => ?_)))
  all_goals
    refine turn_mk _ _ _ _ _ _ _ _ ?_ ?_ (fun h => ?_) (fun h => ?_)
    all_goals omega

end Cert.Mixer

end
-- ==== Proof.Proj.Mix.lean ====
/- The gated branch of the projection call: gelu, layer norm, the masked spatial mix. -/
module

public import proofs.«01_k».proof.Proof.Proj.Block
public import proofs.«01_k».proof.Proof.Attn.Bits

@[expose] public section

set_option maxRecDepth 16384

noncomputable section

open Idealize.ShloMosaic Idealize.ShloMosaic.TcCoe Idealize.SL.Sem
open Idealize.ShloMosaic.Pipeline (Dat)
open Cert.ProjIdeal Cert.ProjIdeal.Gen Cert.Math Cert.Attn

namespace Cert.Mixer

/-- The rotated keys: the queries' formula without the scale. -/
theorem turn_k (v : FVec Ideal S512x1024 .bf16) (w : Vec Ideal S1024x512 .bf16) (M : Vec Ideal S512x512 .bf16) (g : Vec Ideal S1x512 .f32)
    (co si : FVec Ideal S512x128 .f32) (Y co' si' : ℕ → EReal) (r c : Fin 512)
    (hY : ∀ c : Fin 512, k0_pay15 v w M g (ix2 r c) = Y c) (hc : ∀ l : Fin 128, co (ix2 r l) = co' l) (hs : ∀ l : Fin 128, si (ix2 r l) = si' l) :
    k0_pay17 co first (k0_pay10 si (Scalar.select (Scalar.cmpi .eq 64#32 0#32) 1#32 64#32) k0_pay6 k0_pay7 k0_pay8)
      (k0_pay15 v w M g) (k0_pay16 v w M g) (ix3 0 r c) = turn Y co' si' c := by
  have hf := first_at
  unfold first at hf ⊢
  generalize hF : k0_pay9 (Scalar.select (Scalar.cmpi .eq 64#32 0#32) 1#32 64#32) k0_pay6 k0_pay7 k0_pay8 = F at hf
  generalize hN : k0_pay15 v w M g = N at hY
  have hc2 : (c : ℕ) < 512 := c.2
  pointwise [k0_pay17, k0_pay16, k0_pay10, hF, hN]
  simp only [hF, hN, hf, hY, hc, hs]
  refine dite_of (fun h => ?_) (fun h => dite_of (fun h => ?_) (fun h => dite_of (fun h => ?_) (fun h => ?_)))
  all_goals
    refine turn_mk _ _ _ _ _ _ _ _ ?_ ?_ (fun h => ?_) (fun h => ?_)
    all_goals omega

section
variable (v : FVec Ideal S512x1024 .bf16) (w : Vec Ideal S1024x512 .bf16) (A : ℕ → EReal) (W : ℕ → ℕ → EReal) (o : ℕ) (r c : Fin 512)
    (hv : ∀ k : Fin 1024, v (ix2 r k) = A k) (hw : ∀ k : Fin 1024, ∀ c : Fin 512, w (ix2 k c) = W k (o + c))
include hv hw

theorem plain_at : k0_pay19 (k0_pay18 v w) (ix3 0 r c) = col A W (o + c) := by
  have h := col_at v w A r c W o hv hw
  pointwise [k0_pay19, k0_pay18]
  simp only [h]

theorem silu_at : k0_pay20 v w (ix3 0 r c) = silu (col A W (o + c)) := by
  have h := col_at v w A r c W o hv hw
  pointwise [k0_pay20]
  simp only [h]
  rfl

theorem gate_at : k0_pay25 v w (ix2 r c) = silu (col A W (o + c)) := by
  have h := col_at v w A r c W o hv hw
  pointwise [k0_pay25]
  simp only [h]
  rfl

theorem gelu_at : k0_pay21 v w (ix2 r c) = gelu (col A W (o + c)) := by
  have h := col_at v w A r c W o hv hw
  pointwise [k0_pay21]
  simp only [h]
  unfold gelu
  simp only [Ideal.ofBits_one_f32]

theorem lnorm_at (lg lb : Vec Ideal S1x512 .f32) :
    k0_pay24 (k0_pay22 v w) (k0_pay23 v w) lg lb (ix2 r c) = lnorm (fun c => gelu (col A W (o + c))) (rd2 lg 0) (rd2 lb 0) c := by
  have h (c : Fin 512) := col_at v w A r c W o hv hw
  have h2 : lg (ix2 0 c) = rd2 lg 0 c := rd2_of lg 0 c
  have h3 : lb (ix2 0 c) = rd2 lb 0 c := rd2_of lb 0 c
  pointwise [k0_pay24, k0_pay23, k0_pay22]
  simp only [h, h2, h3]
  unfold lnorm gelu
  simp only [Ideal.ofBits_one_f32]
end

/-- The mask of a target's sources. -/
theorem tril_bits : ∀ (r x : Fin 128), IntOp.cmpi CmpIPredicate.sle (BitVec.ofNat 32 ↑x) (BitVec.ofNat 32 ↑r) = if (x : ℕ) ≤ r then 1#1 else 0#1 := by
  decide +kernel

theorem weight_at (ws : Vec Ideal S1x128x128 .f32) (r x : Fin 128) : k0_pay30 k0_pay26 ws (ix2 r x) = if (x : ℕ) ≤ r then rd3 ws 0 r x else 0 := by
  have h : ws (ix3 0 r x) = rd3 ws 0 r x := rd3_ix ws 0 r x
  pointwise [k0_pay30, k0_pay26]
  rw [tril_bits, select_bits, h]

theorem weight_at0 (ws : Vec Ideal S1x128x128 .f32) : k0_pay29 k0_pay26 (k0_pay27 ws) k0_pay28 = k0_pay30 (F := Ideal) k0_pay26 ws := rfl
theorem weight_at2 (ws : Vec Ideal S1x128x128 .f32) : k0_pay31 k0_pay26 ws = k0_pay30 (F := Ideal) k0_pay26 ws := rfl
theorem weight_at3 (ws : Vec Ideal S1x128x128 .f32) : k0_pay32 k0_pay26 ws = k0_pay30 (F := Ideal) k0_pay26 ws := rfl

end Cert.Mixer

end
-- ==== Proof.Proj.Pieces.lean ====
/- The four chunks of rows of the gated branch's block. -/
module

public import proofs.«01_k».proof.Proof.Proj.Mix

@[expose] public section

set_option maxRecDepth 16384

noncomputable section

open Idealize.ShloMosaic Idealize.ShloMosaic.TcCoe Idealize.SL.Sem
open Idealize.ShloMosaic.Pipeline (Dat)
open Cert.ProjIdeal Cert.ProjIdeal.Gen Cert.Math Cert.Attn

namespace Cert.Mixer

/-- An entry of the gated branch at row `r` of the chunk of rows from `q`: the gated mix of the chunk's rows. -/
def gated (U N A B : ℕ → ℕ → EReal) (W : ℕ → ℕ → ℕ → EReal) (q r c : ℕ) : EReal :=
  U (q + r) c * (mixrow (W (c / 128) r) (fun x => N (q + x) c) r + B r c) * A (q + r) c

/-- A group's product at one column of it. -/
theorem mix_sum (N : ℕ → ℕ → EReal) (W : ℕ → ℕ → ℕ → EReal) (q r c g : ℕ) (hg : g = c / 128) (f : Fin 128 → EReal)
    (hf : ∀ x : Fin 128, f x = (if (x : ℕ) ≤ r then W g r x else 0) * N (q + x) c) :
    (∑ x, f x) = mixrow (W (c / 128) r) (fun x => N (q + x) c) r := by
  subst hg
  unfold mixrow
  refine Finset.sum_congr rfl fun x _ => ?_
  rw [hf x, ite_mul, zero_mul]

section
variable (u : FVec Ideal S512x512 .f32) (vn : FVec Ideal S512x512 .bf16) (ga : FVec Ideal S512x512 .f32)
    (w0 w1 w2 w3 : FVec Ideal S128x128 .bf16) (bs : FVec Ideal S128x512 .f32) (U N A B : ℕ → ℕ → EReal) (W : ℕ → ℕ → ℕ → EReal)
    (hu : ∀ r c : Fin 512, u (ix2 r c) = U r c) (hn : ∀ r c : Fin 512, vn (ix2 r c) = N r c) (ha : ∀ r c : Fin 512, ga (ix2 r c) = A r c)
    (hb : ∀ (r : Fin 128) (c : Fin 512), bs (ix2 r c) = B r c)
    (h0 : ∀ r x : Fin 128, w0 (ix2 r x) = if (x : ℕ) ≤ r then W 0 r x else 0) (h1 : ∀ r x : Fin 128, w1 (ix2 r x) = if (x : ℕ) ≤ r then W 1 r x else 0)
    (h2 : ∀ r x : Fin 128, w2 (ix2 r x) = if (x : ℕ) ≤ r then W 2 r x else 0) (h3 : ∀ r x : Fin 128, w3 (ix2 r x) = if (x : ℕ) ≤ r then W 3 r x else 0)
    (r : Fin 128) (c : Fin 512)
include hu hn ha hb h0 h1 h2 h3

theorem chunk1 : k0_pay36 u vn ga w0 w1 w2 w3 bs (k0_pay35 vn) (ix3 0 r c) = gated U N A B W 128 r c := by
  have hc : (c : ℕ) < 512 := c.2
  pointwise [k0_pay36, k0_pay35]
  simp only [hu, hn, ha, hb, h0, h1, h2, h3, Nat.zero_add]
  unfold gated
  congr 3
  refine dite_of (fun h => mix_sum N W _ r c 0 (by omega) _ fun x => ?_) (fun h => dite_of (fun h => mix_sum N W _ r c 1 (by omega) _ fun x => ?_)
    (fun h => dite_of (fun h => mix_sum N W _ r c 2 (by omega) _ fun x => ?_) (fun h => mix_sum N W _ r c 3 (by omega) _ fun x => ?_)))
  all_goals first | rfl | (congr 2 <;> omega)

theorem chunk2 : k0_pay37 u vn ga w0 w1 w2 w3 bs (ix3 0 r c) = gated U N A B W 256 r c := by
  have hc : (c : ℕ) < 512 := c.2
  pointwise [k0_pay37]
  simp only [hu, hn, ha, hb, h0, h1, h2, h3, Nat.zero_add]
  unfold gated
  congr 3
  refine dite_of (fun h => mix_sum N W _ r c 0 (by omega) _ fun x => ?_) (fun h => dite_of (fun h => mix_sum N W _ r c 1 (by omega) _ fun x => ?_)
    (fun h => dite_of (fun h => mix_sum N W _ r c 2 (by omega) _ fun x => ?_) (fun h => mix_sum N W _ r c 3 (by omega) _ fun x => ?_)))
  all_goals first | rfl | (congr 2 <;> omega)

theorem chunk3 : k0_pay1 u vn ga w3 bs (k0_pay38 vn w0) (k0_pay39 vn w1) (k0_pay40 vn w2) (ix3 0 r c) = gated U N A B W 384 r c := by
  have hc : (c : ℕ) < 512 := c.2
  pointwise [k0_pay1, k0_pay38, k0_pay39, k0_pay40]
  simp only [hu, hn, ha, hb, h0, h1, h2, h3, Nat.zero_add]
  unfold gated
  congr 3
  refine dite_of (fun h => mix_sum N W _ r c 0 (by omega) _ fun x => ?_) (fun h => dite_of (fun h => mix_sum N W _ r c 1 (by omega) _ fun x => ?_)
    (fun h => dite_of (fun h => mix_sum N W _ r c 2 (by omega) _ fun x => ?_) (fun h => mix_sum N W _ r c 3 (by omega) _ fun x => ?_)))
  all_goals first | rfl | (congr 2 <;> omega)

end

set_option maxHeartbeats 1000000 in
theorem chunk0 (u : FVec Ideal S512x512 .f32) (vn : FVec Ideal S512x512 .bf16) (ga : FVec Ideal S512x512 .f32)
    (s0 s1 s2 s3 : Vec Ideal S1x128x128 .f32) (bs : Vec Ideal S128x512 .f32) (U N A B : ℕ → ℕ → EReal) (W : ℕ → ℕ → ℕ → EReal)
    (hu : ∀ r c : Fin 512, u (ix2 r c) = U r c) (hn : ∀ r c : Fin 512, vn (ix2 r c) = N r c) (ha : ∀ r c : Fin 512, ga (ix2 r c) = A r c)
    (hb : ∀ (r : Fin 128) (c : Fin 512), bs (ix2 r c) = B r c)
    (h0 : ∀ r x : Fin 128, k0_pay30 k0_pay26 s0 (ix2 r x) = if (x : ℕ) ≤ r then W 0 r x else 0)
    (h1 : ∀ r x : Fin 128, k0_pay30 k0_pay26 s1 (ix2 r x) = if (x : ℕ) ≤ r then W 1 r x else 0)
    (h2 : ∀ r x : Fin 128, k0_pay30 k0_pay26 s2 (ix2 r x) = if (x : ℕ) ≤ r then W 2 r x else 0)
    (h3 : ∀ r x : Fin 128, k0_pay30 k0_pay26 s3 (ix2 r x) = if (x : ℕ) ≤ r then W 3 r x else 0)
    (r : Fin 128) (c : Fin 512) :
    k0_pay34 u vn ga k0_pay26 (k0_pay27 s0) k0_pay28 s1 s2 s3 bs (ix3 0 r c) = gated U N A B W 0 r c := by
  have hc : (c : ℕ) < 512 := c.2
  unfold k0_pay34
  rw [weight_at0, weight_at2, weight_at3]
  generalize k0_pay30 (F := Ideal) k0_pay26 s0 = w0 at h0 ⊢
  generalize k0_pay30 (F := Ideal) k0_pay26 s1 = w1 at h1 ⊢
  generalize k0_pay30 (F := Ideal) k0_pay26 s2 = w2 at h2 ⊢
  generalize k0_pay30 (F := Ideal) k0_pay26 s3 = w3 at h3 ⊢
  pointwise [k0_pay33]
  simp only [hu, hn, ha, hb, h0, h1, h2, h3, Nat.zero_add]
  unfold gated
  simp only [Nat.zero_add]
  congr 3
  refine dite_of (fun h => mix_sum N W 0 r c 0 (by omega) _ fun x => ?_) (fun h => dite_of (fun h => mix_sum N W 0 r c 1 (by omega) _ fun x => ?_)
    (fun h => dite_of (fun h => mix_sum N W 0 r c 2 (by omega) _ fun x => ?_) (fun h => mix_sum N W 0 r c 3 (by omega) _ fun x => ?_)))
  all_goals first | rfl | (congr 2 <;> omega)

end Cert.Mixer

end
-- ==== Proof.Proj.Outs.lean ====
/- The projection call's five blocks at an entry. -/
module

public import proofs.«01_k».proof.Proof.Proj.Pieces

@[expose] public section

set_option maxRecDepth 16384

noncomputable section

open Idealize.ShloMosaic Idealize.ShloMosaic.TcCoe Idealize.SL.Sem
open Idealize.ShloMosaic.Pipeline (Dat)
open Cert.ProjIdeal Cert.ProjIdeal.Gen Cert.Math Cert.Attn

namespace Cert.Mixer

variable (x0 : Vec Ideal S1x512x1024 .f32) (x1 : Vec Ideal S1x512x1 .f32) (x2 : Vec Ideal S1x128 .f32) (x3 : Vec Ideal S1x1024 .f32)
    (x4 : Vec Ideal S1024x3584 .bf16) (x5 : Vec Ideal S512x512 .bf16) (x6 x7 : Vec Ideal S1x512 .f32) (x8 : Vec Ideal S4x128x128 .f32)
    (x9 : Vec Ideal S128x512 .f32) (x10 x11 : Vec Ideal S1x512 .f32)

/-- A tile's normalized row. -/
def row (r : ℕ) : ℕ → EReal := rmsn (rd3 x0 0 r) (rd2 x3 0)

theorem row_at (r : Fin 512) (k : Fin 1024) : k0_pay2 (View.ld x0 r0_0) (View.ld x3 r0_1) (ix2 r k) = row x0 x3 r k := by
  have e0 : View.ld x0 r0_0 = x0 := by
    funext i; pointwise
    refine congrArg x0 (funext fun a => ?_)
    fin_cases a <;> first | rfl | exact Subsingleton.elim (α := Fin 1) _ _
  have e3 : View.ld x3 r0_1 = x3 := by
    funext i; pointwise
    refine congrArg x3 (funext fun a => ?_)
    fin_cases a <;> first | rfl | exact Subsingleton.elim (α := Fin 1) _ _
  rw [e0, e3]
  exact normed_at x0 x3 r k

/-- A column of a row's product with the weights. -/
def zc (r c : ℕ) : EReal := col (row x0 x3 r) (rd2 x4) c

theorem ix3_one {n k : ℕ} (x : (⟨3, ![1, n, k]⟩ : Shape).Idx) : ∃ (r : Fin n) (c : Fin k), x = ix3 0 r c :=
  ⟨x 1, x 2, funext fun a => by fin_cases a <;> first | rfl | exact Subsingleton.elim (α := Fin 1) _ _⟩

/-- The slabs of the weights. -/
theorem slab0 (k : Fin 1024) (c : Fin 512) : View.ld x4 r0_4 (ix2 k c) = rd2 x4 k (0 + c) := by
  have e := rd2_of x4 k (⟨(c : ℕ), by omega⟩ : Fin 3584)
  rw [Nat.zero_add]; pointwise; exact e
theorem slab1 (k : Fin 1024) (c : Fin 512) : View.ld x4 r0_8 (ix2 k c) = rd2 x4 k (512 + c) := by pointwise; exact rd2_of x4 k _
theorem slab2 (k : Fin 1024) (c : Fin 512) : View.ld x4 r0_9 (ix2 k c) = rd2 x4 k (1024 + c) := by pointwise; exact rd2_of x4 k _
theorem slab3 (k : Fin 1024) (c : Fin 512) : View.ld x4 r0_10 (ix2 k c) = rd2 x4 k (1536 + c) := by pointwise; exact rd2_of x4 k _
theorem slab4 (k : Fin 1024) (c : Fin 512) : View.ld x4 r0_11 (ix2 k c) = rd2 x4 k (2048 + c) := by pointwise; exact rd2_of x4 k _
theorem slab5 (k : Fin 1024) (c : Fin 512) : View.ld x4 r0_12 (ix2 k c) = rd2 x4 k (2560 + c) := by pointwise; exact rd2_of x4 k _
theorem slab6 (k : Fin 1024) (c : Fin 512) : View.ld x4 r0_13 (ix2 k c) = rd2 x4 k (3072 + c) := by pointwise; exact rd2_of x4 k _

/-- A tabled row read whole. -/
theorem ld_row (g : Vec Ideal S1x512 .f32) : View.ld g r0_6 = g := by
  funext i; pointwise
  refine congrArg g (funext fun a => ?_)
  fin_cases a <;> first | rfl | exact Subsingleton.elim (α := Fin 1) _ _

theorem ld_avg : View.ld x5 r0_5 = x5 := by
  funext i; pointwise

theorem ld_bias : View.ld x9 r0_18 = x9 := by
  funext i; pointwise

theorem ld_pos : View.ld x1 r0_2 = x1 := by
  funext i; pointwise
  refine congrArg x1 (funext fun a => ?_)
  fin_cases a <;> first | rfl | exact Subsingleton.elim (α := Fin 1) _ _

theorem ld_freq : View.ld x2 r0_3 = x2 := by
  funext i; pointwise
  refine congrArg x2 (funext fun a => ?_)
  fin_cases a <;> first | rfl | exact Subsingleton.elim (α := Fin 1) _ _

/-- The groups' masked weights. -/
theorem grp0 (r x : Fin 128) : k0_pay30 k0_pay26 (View.ld x8 r0_14) (ix2 r x) = if (x : ℕ) ≤ r then rd3 x8 0 r x else 0 := by
  have e : rd3 (View.ld x8 r0_14) 0 r x = rd3 x8 0 r x := (rd3_ix (View.ld x8 r0_14) 0 r x).symm.trans (by pointwise; exact rd3_ix x8 0 r x)
  rw [weight_at, e]
theorem grp1 (r x : Fin 128) : k0_pay30 k0_pay26 (View.ld x8 r0_15) (ix2 r x) = if (x : ℕ) ≤ r then rd3 x8 1 r x else 0 := by
  have e : rd3 (View.ld x8 r0_15) 0 r x = rd3 x8 1 r x := (rd3_ix (View.ld x8 r0_15) 0 r x).symm.trans (by pointwise; exact rd3_ix x8 1 r x)
  rw [weight_at, e]
theorem grp2 (r x : Fin 128) : k0_pay30 k0_pay26 (View.ld x8 r0_16) (ix2 r x) = if (x : ℕ) ≤ r then rd3 x8 2 r x else 0 := by
  have e : rd3 (View.ld x8 r0_16) 0 r x = rd3 x8 2 r x := (rd3_ix (View.ld x8 r0_16) 0 r x).symm.trans (by pointwise; exact rd3_ix x8 2 r x)
  rw [weight_at, e]
theorem grp3 (r x : Fin 128) : k0_pay30 k0_pay26 (View.ld x8 r0_17) (ix2 r x) = if (x : ℕ) ≤ r then rd3 x8 3 r x else 0 := by
  have e : rd3 (View.ld x8 r0_17) 0 r x = rd3 x8 3 r x := (rd3_ix (View.ld x8 r0_17) 0 r x).symm.trans (by pointwise; exact rd3_ix x8 3 r x)
  rw [weight_at, e]

theorem out_v (y : S1x512x512.Idx) :
    out0_14 x0 x1 x2 x3 x4 x5 x6 x7 x8 x9 x10 x11 y = zc x0 x3 x4 (y 1) (1024 + (y 2 : ℕ)) := by
  unfold_out out0_14
  canon_tiles x h
  obtain ⟨r, c, rfl⟩ := ix3_one x
  rw [h1, h2]
  exact plain_at _ _ _ _ 1024 r c (row_at x0 x3 r) (slab2 x4)

theorem out_sg (y : S1x512x512.Idx) :
    out0_15 x0 x1 x2 x3 x4 x5 x6 x7 x8 x9 x10 x11 y = silu (zc x0 x3 x4 (y 1) (1536 + (y 2 : ℕ))) := by
  unfold_out out0_15
  canon_tiles x h
  obtain ⟨r, c, rfl⟩ := ix3_one x
  rw [h1, h2]
  exact silu_at _ _ _ _ 1536 r c (row_at x0 x3 r) (slab3 x4)

theorem out_q (y : S1x512x512.Idx) :
    out0_12 x0 x1 x2 x3 x4 x5 x6 x7 x8 x9 x10 x11 y
      = turn (headn (fun c => zc x0 x3 x4 (y 1) (0 + c)) (rd2 x6 0) (rd2 x5)) (fun l => Ideal.cos (rd3 x1 0 (y 1) 0 * rd2 x2 0 l))
          (fun l => Ideal.sin (rd3 x1 0 (y 1) 0 * rd2 x2 0 l)) (y 2) * Ideal.ofBits FTy.f32 1040187392#32 := by
  unfold_out out0_12
  rw [ld_row, ld_avg, ld_pos, ld_freq]
  canon_tiles x h
  obtain ⟨r, c, rfl⟩ := ix3_one x
  rw [h1, h2]
  exact turn_q _ _ _ _ _ _ _ _ _ r c (fun c => headn_at _ _ _ _ _ _ 0 r c (row_at x0 x3 r) (slab0 x4)) (cos_at x1 x2 r) (sin_at x1 x2 r)

theorem out_k (y : S1x512x512.Idx) :
    out0_13 x0 x1 x2 x3 x4 x5 x6 x7 x8 x9 x10 x11 y
      = turn (headn (fun c => zc x0 x3 x4 (y 1) (512 + c)) (rd2 x7 0) (rd2 x5)) (fun l => Ideal.cos (rd3 x1 0 (y 1) 0 * rd2 x2 0 l))
          (fun l => Ideal.sin (rd3 x1 0 (y 1) 0 * rd2 x2 0 l)) (y 2) := by
  unfold_out out0_13
  rw [ld_row, ld_avg, ld_pos, ld_freq]
  canon_tiles x h
  obtain ⟨r, c, rfl⟩ := ix3_one x
  rw [h1, h2]
  exact turn_k _ _ _ _ _ _ _ _ _ r c (fun c => (congrFun (headn_at' _ _ _ _) _).trans (headn_at _ _ _ _ _ _ 512 r c (row_at x0 x3 r) (slab1 x4))) (cos_at x1 x2 r) (sin_at x1 x2 r)

theorem out_oa (y : S1x512x512.Idx) :
    out0_16 x0 x1 x2 x3 x4 x5 x6 x7 x8 x9 x10 x11 y
      = gated (fun r c => gelu (zc x0 x3 x4 r (2048 + c))) (fun r => lnorm (fun c => gelu (zc x0 x3 x4 r (2560 + c))) (rd2 x10 0) (rd2 x11 0))
          (fun r c => silu (zc x0 x3 x4 r (3072 + c))) (rd2 x9) (rd3 x8) (128 * ((y 1 : ℕ) / 128)) ((y 1 : ℕ) % 128) (y 2) := by
  have hu (r c : Fin 512) := gelu_at (k0_pay2 (View.ld x0 r0_0) (View.ld x3 r0_1)) (View.ld x4 r0_11) _ _ 2048 r c (row_at x0 x3 r) (slab4 x4)
  have hn (r c : Fin 512) := lnorm_at (k0_pay2 (View.ld x0 r0_0) (View.ld x3 r0_1)) (View.ld x4 r0_12) _ _ 2560 r c (row_at x0 x3 r) (slab5 x4) x10 x11
  have ha (r c : Fin 512) := gate_at (k0_pay2 (View.ld x0 r0_0) (View.ld x3 r0_1)) (View.ld x4 r0_13) _ _ 3072 r c (row_at x0 x3 r) (slab6 x4)
  have hb (r : Fin 128) (c : Fin 512) : x9 (ix2 r c) = rd2 x9 r c := rd2_of x9 r c
  have hb' (r : Fin 128) (c : Fin 512) : k0_pay33 x9 (ix2 r c) = rd2 x9 r c := by pointwise [k0_pay33]; exact rd2_of x9 r c
  unfold_out out0_16
  simp only [ld_row, ld_bias, weight_at0, weight_at2, weight_at3]
  canon_tiles x h
  all_goals
    obtain ⟨r, c, rfl⟩ := ix3_one x
    rw [h1, h2]
  · show _ = gated _ _ _ _ _ (128 * ((384 + (r : ℕ)) / 128)) ((384 + (r : ℕ)) % 128) c
    rw [show 128 * ((384 + (r : ℕ)) / 128) = 384 by omega, show (384 + (r : ℕ)) % 128 = r by omega]
    exact chunk3 _ _ _ _ _ _ _ _ _ _ _ _ _ hu hn ha hb' (grp0 x8) (grp1 x8) (grp2 x8) (grp3 x8) r c
  · show _ = gated _ _ _ _ _ (128 * ((256 + (r : ℕ)) / 128)) ((256 + (r : ℕ)) % 128) c
    rw [show 128 * ((256 + (r : ℕ)) / 128) = 256 by omega, show (256 + (r : ℕ)) % 128 = r by omega]
    exact chunk2 _ _ _ _ _ _ _ _ _ _ _ _ _ hu hn ha hb' (grp0 x8) (grp1 x8) (grp2 x8) (grp3 x8) r c
  · show _ = gated _ _ _ _ _ (128 * ((128 + (r : ℕ)) / 128)) ((128 + (r : ℕ)) % 128) c
    rw [show 128 * ((128 + (r : ℕ)) / 128) = 128 by omega, show (128 + (r : ℕ)) % 128 = r by omega]
    exact chunk1 _ _ _ _ _ _ _ _ _ _ _ _ _ hu hn ha hb' (grp0 x8) (grp1 x8) (grp2 x8) (grp3 x8) r c
  · show _ = gated _ _ _ _ _ (128 * (((r : ℕ)) / 128)) (((r : ℕ)) % 128) c
    rw [show 128 * (((r : ℕ)) / 128) = 0 by omega, show ((r : ℕ)) % 128 = r by omega]
    exact chunk0 _ _ _ _ _ _ _ _ _ _ _ _ _ hu hn ha hb (grp0 x8) (grp1 x8) (grp2 x8) (grp3 x8) r c

end Cert.Mixer

end
-- ==== Proof.Math.Heads.lean ====
/- The head norm and the rotary embedding by their definitions, and their equality with the tabled forms. -/
module

public import proofs.«01_k».proof.Proof.Math.Spec
public import Idealize.ShloMosaic.Lib.IdealHost

@[expose] public section

set_option maxRecDepth 16384

noncomputable section

open Idealize.ShloMosaic

namespace Cert.Math

/-- The width of a head, as its mean divides by it. -/
abbrev headw : EReal := Ideal.ofBits FTy.f32 1115684864#32

theorem headw_eq : headw = ((64 : ℝ) : EReal) := by
  simp [headw, Ideal.ofBits, Ideal.ieee]
  rw [← EReal.coe_mul]
  norm_num

/-- The head norm, its mean of squares over the head's own columns. -/
def headm (Z g : ℕ → EReal) (c : ℕ) : EReal :=
  Z c * Ideal.rsqrt (Ideal.div (∑ d : Fin 64, Z (64 * (c / 64) + d) * Z (64 * (c / 64) + d)) headw + eps) * g (c % 64)

/-- A sum over the columns that only one head's columns reach. -/
theorem sum_head (f : ℕ → EReal) (h : ℕ) (hh : h < 8) :
    (∑ x : Fin 512, if (x : ℕ) / 64 = h then f x else 0) = ∑ d : Fin 64, f (64 * h + d) := by
  rw [← Finset.sum_filter]
  symm
  refine Finset.sum_bij (fun (d : Fin 64) _ => (⟨64 * h + d, by omega⟩ : Fin 512)) ?_ ?_ ?_ ?_
  · intro d _; rw [Finset.mem_filter]; exact ⟨Finset.mem_univ _, by show (64 * h + (d : ℕ)) / 64 = h; omega⟩
  · intro a _ b _ e
    have := congrArg Fin.val e
    ext; simp only at this; omega
  · intro x hx
    rw [Finset.mem_filter] at hx
    have := hx.2
    exact ⟨⟨(x : ℕ) % 64, by omega⟩, Finset.mem_univ _, by ext; show 64 * h + (x : ℕ) % 64 = x; omega⟩
  · intro d _; rfl

theorem sum_mul_nonneg {n : ℕ} (f : Fin n → EReal) (r : ℝ) (hr : 0 ≤ r) : (∑ d, f d * (r : EReal)) = (∑ d, f d) * (r : EReal) := by
  classical
  induction (Finset.univ : Finset (Fin n)) using Finset.induction_on with
  | empty => simp
  | insert a s ha ih =>
    rw [Finset.sum_insert ha, Finset.sum_insert ha, ih]
    exact (EReal.right_distrib_of_nonneg_of_ne_top (by exact_mod_cast hr) (EReal.coe_ne_top r) _ _).symm

/-- The averaging table gives the head norm. -/
theorem headn_eq (Z g g' : ℕ → EReal) (M : ℕ → ℕ → EReal) (c : ℕ) (hc : c < 512) (hg : g' c = g (c % 64))
    (hM : ∀ x : Fin 512, M x c = Ideal.div (if (x : ℕ) / 64 = c / 64 then 1 else 0) headw) :
    headn Z g' M c = headm Z g c := by
  unfold headn headm
  have e : (∑ x : Fin 512, Z x * Z x * M x c) = Ideal.div (∑ d : Fin 64, Z (64 * (c / 64) + d) * Z (64 * (c / 64) + d)) headw := by
    rw [headw_eq, div_coe' _ (by norm_num : (64 : ℝ) ≠ 0), ← sum_mul_nonneg _ _ (by norm_num),
      ← sum_head (fun x => Z x * Z x * (((64 : ℝ)⁻¹ : ℝ) : EReal)) (c / 64) (by omega)]
    refine Finset.sum_congr rfl fun x _ => ?_
    rw [hM x, headw_eq, div_coe' _ (by norm_num : (64 : ℝ) ≠ 0)]
    split
    · rw [one_mul]
    · rw [zero_mul, mul_zero]
  rw [e, hg]

/-- The rotary embedding by a head's halves, its tables over a half's lanes. -/
def rope (Y co si : ℕ → EReal) (c : ℕ) : EReal :=
  if c % 64 < 32 then Y c * co (c % 32) - Y (c + 32) * si (c % 32) else Y c * co (c % 32) + Y (c - 32) * si (c % 32)

theorem turn_eq (Y Y' co si co' si' : ℕ → EReal) (c : ℕ) (hY : ∀ c, c < 512 → Y c = Y' c) (hc : c < 512)
    (hco : ∀ l, l < 128 → co l = co' (l % 32)) (hsi : ∀ l, l < 128 → si l = si' (l % 32)) : turn Y co si c = rope Y' co' si' c := by
  unfold turn rope partner
  rw [hco _ (by omega), hsi _ (by omega), show c % 128 % 32 = c % 32 by omega, hY c hc]
  split
  · rw [hY _ (by omega), zero_sub, mul_neg, ← sub_eq_add_neg]
  · rw [hY _ (by omega)]

end Cert.Math

end
-- ==== Proof.Proj.Layer.lean ====
/- The projections, the rotary embedding and the gated mixing of the layer, entry by entry of its results. -/
module

public import proofs.«01_k».proof.Proof.Proj.Pieces
public import proofs.«01_k».proof.Proof.Math.Heads

@[expose] public section

set_option maxRecDepth 16384

noncomputable section

open Idealize.ShloMosaic Cert.Math Cert.Attn

namespace Cert.Mixer

/-- A read of a row at a number. -/
def rd1 {n0 : ℕ} (X : (⟨1, ![n0]⟩ : Shape).Idx → EReal) (a : ℕ) : EReal := if h : a < n0 then X (ix1 ⟨a, h⟩) else 0

theorem rd1_of {n0 : ℕ} (X : (⟨1, ![n0]⟩ : Shape).Idx → EReal) (a : Fin n0) : X (ix1 a) = rd1 X a := by
  unfold rd1
  rw [dif_pos a.2]

/-- The residual stream. -/
abbrev Stream := (⟨3, ![4, 8192, 1024]⟩ : Shape).Idx → EReal
/-- A row of the layer's parameters. -/
abbrev Row (n : ℕ) := (⟨1, ![n]⟩ : Shape).Idx → EReal
/-- A matrix of the layer's parameters. -/
abbrev Mat (n k : ℕ) := (⟨2, ![n, k]⟩ : Shape).Idx → EReal

variable (X : Stream) (G : Row 1024) (W : Mat 1024 3584)

/-- A column of the normalized stream's projections. -/
def zed (b s c : ℕ) : EReal := col (rmsn (rd3 X b s) (rd1 G)) (rd2 W) c

/-- The tokens' positions as numbers. -/
def place (P : (⟨2, ![4, 8192]⟩ : Shape).Idx → BitVec 32) : Mat 4 8192 := fun i => (((P i).toInt : ℝ) : EReal)

/-- The rotary frequencies. -/
def freq (l : ℕ) : EReal :=
  Ideal.exp (Ideal.div (Ideal.ofBits FTy.f32 3239271822#32 * (((BitVec.ofNat 32 l).toInt : ℝ) : EReal)) (Ideal.ofBits FTy.f32 1107296256#32))

/-- The rotated, normalized heads from the projections' column `o` on. -/
def spun (P : (⟨2, ![4, 8192]⟩ : Shape).Idx → BitVec 32) (N : Row 64) (o b s c : ℕ) : EReal :=
  rope (headm (fun c => zed X G W b s (o + c)) (rd1 N)) (fun l => Ideal.cos (rd2 (place P) b s * freq l))
    (fun l => Ideal.sin (rd2 (place P) b s * freq l)) c

/-- The gated mixing of the chunks. -/
def mixed (S : (⟨3, ![4, 128, 128]⟩ : Shape).Idx → EReal) (B : Mat 4 128) (lg lb : Row 512) (b s c : ℕ) : EReal :=
  gated (fun r c => gelu (zed X G W b r (2048 + c))) (fun r => lnorm (fun c => gelu (zed X G W b r (2560 + c))) (rd1 lg) (rd1 lb))
    (fun r c => silu (zed X G W b r (3072 + c))) (fun r c => rd2 B (c / 128) r) (rd3 S) (128 * (s / 128)) (s % 128) c

end Cert.Mixer

end
-- ==== Proof.Proj.Table.lean ====
/- The tables the projection call is given. -/
module

public import proofs.«01_k».proof.Proof.Gen.ProjIdeal.Frame
public import proofs.«01_k».proof.Proof.Proj.Layer
public import Idealize.ShloMosaic.Lib.StableHlo.ReadAt

@[expose] public section

set_option maxRecDepth 16384

noncomputable section

open Idealize.ShloMosaic Idealize.ShloMosaic.TcCoe Idealize.SL.Sem
open Cert.ProjIdeal Cert.ProjIdeal.Gen Cert.Math Cert.Attn

namespace Cert.Mixer

variable (m : (ℓ : Loc nD τ sig) → Buf (Elt Ideal) ℓ)

/-- A column's head, as the call's table computes it. -/
def group (k : Fin 512) : BitVec 32 :=
  Scalar.select
    (IntOp.andi (IntOp.cmpi .ne (if BitVec.ofNat 32 (k : ℕ) = 0 then 0 else if (BitVec.ofNat 32 (k : ℕ)).msb = true then -1 else 1 : BitVec 32)
        (if (64#32 : BitVec 32) = 0 then 0 else if (64#32 : BitVec 32).msb = true then -1 else 1 : BitVec 32))
      (IntOp.cmpi .ne (IntOp.remsi .host (BitVec.ofNat 32 (k : ℕ)) 64#32) 0#32))
    (IntOp.subi (IntOp.divsi .host (BitVec.ofNat 32 (k : ℕ)) 64#32) 1#32)
    (IntOp.divsi .host (BitVec.ofNat 32 (k : ℕ)) 64#32)

theorem group_at : ∀ k : Fin 512, group k = BitVec.ofNat 32 ((k : ℕ) / 64) := by decide +kernel

theorem bits_at : ∀ a b : Fin 8, IntOp.cmpi .eq (BitVec.ofNat 32 (a : ℕ)) (BitVec.ofNat 32 (b : ℕ)) = if (a : ℕ) = b then 1#1 else 0#1 := by
  decide +kernel

theorem bit_one : FloatOps.uitofp (F := Ideal) FTy.f32 (1#1 : BitVec 1) = (1 : EReal) := by
  show (((1 : ℕ) : ℝ) : EReal) = 1
  simp

theorem bit_zero : FloatOps.uitofp (F := Ideal) FTy.f32 (0#1 : BitVec 1) = (0 : EReal) := by
  show (((0 : ℕ) : ℝ) : EReal) = 0
  simp

/-- The launch memory's argument arrays. -/
abbrev aP (c : Dev nD) : (⟨2, ![4, 8192]⟩ : Shape).Idx → BitVec 32 := m (c.tc.loc main_arg1)
abbrev aG (c : Dev nD) : Row 1024 := m (c.tc.loc main_arg2)
abbrev aW (c : Dev nD) : Mat 1024 3584 := m (c.tc.loc main_arg3)

set_option maxHeartbeats 2000000 in
theorem pos_tab (c : Dev nD) (b : Fin 4) (s : Fin 8192) :
    (V m c main_v1 : (⟨3, ![4, 8192, 1]⟩ : Shape).Idx → EReal) (ix3 b s 0) = rd2 (place (aP m c)) b s := by
  show StableHlo.after (List.flatten [hostOps0, hostOps0_1, hostOps0_2]) (fun b => m (c, b)) main_v1 (ix3 b s 0) = _
  after_reads_at
  exact rd2_of (place (aP m c)) b s

set_option maxHeartbeats 2000000 in
theorem freq_tab (c : Dev nD) (l : Fin 128) :
    (V m c main_v11 : (⟨2, ![1, 128]⟩ : Shape).Idx → EReal) (ix2 0 l) = freq ((l : ℕ) % 32) := by
  show StableHlo.after (List.flatten [hostOps0, hostOps0_1, hostOps0_2]) (fun b => m (c, b)) main_v11 (ix2 0 l) = _
  after_reads_at
  rfl

set_option maxHeartbeats 2000000 in
theorem g_tab (c : Dev nD) (k : Fin 1024) :
    (V m c main_v12 : (⟨2, ![1, 1024]⟩ : Shape).Idx → EReal) (ix2 0 k) = rd1 (aG m c) k := by
  show StableHlo.after (List.flatten [hostOps0, hostOps0_1, hostOps0_2]) (fun b => m (c, b)) main_v12 (ix2 0 k) = _
  after_reads_at
  exact rd1_of (aG m c) k

set_option maxHeartbeats 2000000 in
theorem w_tab (c : Dev nD) (k : Fin 1024) (l : Fin 3584) :
    (V m c main_v13 : (⟨2, ![1024, 3584]⟩ : Shape).Idx → EReal) (ix2 k l) = rd2 (aW m c) k l := by
  show StableHlo.after (List.flatten [hostOps0, hostOps0_1, hostOps0_2]) (fun b => m (c, b)) main_v13 (ix2 k l) = _
  after_reads_at
  exact rd2_of (aW m c) k l

set_option maxHeartbeats 4000000 in
theorem avg_tab (c : Dev nD) (k l : Fin 512) :
    (V m c main_v24 : (⟨2, ![512, 512]⟩ : Shape).Idx → EReal) (ix2 k l) = Ideal.div (if (k : ℕ) / 64 = l / 64 then 1 else 0) headw := by
  show StableHlo.after (List.flatten [hostOps0, hostOps0_1, hostOps0_2]) (fun b => m (c, b)) main_v24 (ix2 k l) = _
  after_reads_at
  show Ideal.div (FloatOps.uitofp (F := Ideal) FTy.f32 (IntOp.cmpi .eq (group k) (group l))) headw = _
  rw [group_at, group_at, bits_at ⟨(k : ℕ) / 64, by omega⟩ ⟨(l : ℕ) / 64, by omega⟩]
  by_cases h : (k : ℕ) / 64 = (l : ℕ) / 64
  · rw [if_pos h, if_pos h, bit_one]
  · rw [if_neg h, if_neg h, bit_zero]

set_option maxHeartbeats 2000000 in
theorem qn_tab (c : Dev nD) (l : Fin 512) :
    (V m c main_v28 : (⟨2, ![1, 512]⟩ : Shape).Idx → EReal) (ix2 0 l) = rd1 (m (c.tc.loc main_arg4) : Row 64) ((l : ℕ) % 64) := by
  show StableHlo.after (List.flatten [hostOps0, hostOps0_1, hostOps0_2]) (fun b => m (c, b)) main_v28 (ix2 0 l) = _
  after_reads_at
  exact rd1_of (m (c.tc.loc main_arg4) : Row 64) ⟨(l : ℕ) % 64, _⟩

set_option maxHeartbeats 2000000 in
theorem kn_tab (c : Dev nD) (l : Fin 512) :
    (V m c main_v32 : (⟨2, ![1, 512]⟩ : Shape).Idx → EReal) (ix2 0 l) = rd1 (m (c.tc.loc main_arg5) : Row 64) ((l : ℕ) % 64) := by
  show StableHlo.after (List.flatten [hostOps0, hostOps0_1, hostOps0_2]) (fun b => m (c, b)) main_v32 (ix2 0 l) = _
  after_reads_at
  exact rd1_of (m (c.tc.loc main_arg5) : Row 64) ⟨(l : ℕ) % 64, _⟩

set_option maxHeartbeats 2000000 in
theorem b_tab (c : Dev nD) (r : Fin 128) (l : Fin 512) :
    (V m c main_v35 : (⟨2, ![128, 512]⟩ : Shape).Idx → EReal) (ix2 r l) = rd2 (m (c.tc.loc main_arg7) : Mat 4 128) ((l : ℕ) / 128) r := by
  show StableHlo.after (List.flatten [hostOps0, hostOps0_1, hostOps0_2]) (fun b => m (c, b)) main_v35 (ix2 r l) = _
  after_reads_at
  exact rd2_of (m (c.tc.loc main_arg7) : Mat 4 128) ⟨(l : ℕ) / 128, _⟩ r

set_option maxHeartbeats 2000000 in
theorem lg_tab (c : Dev nD) (l : Fin 512) :
    (V m c main_v36 : (⟨2, ![1, 512]⟩ : Shape).Idx → EReal) (ix2 0 l) = rd1 (m (c.tc.loc main_arg8) : Row 512) l := by
  show StableHlo.after (List.flatten [hostOps0, hostOps0_1, hostOps0_2]) (fun b => m (c, b)) main_v36 (ix2 0 l) = _
  after_reads_at
  exact rd1_of (m (c.tc.loc main_arg8) : Row 512) l

set_option maxHeartbeats 2000000 in
theorem lb_tab (c : Dev nD) (l : Fin 512) :
    (V m c main_v37 : (⟨2, ![1, 512]⟩ : Shape).Idx → EReal) (ix2 0 l) = rd1 (m (c.tc.loc main_arg9) : Row 512) l := by
  show StableHlo.after (List.flatten [hostOps0, hostOps0_1, hostOps0_2]) (fun b => m (c, b)) main_v37 (ix2 0 l) = _
  after_reads_at
  exact rd1_of (m (c.tc.loc main_arg9) : Row 512) l

end Cert.Mixer

end
-- ==== Proof.Proj.Arr.lean ====
/- The arrays the projection call leaves. -/
module

public import proofs.«01_k».proof.Proof.Gen.ProjIdeal.Value
public import proofs.«01_k».proof.Proof.Proj.Outs
public import proofs.«01_k».proof.Proof.Proj.Table

@[expose] public section

set_option maxRecDepth 16384

noncomputable section

open Idealize.ShloMosaic Idealize.ShloMosaic.TcCoe Idealize.SL.Sem Cert.Math
open Idealize.ShloMosaic.Pipeline (Dat)
open Cert.ProjIdeal Cert.ProjIdeal.Gen Cert.Attn

namespace Cert.Mixer

variable (m : (ℓ : Loc nD τ sig) → Buf (Elt Ideal) ℓ)

theorem idx_0 : ∀ t : Fin cfg0.N, win0_0.index t = ![(grid0.coords t 0 : ℕ), (grid0.coords t 1 : ℕ), 0] := (by decide +kernel : ∀ t : Fin grid0.N, _)
theorem idx_1 : ∀ t : Fin cfg0.N, win0_1.index t = ![(grid0.coords t 0 : ℕ), (grid0.coords t 1 : ℕ), 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0] := (by decide +kernel : ∀ t : Fin grid0.N, _)
theorem idx_8 : ∀ t : Fin cfg0.N, win0_8.index t = ![0, 0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![(grid0.coords t 0 : ℕ), (grid0.coords t 1 : ℕ), 0] := (by decide +kernel : ∀ t : Fin grid0.N, _)
theorem idx_13 : ∀ t : Fin cfg0.N, win0_13.index t = ![(grid0.coords t 0 : ℕ), (grid0.coords t 1 : ℕ), 0] := (by decide +kernel : ∀ t : Fin grid0.N, _)
theorem idx_14 : ∀ t : Fin cfg0.N, win0_14.index t = ![(grid0.coords t 0 : ℕ), (grid0.coords t 1 : ℕ), 0] := (by decide +kernel : ∀ t : Fin grid0.N, _)
theorem idx_15 : ∀ t : Fin cfg0.N, win0_15.index t = ![(grid0.coords t 0 : ℕ), (grid0.coords t 1 : ℕ), 0] := (by decide +kernel : ∀ t : Fin grid0.N, _)
theorem idx_16 : ∀ t : Fin cfg0.N, win0_16.index t = ![(grid0.coords t 0 : ℕ), (grid0.coords t 1 : ℕ), 0] := (by decide +kernel : ∀ t : Fin grid0.N, _)

/-- The launch memory's residual stream, weights of the mixing, and parameters. -/
abbrev aX (c : Dev nD) : Stream := V m c main_arg0
abbrev aS (c : Dev nD) : (⟨3, ![4, 128, 128]⟩ : Shape).Idx → EReal := V m c main_arg6

/-- The reads of the blocks, off the arrays at the region's entry. -/
theorem blk_0 (c : Dev nD) (t : Fin cfg0.N) (R C : ℕ) (hR : R < 512) (hC : C < 1024) :
    rd3 (iblk m c 0 t : (⟨3, ![1, 512, 1024]⟩ : Shape).Idx → EReal) 0 R C
      = rd3 (aX m c) (grid0.coords t 0) (512 * (grid0.coords t 1 : ℕ) + R) C := by
  rw [show rd3 (iblk m c 0 t : (⟨3, ![1, 512, 1024]⟩ : Shape).Idx → EReal) 0 R C = (iblk m c 0 t) (ix3 0 ⟨R, hR⟩ ⟨C, hC⟩) from
    (rd3_of _ 0 R C 0 R C (by omega) hR hC rfl rfl rfl).symm]
  blk_simp [iblk, idx_0]
  refine eq_rd3 _ _ _ _ _ ?_ ?_ ?_ <;> blk_simp [idx_0]
  · exact Nat.add_zero _
  · show (grid0.coords t 1 : ℕ) * 512 + R = _; omega

theorem blk_1 (c : Dev nD) (t : Fin cfg0.N) (R : ℕ) (hR : R < 512) :
    rd3 (iblk m c 1 t : (⟨3, ![1, 512, 1]⟩ : Shape).Idx → EReal) 0 R 0
      = rd3 (V m c main_v1 : (⟨3, ![4, 8192, 1]⟩ : Shape).Idx → EReal) (grid0.coords t 0) (512 * (grid0.coords t 1 : ℕ) + R) 0 := by
  rw [show rd3 (iblk m c 1 t : (⟨3, ![1, 512, 1]⟩ : Shape).Idx → EReal) 0 R 0 = (iblk m c 1 t) (ix3 0 ⟨R, hR⟩ ⟨0, by omega⟩) from
    (rd3_of _ 0 R 0 0 R 0 (by omega) hR (by omega) rfl rfl rfl).symm]
  blk_simp [iblk, idx_1]
  refine eq_rd3 _ _ _ _ _ ?_ ?_ ?_ <;> blk_simp [idx_1]
  · exact Nat.add_zero _
  · show (grid0.coords t 1 : ℕ) * 512 + R = _; omega
  · rfl

theorem blk_8 (c : Dev nD) (t : Fin cfg0.N) (w R C : ℕ) (hw : w < 4) (hR : R < 128) (hC : C < 128) :
    rd3 (iblk m c 8 t : (⟨3, ![4, 128, 128]⟩ : Shape).Idx → EReal) w R C = rd3 (aS m c) w R C := by
  rw [show rd3 (iblk m c 8 t : (⟨3, ![4, 128, 128]⟩ : Shape).Idx → EReal) w R C = (iblk m c 8 t) (ix3 ⟨w, hw⟩ ⟨R, hR⟩ ⟨C, hC⟩) from
    (rd3_of _ w R C w R C hw hR hC rfl rfl rfl).symm]
  blk_simp [iblk, idx_8]
  refine eq_rd3 _ _ _ _ _ ?_ ?_ ?_ <;> blk_simp [idx_8]
  all_goals exact Nat.zero_add _

theorem blk_2 (c : Dev nD) (t : Fin cfg0.N) : (iblk m c 2 t : (⟨2, ![1, 128]⟩ : Shape).Idx → EReal) = V m c main_v11 := by
  funext i
  blk_simp [iblk, idx_2]
  refine congrArg (V m c main_v11) (funext fun a => Fin.ext ?_)
  fin_cases a <;> blk_simp [idx_2] <;> exact Nat.zero_add _
theorem blk_3 (c : Dev nD) (t : Fin cfg0.N) : (iblk m c 3 t : (⟨2, ![1, 1024]⟩ : Shape).Idx → EReal) = V m c main_v12 := by
  funext i
  blk_simp [iblk, idx_3]
  refine congrArg (V m c main_v12) (funext fun a => Fin.ext ?_)
  fin_cases a <;> blk_simp [idx_3] <;> exact Nat.zero_add _
theorem blk_4 (c : Dev nD) (t : Fin cfg0.N) : (iblk m c 4 t : (⟨2, ![1024, 3584]⟩ : Shape).Idx → EReal) = V m c main_v13 := by
  funext i
  blk_simp [iblk, idx_4]
  refine congrArg (V m c main_v13) (funext fun a => Fin.ext ?_)
  fin_cases a <;> blk_simp [idx_4] <;> exact Nat.zero_add _
theorem blk_5 (c : Dev nD) (t : Fin cfg0.N) : (iblk m c 5 t : (⟨2, ![512, 512]⟩ : Shape).Idx → EReal) = V m c main_v24 := by
  funext i
  blk_simp [iblk, idx_5]
  refine congrArg (V m c main_v24) (funext fun a => Fin.ext ?_)
  fin_cases a <;> blk_simp [idx_5] <;> exact Nat.zero_add _
theorem blk_6 (c : Dev nD) (t : Fin cfg0.N) : (iblk m c 6 t : (⟨2, ![1, 512]⟩ : Shape).Idx → EReal) = V m c main_v28 := by
  funext i
  blk_simp [iblk, idx_6]
  refine congrArg (V m c main_v28) (funext fun a => Fin.ext ?_)
  fin_cases a <;> blk_simp [idx_6] <;> exact Nat.zero_add _
theorem blk_7 (c : Dev nD) (t : Fin cfg0.N) : (iblk m c 7 t : (⟨2, ![1, 512]⟩ : Shape).Idx → EReal) = V m c main_v32 := by
  funext i
  blk_simp [iblk, idx_7]
  refine congrArg (V m c main_v32) (funext fun a => Fin.ext ?_)
  fin_cases a <;> blk_simp [idx_7] <;> exact Nat.zero_add _
theorem blk_9 (c : Dev nD) (t : Fin cfg0.N) : (iblk m c 9 t : (⟨2, ![128, 512]⟩ : Shape).Idx → EReal) = V m c main_v35 := by
  funext i
  blk_simp [iblk, idx_9]
  refine congrArg (V m c main_v35) (funext fun a => Fin.ext ?_)
  fin_cases a <;> blk_simp [idx_9] <;> exact Nat.zero_add _
theorem blk_10 (c : Dev nD) (t : Fin cfg0.N) : (iblk m c 10 t : (⟨2, ![1, 512]⟩ : Shape).Idx → EReal) = V m c main_v36 := by
  funext i
  blk_simp [iblk, idx_10]
  refine congrArg (V m c main_v36) (funext fun a => Fin.ext ?_)
  fin_cases a <;> blk_simp [idx_10] <;> exact Nat.zero_add _
theorem blk_11 (c : Dev nD) (t : Fin cfg0.N) : (iblk m c 11 t : (⟨2, ![1, 512]⟩ : Shape).Idx → EReal) = V m c main_v37 := by
  funext i
  blk_simp [iblk, idx_11]
  refine congrArg (V m c main_v37) (funext fun a => Fin.ext ?_)
  fin_cases a <;> blk_simp [idx_11] <;> exact Nat.zero_add _

theorem rmsn_congr (A A' g g' : ℕ → EReal) (k : ℕ) (hk : k < 1024) (hA : ∀ k, k < 1024 → A k = A' k) (hg : g k = g' k) : rmsn A g k = rmsn A' g' k := by
  unfold rmsn
  rw [hA k hk, hg, Finset.sum_congr rfl fun (j : Fin 1024) _ => by rw [hA j j.2]]

/-- A tile's columns are the layer's. -/
theorem zc_at (c : Dev nD) (t : Fin cfg0.N) (r j : ℕ) (hr : r < 512) (hj : j < 3584) :
    zc (iblk m c 0 t) (iblk m c 3 t) (iblk m c 4 t) r j = zed (aX m c) (aG m c) (aW m c) (grid0.coords t 0) (512 * (grid0.coords t 1 : ℕ) + r) j := by
  unfold zc zed col
  refine Finset.sum_congr rfl fun k _ => ?_
  rw [blk_4 m c t, ← rd2_of _ k ⟨j, hj⟩, w_tab m c k ⟨j, hj⟩]
  refine congrArg (· * _) ?_
  unfold row
  refine rmsn_congr _ _ _ _ k k.2 (fun k hk => blk_0 m c t r k hr hk) ?_
  rw [blk_3 m c t]
  exact (rd2_of _ 0 k).symm.trans (g_tab m c k)

/-- A tile's angles are the layer's. -/
theorem ang_at (c : Dev nD) (t : Fin cfg0.N) (r l : ℕ) (hr : r < 512) (hl : l < 128) (h4 : (grid0.coords t 0 : ℕ) < 4) (h16 : (grid0.coords t 1 : ℕ) < 16) :
    rd3 (iblk m c 1 t : (⟨3, ![1, 512, 1]⟩ : Shape).Idx → EReal) 0 r 0 * rd2 (iblk m c 2 t : (⟨2, ![1, 128]⟩ : Shape).Idx → EReal) 0 l
      = rd2 (place (aP m c)) (grid0.coords t 0) (512 * (grid0.coords t 1 : ℕ) + r) * freq (l % 32) := by
  have e1 := (rd3_ix (V m c main_v1 : (⟨3, ![4, 8192, 1]⟩ : Shape).Idx → EReal) ⟨_, h4⟩ ⟨512 * (grid0.coords t 1 : ℕ) + r, by omega⟩ 0).symm.trans (pos_tab m c _ _)
  rw [blk_1 m c t r hr, blk_2 m c t]
  exact congr (congrArg (· * ·) e1) ((rd2_of _ 0 ⟨l, hl⟩).symm.trans (freq_tab m c ⟨l, hl⟩))

theorem headn_congr (Z Z' g : ℕ → EReal) (M : ℕ → ℕ → EReal) (c : ℕ) (hc : c < 512) (h : ∀ c, c < 512 → Z c = Z' c) : headn Z g M c = headn Z' g M c := by
  unfold headn
  rw [h c hc, Finset.sum_congr rfl fun (x : Fin 512) _ => by rw [h x x.2]]

theorem crd : ∀ t : Fin cfg0.N, (grid0.coords t 0 : ℕ) < 4 ∧ (grid0.coords t 1 : ℕ) < 16 := (by decide +kernel : ∀ t : Fin grid0.N, _)

/-- A tile's rotated heads are the layer's, for either norm's scale. -/
theorem spun_at (c : Dev nD) (t : Fin cfg0.N) (x : (⟨2, ![1, 512]⟩ : Shape).Idx → EReal) (N : Row 64) (hN : ∀ l : Fin 512, x (ix2 0 l) = rd1 N ((l : ℕ) % 64))
    (o r j : ℕ) (ho : o + 512 ≤ 3584) (hr : r < 512) (hj : j < 512) :
    turn (headn (fun j => zc (iblk m c 0 t) (iblk m c 3 t) (iblk m c 4 t) r (o + j)) (rd2 x 0) (rd2 (iblk m c 5 t : (⟨2, ![512, 512]⟩ : Shape).Idx → EReal)))
        (fun l => Ideal.cos (rd3 (iblk m c 1 t : (⟨3, ![1, 512, 1]⟩ : Shape).Idx → EReal) 0 r 0 * rd2 (iblk m c 2 t : (⟨2, ![1, 128]⟩ : Shape).Idx → EReal) 0 l))
        (fun l => Ideal.sin (rd3 (iblk m c 1 t : (⟨3, ![1, 512, 1]⟩ : Shape).Idx → EReal) 0 r 0 * rd2 (iblk m c 2 t : (⟨2, ![1, 128]⟩ : Shape).Idx → EReal) 0 l)) j
      = spun (aX m c) (aG m c) (aW m c) (aP m c) N o (grid0.coords t 0) (512 * (grid0.coords t 1 : ℕ) + r) j := by
  unfold spun
  refine turn_eq _ _ _ _ _ _ j (fun j hj => ?_) hj (fun l hl => ?_) (fun l hl => ?_)
  · rw [headn_congr _ _ _ _ j hj fun j hj => zc_at m c t r (o + j) hr (by omega)]
    refine headn_eq _ _ _ _ j hj ((rd2_of x 0 ⟨j, hj⟩).symm.trans (hN ⟨j, hj⟩)) fun k => ?_
    rw [blk_5 m c t]
    exact (rd2_of _ k ⟨j, hj⟩).symm.trans (avg_tab m c k ⟨j, hj⟩)
  · rw [ang_at m c t r l hr hl (crd t).1 (crd t).2]
  · rw [ang_at m c t r l hr hl (crd t).1 (crd t).2]

theorem row_of (t : Fin cfg0.N) (r : ℕ) : (grid0.coords t 1 : ℕ) * 512 + r = 512 * (grid0.coords t 1 : ℕ) + r := by omega

/-- The first result: the queries. -/
theorem arr_q (c : Dev nD) : (dats (F := Ideal) m 0 c).arrAt 12 cfg0.N = fun i : S4x8192x512.Idx =>
    spun (aX m c) (aG m c) (aW m c) (aP m c) (m (c.tc.loc main_arg4) : Row 64) 0 (i 0) (i 1) (i 2) * Ideal.ofBits FTy.f32 1040187392#32 := by
  refine (dats m 0 c).arrAt_eq_of_covers 12 _ (by decide +kernel) fun t hf y => ?_
  blk_simp [idx_12]
  rw [after0_12]
  refine (out_q _ _ _ _ _ _ _ _ _ _ _ _ y).trans ?_
  have h0 : (y 0 : ℕ) = 0 := by have : (y 0).val < 1 := (y 0).isLt; omega
  have h1 : (y 1 : ℕ) < 512 := (y 1).isLt
  have h2 : (y 2 : ℕ) < 512 := (y 2).isLt
  rw [spun_at m c t _ (m (c.tc.loc main_arg4) : Row 64) (fun l => by rw [blk_6 m c t]; exact qn_tab m c l) 0 _ _ (by omega) h1 h2, row_of]

/-- The second result: the keys. -/
theorem arr_k (c : Dev nD) : (dats (F := Ideal) m 0 c).arrAt 13 cfg0.N = fun i : S4x8192x512.Idx =>
    spun (aX m c) (aG m c) (aW m c) (aP m c) (m (c.tc.loc main_arg5) : Row 64) 512 (i 0) (i 1) (i 2) := by
  refine (dats m 0 c).arrAt_eq_of_covers 13 _ (by decide +kernel) fun t hf y => ?_
  blk_simp [idx_13]
  rw [after0_13]
  refine (out_k _ _ _ _ _ _ _ _ _ _ _ _ y).trans ?_
  have h0 : (y 0 : ℕ) = 0 := by have : (y 0).val < 1 := (y 0).isLt; omega
  have h1 : (y 1 : ℕ) < 512 := (y 1).isLt
  have h2 : (y 2 : ℕ) < 512 := (y 2).isLt
  rw [spun_at m c t _ (m (c.tc.loc main_arg5) : Row 64) (fun l => by rw [blk_7 m c t]; exact kn_tab m c l) 512 _ _ (by omega) h1 h2, row_of]

/-- The third result: the values. -/
theorem arr_v (c : Dev nD) : (dats (F := Ideal) m 0 c).arrAt 14 cfg0.N = fun i : S4x8192x512.Idx =>
    zed (aX m c) (aG m c) (aW m c) (i 0) (i 1) (1024 + (i 2 : ℕ)) := by
  refine (dats m 0 c).arrAt_eq_of_covers 14 _ (by decide +kernel) fun t hf y => ?_
  blk_simp [idx_14]
  rw [after0_14]
  refine (out_v _ _ _ _ _ _ _ _ _ _ _ _ y).trans ?_
  have h0 : (y 0 : ℕ) = 0 := by have : (y 0).val < 1 := (y 0).isLt; omega
  have h1 : (y 1 : ℕ) < 512 := (y 1).isLt
  have h2 : (y 2 : ℕ) < 512 := (y 2).isLt
  rw [zc_at m c t _ _ h1 (by omega), row_of]

/-- The fourth result: the attention's gate. -/
theorem arr_sg (c : Dev nD) : (dats (F := Ideal) m 0 c).arrAt 15 cfg0.N = fun i : S4x8192x512.Idx =>
    silu (zed (aX m c) (aG m c) (aW m c) (i 0) (i 1) (1536 + (i 2 : ℕ))) := by
  refine (dats m 0 c).arrAt_eq_of_covers 15 _ (by decide +kernel) fun t hf y => ?_
  blk_simp [idx_15]
  rw [after0_15]
  refine (out_sg _ _ _ _ _ _ _ _ _ _ _ _ y).trans ?_
  have h0 : (y 0 : ℕ) = 0 := by have : (y 0).val < 1 := (y 0).isLt; omega
  have h1 : (y 1 : ℕ) < 512 := (y 1).isLt
  have h2 : (y 2 : ℕ) < 512 := (y 2).isLt
  rw [zc_at m c t _ _ h1 (by omega), row_of]

theorem lnorm_congr (A A' g g' b b' : ℕ → EReal) (c : ℕ) (hc : c < 512) (hA : ∀ c, c < 512 → A c = A' c) (hg : g c = g' c) (hb : b c = b' c) :
    lnorm A g b c = lnorm A' g' b' c := by
  have e : (∑ x : Fin 512, A x) = ∑ x : Fin 512, A' x := Finset.sum_congr rfl fun x _ => hA x x.2
  unfold lnorm
  rw [e, hA c hc, hg, hb]
  simp only [fun x : Fin 512 => hA x x.2]

theorem gated_congr (U N A B U' N' A' B' : ℕ → ℕ → EReal) (S S' : ℕ → ℕ → ℕ → EReal) (q q' r c : ℕ)
    (hU : U (q + r) c = U' (q' + r) c) (hA : A (q + r) c = A' (q' + r) c) (hB : B r c = B' r c)
    (hN : ∀ x, x < 128 → N (q + x) c = N' (q' + x) c) (hS : ∀ x, x < 128 → S (c / 128) r x = S' (c / 128) r x) :
    gated U N A B S q r c = gated U' N' A' B' S' q' r c := by
  unfold gated mixrow
  rw [hU, hA, hB]
  simp only [fun x : Fin 128 => hN x x.2, fun x : Fin 128 => hS x x.2]

/-- The fifth result: the gated mixing. -/
theorem arr_oa (c : Dev nD) : (dats (F := Ideal) m 0 c).arrAt 16 cfg0.N = fun i : S4x8192x512.Idx =>
    mixed (aX m c) (aG m c) (aW m c) (aS m c) (m (c.tc.loc main_arg7) : Mat 4 128) (m (c.tc.loc main_arg8) : Row 512) (m (c.tc.loc main_arg9) : Row 512)
      (i 0) (i 1) (i 2) := by
  refine (dats m 0 c).arrAt_eq_of_covers 16 _ (by decide +kernel) fun t hf y => ?_
  blk_simp [idx_16]
  rw [after0_16]
  refine (out_oa _ _ _ _ _ _ _ _ _ _ _ _ y).trans ?_
  have h0 : (y 0 : ℕ) = 0 := by have : (y 0).val < 1 := (y 0).isLt; omega
  have h1 : (y 1 : ℕ) < 512 := (y 1).isLt
  have h2 : (y 2 : ℕ) < 512 := (y 2).isLt
  have er : ∀ x, 512 * (grid0.coords t 1 : ℕ) + (128 * ((y 1 : ℕ) / 128) + x) = 128 * (((grid0.coords t 1 : ℕ) * 512 + (y 1 : ℕ)) / 128) + x := fun x => by omega
  unfold mixed
  rw [show ((grid0.coords t 1 : ℕ) * 512 + (y 1 : ℕ)) % 128 = (y 1 : ℕ) % 128 by omega]
  refine gated_congr _ _ _ _ _ _ _ _ _ _ _ _ _ _ ?_ ?_ ?_ (fun x hx => ?_) (fun x hx => ?_)
  · rw [zc_at m c t _ _ (by omega) (by omega), er]
  · rw [zc_at m c t _ _ (by omega) (by omega), er]
  · rw [blk_9 m c t]
    exact (rd2_of _ ⟨(y 1 : ℕ) % 128, by omega⟩ ⟨(y 2 : ℕ), h2⟩).symm.trans (b_tab m c _ _)
  · refine lnorm_congr _ _ _ _ _ _ _ h2 (fun j hj => ?_) ?_ ?_
    · rw [zc_at m c t _ _ (by omega) (by omega), er]
    · rw [blk_10 m c t]
      exact (rd2_of _ 0 ⟨(y 2 : ℕ), h2⟩).symm.trans (lg_tab m c _)
    · rw [blk_11 m c t]
      exact (rd2_of _ 0 ⟨(y 2 : ℕ), h2⟩).symm.trans (lb_tab m c _)
  · exact blk_8 m c t _ _ _ (by omega) (by omega) hx

end Cert.Mixer

end
-- ==== Proof.Proj.Ref.lean ====
/- What the reference's projections compute, entry by entry. -/
module

public import proofs.«01_k».proof.Proof.Gen.MixersIdeal.Read
public import proofs.«01_k».proof.Proof.Proj.Layer

@[expose] public section

set_option maxRecDepth 16384

noncomputable section

open Idealize.ShloMosaic Idealize.ShloMosaic.TcCoe Idealize.SL.Sem
open Cert.MixersIdeal Cert.MixersIdeal.Gen Cert.MixersIdeal.Read Cert.Math Cert.Attn

namespace Cert.Mixer.Ref

variable (X : Stream) (G : Row 1024) (W : Mat 1024 3584)

theorem normed_at (b : Fin 4) (s : Fin 8192) (k : Fin 1024) :
    val_main_v12 (F := Ideal) X G (ix3 b s k) = rmsn (rd3 X b s) (rd1 G) k := by
  have h : ∀ k : Fin 1024, X (ix3 b s k) = rd3 X b s k := fun k => rd3_ix X b s k
  have h2 : G (ix1 k) = rd1 G k := rd1_of G k
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  simp only [h, h2, Ideal.ofBits_zero_f32, zero_add]
  rfl

theorem col_at (b : Fin 4) (s : Fin 8192) (c : Fin 3584) : val_main_v13 (F := Ideal) X G W (ix3 b s c) = zed X G W b s c := by
  have e := normed_at X G b s
  have e' : ∀ k : Fin 1024, W (ix2 k c) = rd2 W k c := fun k => rd2_of W k c
  generalize hX : val_main_v12 (F := Ideal) X G = Y at e
  pointwise [val_main_v13, hX]
  simp only [e, e']
  rfl

theorem slab0 (b : Fin 4) (s : Fin 8192) (c : Fin 512) : val_main_v14 (F := Ideal) X G W (ix3 b s c) = zed X G W b s (0 + c) := by
  have e := col_at X G W b s (⟨(c : ℕ), by omega⟩ : Fin 3584)
  rw [Nat.zero_add]
  generalize hX : val_main_v13 (F := Ideal) X G W = Y at e
  pointwise [val_main_v14, hX]
  exact e
theorem slab1 (b : Fin 4) (s : Fin 8192) (c : Fin 512) : val_main_v15 (F := Ideal) X G W (ix3 b s c) = zed X G W b s (512 + c) := by
  have e := col_at X G W b s
  generalize hX : val_main_v13 (F := Ideal) X G W = Y at e
  pointwise [val_main_v15, hX]
  exact e _
theorem slab2 (b : Fin 4) (s : Fin 8192) (c : Fin 512) : val_main_v16 (F := Ideal) X G W (ix3 b s c) = zed X G W b s (1024 + c) := by
  have e := col_at X G W b s
  generalize hX : val_main_v13 (F := Ideal) X G W = Y at e
  pointwise [val_main_v16, hX]
  exact e _
theorem slab3 (b : Fin 4) (s : Fin 8192) (c : Fin 512) : val_main_v17 (F := Ideal) X G W (ix3 b s c) = zed X G W b s (1536 + c) := by
  have e := col_at X G W b s
  generalize hX : val_main_v13 (F := Ideal) X G W = Y at e
  pointwise [val_main_v17, hX]
  exact e _
theorem slab4 (b : Fin 4) (s : Fin 8192) (c : Fin 512) : val_main_v18 (F := Ideal) X G W (ix3 b s c) = zed X G W b s (2048 + c) := by
  have e := col_at X G W b s
  generalize hX : val_main_v13 (F := Ideal) X G W = Y at e
  pointwise [val_main_v18, hX]
  exact e _
theorem slab5 (b : Fin 4) (s : Fin 8192) (c : Fin 512) : val_main_v19 (F := Ideal) X G W (ix3 b s c) = zed X G W b s (2560 + c) := by
  have e := col_at X G W b s
  generalize hX : val_main_v13 (F := Ideal) X G W = Y at e
  pointwise [val_main_v19, hX]
  exact e _
theorem slab6 (b : Fin 4) (s : Fin 8192) (c : Fin 512) : val_main_v20 (F := Ideal) X G W (ix3 b s c) = zed X G W b s (3072 + c) := by
  have e := col_at X G W b s
  generalize hX : val_main_v13 (F := Ideal) X G W = Y at e
  pointwise [val_main_v20, hX]
  exact e _

/-- The values. -/
theorem v_at (b : Fin 4) (s : Fin 8192) (c : Fin 512) : val_main_v177 (F := Ideal) X G W (ix3 b s c) = zed X G W b s (1024 + c) := slab2 X G W b s c

/-- The silu as the reference writes it. -/
theorem silu_of (x : EReal) : x * Ideal.div 1 (1 + Ideal.exp (-x)) = silu x := rfl

/-- The attention's gate. -/
theorem sg_at (b : Fin 4) (s : Fin 8192) (c : Fin 512) : val_main_v179 (F := Ideal) X G W (ix3 b s c) = silu (zed X G W b s (1536 + c)) := by
  have e := slab3 X G W b s c
  generalize hX : val_main_v17 (F := Ideal) X G W = Y at e
  pointwise [val_main_v179, val_main_v178, val_main_call2_v5, val_main_call2_v4, val_main_call2_v3, val_main_call2_v2, val_main_call2_v1,
    val_main_call2_v0, val_main_call2_cst, val_main_call2_cst_0, hX]
  simp only [e, Ideal.ofBits_one_f32]
  exact silu_of _

/-- The mixing's gate. -/
theorem gate_at (b : Fin 4) (s : Fin 8192) (c : Fin 512) : val_main_v171 (F := Ideal) X G W (ix3 b s c) = silu (zed X G W b s (3072 + c)) := by
  have e := slab6 X G W b s c
  generalize hX : val_main_v20 (F := Ideal) X G W = Y at e
  pointwise [val_main_v171, val_main_call1_v5, val_main_call1_v4, val_main_call1_v3, val_main_call1_v2, val_main_call1_v1,
    val_main_call1_v0, val_main_call1_cst, val_main_call1_cst_0, hX]
  simp only [e, Ideal.ofBits_one_f32]
  exact silu_of _

theorem gelu_of (x : EReal) : x * (Ideal.ofBits FTy.f32 1056964608#32 * (1 + Ideal.tanh (Ideal.ofBits FTy.f32 1061962282#32
    * (x + Ideal.ofBits FTy.f32 1027024659#32 * (x * x * x))))) = gelu x := by
  unfold gelu
  rw [mul_assoc x x x]

/-- The mixing's kept half. -/
theorem u_at (b : Fin 4) (s : Fin 8192) (c : Fin 512) : val_main_v121 (F := Ideal) X G W (ix3 b s c) = gelu (zed X G W b s (2048 + c)) := by
  have e := slab4 X G W b s c
  generalize hX : val_main_v18 (F := Ideal) X G W = Y at e
  pointwise [val_main_v121, val_main_v120, val_main_v119, val_main_v118, val_main_v117, val_main_v116, val_main_v115, val_main_v114,
    val_main_v113, val_main_v112, val_main_v111, val_main_v110, val_main_v109, val_main_cst_13, val_main_cst_14, val_main_cst_15, val_main_cst_16, hX]
  simp only [e, Ideal.ofBits_one_f32]
  exact gelu_of _

/-- The mixing's moved half. -/
theorem w_at (b : Fin 4) (s : Fin 8192) (c : Fin 512) : val_main_v134 (F := Ideal) X G W (ix3 b s c) = gelu (zed X G W b s (2560 + c)) := by
  have e := slab5 X G W b s c
  generalize hX : val_main_v19 (F := Ideal) X G W = Y at e
  pointwise [val_main_v134, val_main_v133, val_main_v132, val_main_v131, val_main_v130, val_main_v129, val_main_v128, val_main_v127,
    val_main_v126, val_main_v125, val_main_v124, val_main_v123, val_main_v122, val_main_cst_17, val_main_cst_18, val_main_cst_19, val_main_cst_20, hX]
  simp only [e, Ideal.ofBits_one_f32]
  exact gelu_of _

end Cert.Mixer.Ref

end
-- ==== Proof.Proj.RefRope.lean ====
/- What the reference's head norm and rotary embedding compute, entry by entry. -/
module

public import proofs.«01_k».proof.Proof.Proj.Ref

@[expose] public section

set_option maxRecDepth 16384

noncomputable section

open Idealize.ShloMosaic Idealize.ShloMosaic.TcCoe Idealize.SL.Sem
open Cert.MixersIdeal Cert.MixersIdeal.Gen Cert.MixersIdeal.Read Cert.Math Cert.Attn

namespace Cert.Mixer.Ref

variable (X : Stream) (G : Row 1024) (W : Mat 1024 3584) (P : (⟨2, ![4, 8192]⟩ : Shape).Idx → BitVec 32) (N : Row 64)

/-- The columns by heads. -/
theorem heads_of (Y : (⟨3, ![4, 8192, 512]⟩ : Shape).Idx → EReal) (i : (⟨3, ![4, 8192, 512]⟩ : Shape).Idx) (b s c : ℕ) (Z : ℕ → ℕ → ℕ → EReal)
    (e : ∀ (b : Fin 4) (s : Fin 8192) (c : Fin 512), Y (ix3 b s c) = Z b s c) (h0 : (i 0 : ℕ) = b) (h1 : (i 1 : ℕ) = s) (h2 : (i 2 : ℕ) = c) :
    Y i = Z b s c := by
  subst h0 h1 h2
  refine (congrArg Y ?_).trans (e (i 0) (i 1) (i 2))
  funext a; fin_cases a <;> rfl

theorem heads0 (b : Fin 4) (s : Fin 8192) (h : Fin 8) (d : Fin 64) :
    val_main_v21 (F := Ideal) X G W (ix4 b s h d) = zed X G W b s (0 + (64 * h + d)) := by
  rw [val_main_v21_apply]
  refine heads_of (val_main_v14 (F := Ideal) X G W) _ b s (64 * h + d) (fun b s c => zed X G W b s (0 + c)) (slab0 X G W) ?_ ?_ ?_
  · show ((((b : ℕ) * 8192 + (s : ℕ)) * 8 + (h : ℕ)) * 64 + (d : ℕ)) / 4194304 = b; omega
  · show ((((b : ℕ) * 8192 + (s : ℕ)) * 8 + (h : ℕ)) * 64 + (d : ℕ)) / 512 % 8192 = s; omega
  · show ((((b : ℕ) * 8192 + (s : ℕ)) * 8 + (h : ℕ)) * 64 + (d : ℕ)) % 512 = 64 * (h : ℕ) + d; omega

theorem heads1 (b : Fin 4) (s : Fin 8192) (h : Fin 8) (d : Fin 64) :
    val_main_v66 (F := Ideal) X G W (ix4 b s h d) = zed X G W b s (512 + (64 * h + d)) := by
  rw [val_main_v66_apply]
  refine heads_of (val_main_v15 (F := Ideal) X G W) _ b s (64 * h + d) (fun b s c => zed X G W b s (512 + c)) (slab1 X G W) ?_ ?_ ?_
  · show ((((b : ℕ) * 8192 + (s : ℕ)) * 8 + (h : ℕ)) * 64 + (d : ℕ)) / 4194304 = b; omega
  · show ((((b : ℕ) * 8192 + (s : ℕ)) * 8 + (h : ℕ)) * 64 + (d : ℕ)) / 512 % 8192 = s; omega
  · show ((((b : ℕ) * 8192 + (s : ℕ)) * 8 + (h : ℕ)) * 64 + (d : ℕ)) % 512 = 64 * (h : ℕ) + d; omega

theorem headm_of (Z g : ℕ → EReal) (h d : ℕ) (hd : d < 64) :
    Z (64 * h + d) * Ideal.rsqrt (Ideal.div (∑ k : Fin 64, Z (64 * h + k) * Z (64 * h + k)) headw + eps) * g d = headm Z g (64 * h + d) := by
  unfold headm
  rw [show (64 * h + d) / 64 = h by omega, show (64 * h + d) % 64 = d by omega]

theorem norm0 (o : ℕ) (ho : o = 0) (b : Fin 4) (s : Fin 8192) (h : Fin 8) (d : Fin 64) :
    val_main_v34 (F := Ideal) X G W N (ix4 b s h d) = headm (fun c => zed X G W b s (o + c)) (rd1 N) (64 * h + d) := by
  have e : ∀ d : Fin 64, val_main_v21 (F := Ideal) X G W (ix4 b s h d) = zed X G W b s (o + (64 * h + d)) := fun d => by
    rw [ho]; exact heads0 X G W b s h d
  have e2 : N (ix1 d) = rd1 N d := rd1_of N d
  generalize hX : val_main_v21 (F := Ideal) X G W = Y at e
  pointwise [val_main_v34, val_main_v33, val_main_v32, val_main_v31, val_main_v30, val_main_v29, val_main_v28, val_main_v27, val_main_v26,
    val_main_v25, val_main_v24, val_main_v23, val_main_v22, val_main_cst_2, val_main_cst_3, val_main_cst_4, hX]
  simp only [e, e2, Ideal.ofBits_zero_f32, zero_add (M := EReal)]
  exact headm_of (fun c => zed X G W b s (o + c)) _ h d d.2

theorem norm1 (b : Fin 4) (s : Fin 8192) (h : Fin 8) (d : Fin 64) :
    val_main_v79 (F := Ideal) X G W N (ix4 b s h d) = headm (fun c => zed X G W b s (512 + c)) (rd1 N) (64 * h + d) := by
  have e := heads1 X G W b s h
  have e2 : N (ix1 d) = rd1 N d := rd1_of N d
  generalize hX : val_main_v66 (F := Ideal) X G W = Y at e
  pointwise [val_main_v79, val_main_v78, val_main_v77, val_main_v76, val_main_v75, val_main_v74, val_main_v73, val_main_v72, val_main_v71,
    val_main_v70, val_main_v69, val_main_v68, val_main_v67, val_main_cst_8, val_main_cst_9, val_main_cst_10, hX]
  simp only [e, e2, Ideal.ofBits_zero_f32, zero_add]
  exact headm_of (fun c => zed X G W b s (512 + c)) _ h d d.2

theorem angle_at (b : Fin 4) (s : Fin 8192) (l : Fin 32) : val_main_v46 (F := Ideal) P (ix3 b s l) = rd2 (place P) b s * freq l := by
  have e : place P (ix2 b s) = rd2 (place P) b s := rd2_of _ b s
  rw [← e]
  pointwise [val_main_v46, val_main_v45, val_main_v44, val_main_v43, val_main_v42, val_main_v41, val_main_v40, val_main_v39, val_main_v38,
    val_main_v37, val_main_v36, val_main_v35, val_main_cst_5, val_main_cst_6]
  rfl

/-- The two halves of a head. -/
theorem rope_of (Y co si : ℕ → EReal) (h d : ℕ) (hd : d < 64) (c : EReal)
    (h1 : d < 32 → c = Y (64 * h + d) * co d - Y (64 * h + (32 + d)) * si d)
    (h2 : ¬ d < 32 → c = Y (64 * h + (32 + (d - 32))) * co (d - 32) + Y (64 * h + (d - 32)) * si (d - 32)) : c = rope Y co si (64 * h + d) := by
  unfold rope
  rw [show (64 * h + d) % 64 = d by omega]
  split
  · next hlt =>
    rw [h1 hlt, show (64 * h + d) % 32 = d by omega, show 64 * h + d + 32 = 64 * h + (32 + d) by omega]
  · next hlt =>
    rw [h2 hlt, show (64 * h + d) % 32 = d - 32 by omega, show 64 * h + d - 32 = 64 * h + (d - 32) by omega,
      show 64 * h + (32 + (d - 32)) = 64 * h + d by omega]

set_option maxHeartbeats 1000000 in
theorem spun0 (o : ℕ) (ho : o = 0) (b : Fin 4) (s : Fin 8192) (h : Fin 8) (d : Fin 64) :
    val_main_v63 (F := Ideal) X P G W N (ix4 b s h d) = spun X G W P N o b s (64 * h + d) := by
  have e := norm0 X G W N o ho b s h
  have e2 := angle_at P b s
  generalize hX : val_main_v34 (F := Ideal) X G W N = Y at e
  generalize hA : val_main_v46 (F := Ideal) P = A at e2
  unfold spun
  refine rope_of _ _ _ h d d.2 _ ?_ ?_
  · intro hlt
    pointwise [val_main_v63, val_main_v57, val_main_v56, val_main_v55, val_main_v54, val_main_v53, val_main_v52, val_main_v51, val_main_v50,
      val_main_v49, val_main_v48, val_main_v47, hX, hA]
    rw [dif_pos hlt]
    simp only [e, e2]
  · intro hlt
    pointwise [val_main_v63, val_main_v62, val_main_v61, val_main_v60, val_main_v59, val_main_v58, val_main_v52, val_main_v51, val_main_v50,
      val_main_v49, val_main_v48, val_main_v47, hX, hA]
    rw [dif_neg hlt]
    simp only [e, e2]

set_option maxHeartbeats 1000000 in
theorem spun1 (b : Fin 4) (s : Fin 8192) (h : Fin 8) (d : Fin 64) :
    val_main_v108 (F := Ideal) X P G W N (ix4 b s h d) = spun X G W P N 512 b s (64 * h + d) := by
  have e := norm1 X G W N b s h
  have e2 := angle_at P b s
  rw [show val_main_v46 (F := Ideal) P = val_main_v91 P from rfl] at e2
  generalize hX : val_main_v79 (F := Ideal) X G W N = Y at e
  generalize hA : val_main_v91 (F := Ideal) P = A at e2
  unfold spun
  refine rope_of _ _ _ h d d.2 _ ?_ ?_
  · intro hlt
    pointwise [val_main_v108, val_main_v102, val_main_v101, val_main_v100, val_main_v99, val_main_v98, val_main_v97, val_main_v96, val_main_v95,
      val_main_v94, val_main_v93, val_main_v92, hX, hA]
    rw [dif_pos hlt]
    simp only [e, e2]
  · intro hlt
    pointwise [val_main_v108, val_main_v107, val_main_v106, val_main_v105, val_main_v104, val_main_v103, val_main_v97, val_main_v96, val_main_v95,
      val_main_v94, val_main_v93, val_main_v92, hX, hA]
    rw [dif_neg hlt]
    simp only [e, e2]

/-- The heads side by side again. -/
theorem joined (Y : (⟨4, ![4, 8192, 8, 64]⟩ : Shape).Idx → EReal) (i : (⟨4, ![4, 8192, 8, 64]⟩ : Shape).Idx) (b : Fin 4) (s : Fin 8192) (c : Fin 512)
    (Z : ℕ → EReal) (e : ∀ (h : Fin 8) (d : Fin 64), Y (ix4 b s h d) = Z (64 * h + d)) (h0 : (i 0 : ℕ) = b) (h1 : (i 1 : ℕ) = s)
    (h2 : (i 2 : ℕ) = (c : ℕ) / 64) (h3 : (i 3 : ℕ) = (c : ℕ) % 64) : Y i = Z c := by
  have hi : i = ix4 b s (⟨(c : ℕ) / 64, by omega⟩ : Fin 8) (⟨(c : ℕ) % 64, by omega⟩ : Fin 64) := by
    funext a
    refine Fin.ext ?_
    fin_cases a
    exacts [h0, h1, h2, h3]
  rw [hi, e]
  exact congrArg Z (by show 64 * ((c : ℕ) / 64) + (c : ℕ) % 64 = c; omega)

theorem scaled_at (b : Fin 4) (s : Fin 8192) (h : Fin 8) (d : Fin 64) :
    val_main_v65 (F := Ideal) X P G W N (ix4 b s h d) = spun X G W P N 0 b s (64 * h + d) * Ideal.ofBits FTy.f32 1040187392#32 := by
  rw [val_main_v65_apply, val_main_v64_apply, val_main_cst_7_apply, spun0 X G W P N 0 rfl]
  rfl

theorem q_at (b : Fin 4) (s : Fin 8192) (c : Fin 512) :
    val_main_v174 (F := Ideal) X P G W N (ix3 b s c) = spun X G W P N 0 b s c * Ideal.ofBits FTy.f32 1040187392#32 := by
  rw [val_main_v174_apply, val_main_v173_apply]
  refine joined (val_main_v65 (F := Ideal) X P G W N) _ b s c (fun c => spun X G W P N 0 b s c * Ideal.ofBits FTy.f32 1040187392#32)
    (scaled_at X G W P N b s) ?_ ?_ ?_ ?_
  · show (((b : ℕ) * 8192 + s) * 512 + c) / 4194304 = b; omega
  · show (((b : ℕ) * 8192 + s) * 512 + c) / 512 % 8192 = s; omega
  · show (((b : ℕ) * 8192 + s) * 512 + c) / 64 % 8 = (c : ℕ) / 64; omega
  · show (((b : ℕ) * 8192 + s) * 512 + c) % 64 = (c : ℕ) % 64; omega

theorem k_at (b : Fin 4) (s : Fin 8192) (c : Fin 512) :
    val_main_v176 (F := Ideal) X P G W N (ix3 b s c) = spun X G W P N 512 b s c := by
  rw [val_main_v176_apply, val_main_v175_apply]
  refine joined (val_main_v108 (F := Ideal) X P G W N) _ b s c (fun c => spun X G W P N 512 b s c) (spun1 X G W P N b s) ?_ ?_ ?_ ?_
  · show (((b : ℕ) * 8192 + s) * 512 + c) / 4194304 = b; omega
  · show (((b : ℕ) * 8192 + s) * 512 + c) / 512 % 8192 = s; omega
  · show (((b : ℕ) * 8192 + s) * 512 + c) / 64 % 8 = (c : ℕ) / 64; omega
  · show (((b : ℕ) * 8192 + s) * 512 + c) % 64 = (c : ℕ) % 64; omega

end Cert.Mixer.Ref

end
-- ==== Proof.Proj.RefMix.lean ====
/- What the reference's gated mixing computes, entry by entry. -/
module

public import proofs.«01_k».proof.Proof.Proj.Ref

@[expose] public section

set_option maxRecDepth 16384

noncomputable section

open Idealize.ShloMosaic Idealize.ShloMosaic.TcCoe Idealize.SL.Sem
open Cert.MixersIdeal Cert.MixersIdeal.Gen Cert.MixersIdeal.Read Cert.Math Cert.Attn

namespace Cert.Mixer.Ref

variable (X : Stream) (G : Row 1024) (W : Mat 1024 3584) (S : (⟨3, ![4, 128, 128]⟩ : Shape).Idx → EReal) (B : Mat 4 128) (lg lb : Row 512)

theorem lnorm_at (b : Fin 4) (s : Fin 8192) (c : Fin 512) :
    val_main_v156 (F := Ideal) X G W lg lb (ix3 b s c) = lnorm (fun c => gelu (zed X G W b s (2560 + c))) (rd1 lg) (rd1 lb) c := by
  have e := w_at X G W b s
  have e1 : lg (ix1 c) = rd1 lg c := rd1_of lg c
  have e2 : lb (ix1 c) = rd1 lb c := rd1_of lb c
  generalize hX : val_main_v134 (F := Ideal) X G W = Y at e
  pointwise [val_main_v156, val_main_v155, val_main_v154, val_main_v153, val_main_v152, val_main_v151, val_main_v150, val_main_v149,
    val_main_v148, val_main_v147, val_main_v146, val_main_v145, val_main_v144, val_main_v143, val_main_v142, val_main_v141, val_main_v140,
    val_main_v139, val_main_v138, val_main_v137, val_main_v136, val_main_v135, val_main_cst_21, val_main_cst_22, val_main_cst_23,
    val_main_cst_24, val_main_cst_25, hX]
  simp only [e, e1, e2, Ideal.ofBits_zero_f32, zero_add]
  rfl

/-- The sources by chunk and group. -/
theorem source_at (b : Fin 4) (q : Fin 64) (x : Fin 128) (g : Fin 4) (d : Fin 128) :
    val_main_v157 (F := Ideal) X G W lg lb (ix5 b q x g d)
      = lnorm (fun c => gelu (zed X G W b (128 * q + x) (2560 + c))) (rd1 lg) (rd1 lb) (128 * g + d) := by
  have e := lnorm_at X G W lg lb b (⟨128 * q + x, by omega⟩ : Fin 8192) (⟨128 * g + d, by omega⟩ : Fin 512)
  rw [val_main_v157_apply]
  refine (congrArg (val_main_v156 (F := Ideal) X G W lg lb) (funext fun a => Fin.ext ?_)).trans e
  fin_cases a
  · show (((((b : ℕ) * 64 + q) * 128 + x) * 4 + g) * 128 + d) / 4194304 = b; omega
  · show (((((b : ℕ) * 64 + q) * 128 + x) * 4 + g) * 128 + d) / 512 % 8192 = 128 * (q : ℕ) + x; omega
  · show (((((b : ℕ) * 64 + q) * 128 + x) * 4 + g) * 128 + d) % 512 = 128 * (g : ℕ) + d; omega

theorem lower_bits : ∀ t x : Fin 128, IntOp.cmpi .sge (IntOp.addi (BitVec.ofNat 32 (t : ℕ)) 0#32) (BitVec.ofNat 32 (x : ℕ)) = if (x : ℕ) ≤ t then 1#1 else 0#1 := by
  decide +kernel

/-- The earlier sources' weights. -/
theorem weight_at (g : Fin 4) (t x : Fin 128) :
    val_main_v162 (F := Ideal) S (ix3 g t x) = if (x : ℕ) ≤ t then rd3 S g t x else 0 := by
  have e : S (ix3 g t x) = rd3 S g t x := rd3_ix S g t x
  pointwise [val_main_v162, val_main_v161, val_main_v160, val_main_v159, val_main_v158, val_main_call0_v5, val_main_call0_v4, val_main_call0_v3,
    val_main_call0_v2, val_main_call0_v1, val_main_call0_v0, val_main_call0_c, val_main_call0_cst, val_main_cst_26]
  rw [lower_bits, select_bits, e]

theorem mix_at (b : Fin 4) (q : Fin 64) (t : Fin 128) (g : Fin 4) (d : Fin 128) :
    val_main_v168 (F := Ideal) X G W S B lg lb (ix5 b q t g d)
      = mixrow (rd3 S g t) (fun x => lnorm (fun c => gelu (zed X G W b (128 * q + x) (2560 + c))) (rd1 lg) (rd1 lb) (128 * g + d)) t + rd2 B g t := by
  have e := fun x => source_at X G W lg lb b q x g d
  have e1 := weight_at S g t
  have e2 : B (ix2 g t) = rd2 B g t := rd2_of B g t
  generalize hX : val_main_v157 (F := Ideal) X G W lg lb = Y at e
  generalize hS : val_main_v162 (F := Ideal) S = Z at e1
  pointwise [val_main_v168, val_main_v167, val_main_v166, val_main_v165, val_main_v164, val_main_v163, hX, hS]
  simp only [e, e1, e2]
  unfold mixrow
  refine congrArg (· + _) (Finset.sum_congr rfl fun x _ => ?_)
  rw [mul_comm, ite_mul, zero_mul]

theorem oa_at (b : Fin 4) (s : Fin 8192) (c : Fin 512) :
    val_main_v180 (F := Ideal) X G W S B lg lb (ix3 b s c) = mixed X G W S B lg lb b s c := by
  have e := mix_at X G W S B lg lb b (⟨(s : ℕ) / 128, by omega⟩ : Fin 64) (⟨(s : ℕ) % 128, by omega⟩ : Fin 128)
    (⟨(c : ℕ) / 128, by omega⟩ : Fin 4) (⟨(c : ℕ) % 128, by omega⟩ : Fin 128)
  have e1 : val_main_v169 (F := Ideal) X G W S B lg lb (ix3 b s c) = val_main_v168 (F := Ideal) X G W S B lg lb (ix5 b (⟨(s : ℕ) / 128, by omega⟩ : Fin 64) (⟨(s : ℕ) % 128, by omega⟩ : Fin 128)
    (⟨(c : ℕ) / 128, by omega⟩ : Fin 4) (⟨(c : ℕ) % 128, by omega⟩ : Fin 128)) := by
    rw [val_main_v169_apply]
    refine congrArg (val_main_v168 (F := Ideal) X G W S B lg lb) (funext fun a => Fin.ext ?_)
    fin_cases a
    · show (((b : ℕ) * 8192 + s) * 512 + c) / 4194304 = b; omega
    · show (((b : ℕ) * 8192 + s) * 512 + c) / 65536 % 64 = (s : ℕ) / 128; omega
    · show (((b : ℕ) * 8192 + s) * 512 + c) / 512 % 128 = (s : ℕ) % 128; omega
    · show (((b : ℕ) * 8192 + s) * 512 + c) / 128 % 4 = (c : ℕ) / 128; omega
    · show (((b : ℕ) * 8192 + s) * 512 + c) % 128 = (c : ℕ) % 128; omega
  show val_main_v121 (F := Ideal) X G W (ix3 b s c) * val_main_v169 (F := Ideal) X G W S B lg lb (ix3 b s c) * val_main_v171 (F := Ideal) X G W (ix3 b s c) = _
  rw [e1, e, u_at, gate_at]
  unfold mixed gated
  rw [show 128 * ((s : ℕ) / 128) + (s : ℕ) % 128 = s by omega]
  show _ * (mixrow _ (fun x => lnorm _ _ _ (128 * ((c : ℕ) / 128) + (c : ℕ) % 128)) _ + _) * _ = _
  rw [show 128 * ((c : ℕ) / 128) + (c : ℕ) % 128 = c by omega]

end Cert.Mixer.Ref

end
-- ==== Proof.Proj.Same.lean ====
/- The projection call computes the reference's projections, rotary embedding and gated mixing. -/
module

public import proofs.«01_k».proof.Defs
public import proofs.«01_k».proof.Proof.Proj.Arr
public import proofs.«01_k».proof.Proof.Proj.RefRope
public import proofs.«01_k».proof.Proof.Proj.RefMix
public import proofs.«01_k».proof.Proof.Gen.MixersIdeal.Run
public import Idealize.ShloMosaic.Lib.Claim

@[expose] public section

set_option maxRecDepth 16384

noncomputable section

open Idealize.ShloMosaic Idealize.ShloMosaic.TcCoe Idealize.SL.Sem Cert.Math
open Cert.MixersIdeal.Read

namespace Cert.Mixer

/-- Two result arrays equal entry by entry. -/
theorem ext3 (A : (⟨3, ![4, 8192, 512]⟩ : Shape).Idx → EReal) (f : ℕ → ℕ → ℕ → EReal) (h : ∀ (b : Fin 4) (s : Fin 8192) (c : Fin 512), A (ix3 b s c) = f b s c) :
    A = fun i => f (i 0) (i 1) (i 2) := by
  funext i
  obtain ⟨b, s, c, rfl⟩ : ∃ (b : Fin 4) (s : Fin 8192) (c : Fin 512), i = ix3 b s c := ⟨i 0, i 1, i 2, by funext a; fin_cases a <;> rfl⟩
  exact h b s c

open Cert.ProjIdeal.Gen in
theorem same (m : (ℓ : Loc Cert.ProjIdeal.nD Cert.ProjIdeal.τ Cert.ProjIdeal.sig) → Buf (Elt Ideal) ℓ) (c : Dev Cert.ProjIdeal.nD)
    (X : Stream) (P : (⟨2, ![4, 8192]⟩ : Shape).Idx → BitVec 32) (G : Row 1024) (W : Mat 1024 3584) (N K : Row 64)
    (S : (⟨3, ![4, 128, 128]⟩ : Shape).Idx → EReal) (B : Mat 4 128) (lg lb : Row 512)
    (hX : X = m (c.tc.loc Cert.ProjIdeal.main_arg0)) (hP : P = m (c.tc.loc Cert.ProjIdeal.main_arg1)) (hG : G = m (c.tc.loc Cert.ProjIdeal.main_arg2))
    (hW : W = m (c.tc.loc Cert.ProjIdeal.main_arg3)) (hN : N = m (c.tc.loc Cert.ProjIdeal.main_arg4)) (hK : K = m (c.tc.loc Cert.ProjIdeal.main_arg5))
    (hS : S = m (c.tc.loc Cert.ProjIdeal.main_arg6)) (hB : B = m (c.tc.loc Cert.ProjIdeal.main_arg7)) (hg : lg = m (c.tc.loc Cert.ProjIdeal.main_arg8))
    (hb : lb = m (c.tc.loc Cert.ProjIdeal.main_arg9)) :
    val_main_v174 (F := Ideal) X P G W N = (dats (F := Ideal) m 0 c).arrAt 12 Cert.ProjIdeal.cfg0.N
      ∧ val_main_v176 (F := Ideal) X P G W K = (dats (F := Ideal) m 0 c).arrAt 13 Cert.ProjIdeal.cfg0.N
      ∧ val_main_v177 (F := Ideal) X G W = (dats (F := Ideal) m 0 c).arrAt 14 Cert.ProjIdeal.cfg0.N
      ∧ val_main_v179 (F := Ideal) X G W = (dats (F := Ideal) m 0 c).arrAt 15 Cert.ProjIdeal.cfg0.N
      ∧ val_main_v180 (F := Ideal) X G W S B lg lb = (dats (F := Ideal) m 0 c).arrAt 16 Cert.ProjIdeal.cfg0.N := by
  have eX := hX.trans (V_main_arg0 m c).symm
  have eS := hS.trans (V_main_arg6 m c).symm
  subst eX eS hP hG hW hN hK hB hg hb
  exact ⟨(ext3 _ (fun b s c => spun _ _ _ _ _ 0 b s c * Ideal.ofBits FTy.f32 1040187392#32) (Ref.q_at _ _ _ _ _)).trans (arr_q m c).symm,
    (ext3 _ (fun b s c => spun _ _ _ _ _ 512 b s c) (Ref.k_at _ _ _ _ _)).trans (arr_k m c).symm,
    (ext3 _ (fun b s c => zed _ _ _ b s (1024 + c)) (Ref.v_at _ _ _)).trans (arr_v m c).symm,
    (ext3 _ (fun b s c => silu (zed _ _ _ b s (1536 + c))) (Ref.sg_at _ _ _)).trans (arr_sg m c).symm,
    (ext3 _ (fun b s c => mixed _ _ _ _ _ _ _ b s c) (Ref.oa_at _ _ _ _ _ _ _)).trans (arr_oa m c).symm⟩

theorem algebraic : Cert.algebraic_ProjIdeal_MixersIdeal := by
  pair_intro
  · run_from Cert.ProjIdeal.Value.run_blocks m g
  · exact (θ_run _ _ _).mono (fun r h c => by
      obtain ⟨h0, h1, h2, h3, h4, h5, h6, h7, h8, h9⟩ := hagree c
      have e := same m c _ _ _ _ _ _ _ _ _ _ h0 h1 h2 h3 h4 h5 h6 h7 h8 h9
      exact ⟨(h c).1.trans ((val_main_v174_eq (Idealize.ShloMosaic.StableHlo.launchContents m' c)).trans e.1), (h c).2.1.trans ((val_main_v176_eq (Idealize.ShloMosaic.StableHlo.launchContents m' c)).trans e.2.1),
        (h c).2.2.1.trans ((val_main_v177_eq (Idealize.ShloMosaic.StableHlo.launchContents m' c)).trans e.2.2.1), (h c).2.2.2.1.trans ((val_main_v179_eq (Idealize.ShloMosaic.StableHlo.launchContents m' c)).trans e.2.2.2.1),
        (h c).2.2.2.2.1.trans ((val_main_v180_eq (Idealize.ShloMosaic.StableHlo.launchContents m' c)).trans e.2.2.2.2), (h c).2.2.2.2.2⟩) (Cert.MixersIdeal.Value.run m' g')

end Cert.Mixer

end
-- ==== Proof.Tail.Layer.lean ====
/- The combination of the branches and the layer's output, on one token's row, each coordinate a natural number. -/
module

public import proofs.«01_k».proof.Proof.Math.Spec

@[expose] public section

set_option maxRecDepth 16384

noncomputable section

open Idealize.ShloMosaic Cert.Math

namespace Cert.Tail

/-- The lane of a packed row that holds a head's log-sum-exp. -/
def lane (h : ℕ) : ℕ := 64 * (h % 2) + 16 * (h / 2)

/-- The weight of a branch whose log-sum-exp is `x` among three. -/
def wt (a b c x : EReal) : EReal :=
  Ideal.div (Ideal.exp (x - max (max a b) c)) (Ideal.exp (a - max (max a b) c) + Ideal.exp (b - max (max a b) c) + Ideal.exp (c - max (max a b) c))

/-- The weight as an exponential times a reciprocal, and it is a real number. -/
theorem wt_mul (a b c x : EReal) (ha : Fin' a) (hb : Fin' b) (hc : Fin' c) (hx : Fin' x) :
    Ideal.exp (x - max (max a b) c) * Ideal.div 1 (Ideal.exp (a - max (max a b) c) + Ideal.exp (b - max (max a b) c) + Ideal.exp (c - max (max a b) c)) = wt a b c x
      ∧ Fin' (wt a b c x) := by
  obtain ⟨M, hM⟩ := (ha.max hb).max hc
  obtain ⟨a, rfl⟩ := ha
  obtain ⟨b, rfl⟩ := hb
  obtain ⟨c, rfl⟩ := hc
  obtain ⟨x, rfl⟩ := hx
  unfold wt
  rw [hM]
  simp only [← EReal.coe_sub, exp_coe, ← EReal.coe_add]
  have hD : Real.exp (a - M) + Real.exp (b - M) + Real.exp (c - M) ≠ 0 := by positivity
  rw [div_coe' _ hD, div_coe' _ hD, one_mul]
  exact ⟨rfl, (Fin'.coe _).mul (Fin'.coe _)⟩

/-- The branches' attended values, combined. -/
def att (L1 L2 L3 O1 O2 O3 : ℕ → EReal) (c : ℕ) : EReal :=
  wt (L1 (lane (c / 64))) (L2 (lane (c / 64))) (L3 (lane (c / 64))) (L1 (lane (c / 64))) * O1 c
    + wt (L1 (lane (c / 64))) (L2 (lane (c / 64))) (L3 (lane (c / 64))) (L2 (lane (c / 64))) * O2 c
    + wt (L1 (lane (c / 64))) (L2 (lane (c / 64))) (L3 (lane (c / 64))) (L3 (lane (c / 64))) * O3 c

/-- The residual stream after the mixers. -/
def res (X A B : ℕ → EReal) (W : ℕ → ℕ → EReal) (k : ℕ) : EReal :=
  X k + (∑ j : Fin 512, A j * W j k) + ∑ j : Fin 512, B j * W (512 + j) k

/-- The gated per-layer embedding added to the stream. -/
def fin (H g : ℕ → EReal) (W : ℕ → ℕ → EReal) (b p : ℕ → EReal) (P : ℕ → ℕ → EReal) (k : ℕ) : EReal :=
  H k + Ideal.logistic (col (rmsn H g) W k + b k) * ∑ j : Fin 256, p j * P j k

/-- A product with the table that spreads heads over their columns, the row given as itself and its remainder. -/
theorem spread (E : Fin 256 → EReal) (w : ℕ → EReal) (c : ℕ) (hc : c < 512) (hE : ∀ x : Fin 256, E x = if (x : ℕ) % 128 = lane (c / 64) then 1 else 0)
    (u : Fin 128 → EReal) (hu : ∀ x : Fin 128, u x = w x) (hf : ∀ x, x < 128 → Fin' (w x)) :
    (∑ x : Fin 128, u x * E ⟨x, by omega⟩) + (∑ x : Fin 128, (u x - u x) * E ⟨128 + x, by omega⟩) = w (lane (c / 64)) := by
  have hl : lane (c / 64) < 128 := by unfold lane; omega
  have h2 : (∑ x : Fin 128, (u x - u x) * E ⟨128 + x, by omega⟩) = 0 := Finset.sum_eq_zero fun x _ => by
    obtain ⟨r, hr⟩ := hf x x.2
    rw [hu, hr, ← EReal.coe_sub, sub_self, EReal.coe_zero, zero_mul]
  rw [h2, add_zero, Finset.sum_eq_single (⟨lane (c / 64), hl⟩ : Fin 128)]
  · rw [hE, hu, if_pos (Nat.mod_eq_of_lt hl), mul_one]
  · intro x _ hx
    rw [hE, if_neg, mul_zero]
    exact fun h => hx (Fin.ext ((Nat.mod_eq_of_lt x.2).symm.trans h))
  · intro h; exact absurd (Finset.mem_univ _) h

end Cert.Tail

end
-- ==== Proof.Tail.Block.lean ====
/- What the output call leaves in its block. -/
module

public import proofs.«01_k».proof.Proof.Gen.OutIdeal.Frame
public import proofs.«01_k».proof.Proof.Attn.Cell
public import proofs.«01_k».proof.Proof.Tail.Layer
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.OutIdeal Cert.OutIdeal.Gen Cert.Math Cert.Attn

namespace Cert.Tail

/-- The last step's entry: the stream's row, normalized, gated and added. -/
theorem last_at (u v : FVec Ideal S512x1024 .f32) (g : Vec Ideal S1x1024 .f32) (W : Vec Ideal S1024x1024 .bf16) (b : Vec Ideal S1x1024 .f32)
    (p : Vec Ideal S1x512x256 .f32) (P : Vec Ideal S256x1024 .bf16) (H g' : ℕ → EReal) (W' : ℕ → ℕ → EReal) (b' p' : ℕ → EReal) (P' : ℕ → ℕ → EReal) (r : Fin 512)
    (hH : ∀ k : Fin 1024, u (ix2 r k) + v (ix2 r k) = H k) (hg : ∀ k : Fin 1024, g (ix2 0 k) = g' k) (hW : ∀ j k : Fin 1024, W (ix2 j k) = W' j k)
    (hb : ∀ k : Fin 1024, b (ix2 0 k) = b' k) (hp : ∀ j : Fin 256, p (ix3 0 r j) = p' j) (hP : ∀ (j : Fin 256) (k : Fin 1024), P (ix2 j k) = P' j k) (k : Fin 1024) :
    k0_pay1 u v g W b p P (ix3 0 r k) = fin H g' W' b' p' P' k := by
  pointwise [k0_pay1]
  simp only [hH, hg, hW, hb, hp, hP]
  rfl

/-- The weights' two factors. -/
theorem w_at (a b c : Vec Ideal S1x512x128 .f32) (L1 L2 L3 : ℕ → EReal) (r : Fin 512)
    (h1 : ∀ l : Fin 128, a (ix3 0 r l) = L1 l) (h2 : ∀ l : Fin 128, b (ix3 0 r l) = L2 l) (h3 : ∀ l : Fin 128, c (ix3 0 r l) = L3 l)
    (f1 : ∀ l : ℕ, l < 128 → Fin' (L1 l)) (f2 : ∀ l : ℕ, l < 128 → Fin' (L2 l)) (f3 : ∀ l : ℕ, l < 128 → Fin' (L3 l)) (l : Fin 128) :
    k0_pay6 a b c (ix2 r l) * k0_pay9 a b c (ix2 r l) = wt (L1 l) (L2 l) (L3 l) (L1 l)
      ∧ k0_pay7 a b c (ix2 r l) * k0_pay9 a b c (ix2 r l) = wt (L1 l) (L2 l) (L3 l) (L2 l)
      ∧ k0_pay8 a b c (ix2 r l) * k0_pay9 a b c (ix2 r l) = wt (L1 l) (L2 l) (L3 l) (L3 l) := by
  refine ⟨?_, ?_, ?_⟩ <;> pointwise [k0_pay6, k0_pay7, k0_pay8, k0_pay9, k0_pay5, k0_pay2, k0_pay3, k0_pay4] <;> simp only [h1, h2, h3, Ideal.ofBits_one_f32]
  · exact (wt_mul _ _ _ _ (f1 l l.2) (f2 l l.2) (f3 l l.2) (f1 l l.2)).1
  · exact (wt_mul _ _ _ _ (f1 l l.2) (f2 l l.2) (f3 l l.2) (f2 l l.2)).1
  · exact (wt_mul _ _ _ _ (f1 l l.2) (f2 l l.2) (f3 l l.2) (f3 l l.2)).1

/-- The stream after the attention's part, and the mixing's part. -/
theorem stream_at (a b c : Vec Ideal S1x512x128 .f32) (L1 L2 L3 : ℕ → EReal) (E : Vec Ideal S256x512 .bf16) (o1 o2 o3 sg oa : Vec Ideal S1x512x512 .bf16)
    (O1 O2 O3 G A : ℕ → EReal) (x : Vec Ideal S1x512x1024 .f32) (X : ℕ → EReal) (w w' : Vec Ideal S512x1024 .bf16) (W : ℕ → ℕ → EReal) (r : Fin 512)
    (h1 : ∀ l : Fin 128, a (ix3 0 r l) = L1 l) (h2 : ∀ l : Fin 128, b (ix3 0 r l) = L2 l) (h3 : ∀ l : Fin 128, c (ix3 0 r l) = L3 l)
    (f1 : ∀ l : ℕ, l < 128 → Fin' (L1 l)) (f2 : ∀ l : ℕ, l < 128 → Fin' (L2 l)) (f3 : ∀ l : ℕ, l < 128 → Fin' (L3 l))
    (hE : ∀ (x : Fin 256) (j : Fin 512), E (ix2 x j) = if (x : ℕ) % 128 = lane ((j : ℕ) / 64) then 1 else 0)
    (g1 : ∀ j : Fin 512, o1 (ix3 0 r j) = O1 j) (g2 : ∀ j : Fin 512, o2 (ix3 0 r j) = O2 j) (g3 : ∀ j : Fin 512, o3 (ix3 0 r j) = O3 j)
    (hG : ∀ j : Fin 512, sg (ix3 0 r j) = G j) (hA : ∀ j : Fin 512, oa (ix3 0 r j) = A j) (hX : ∀ k : Fin 1024, x (ix3 0 r k) = X k)
    (hw : ∀ (j : Fin 512) (k : Fin 1024), w (ix2 j k) = W j k) (hw' : ∀ (j : Fin 512) (k : Fin 1024), w' (ix2 j k) = W (512 + j) k) (k : Fin 1024) :
    k0_pay13 (k0_pay8 a b c) (k0_pay9 a b c) (k0_pay10 a b c E o1) (k0_pay11 a b c) (k0_pay12 E) (constant S512x512 .f32 0x00000000#32) o2 E o3 sg x w (ix2 r k)
        + k0_pay14 oa w' (ix2 r k)
      = res X (fun j => att L1 L2 L3 O1 O2 O3 j * G j) A W k := by
  have e := w_at a b c L1 L2 L3 r h1 h2 h3 f1 f2 f3
  generalize h6 : k0_pay6 a b c = e6 at e
  generalize h7 : k0_pay7 a b c = e7 at e
  generalize h8 : k0_pay8 a b c = e8 at e ⊢
  generalize h9 : k0_pay9 a b c = e9 at e ⊢
  have t : ∀ j : Fin 512, ∀ x : Fin 256, (fun x => E (ix2 x j)) x = if (x : ℕ) % 128 = lane ((j : ℕ) / 64) then 1 else 0 := fun j x => hE x j
  have ff := fun l hl y hy => (wt_mul (L1 l) (L2 l) (L3 l) y (f1 l hl) (f2 l hl) (f3 l hl) hy).2
  have s1 := fun j : Fin 512 => spread _ (fun l => wt (L1 l) (L2 l) (L3 l) (L1 l)) j j.2 (t j) _ (fun l => (e l).1) (fun l hl => ff l hl _ (f1 l hl))
  have s2 := fun j : Fin 512 => spread _ (fun l => wt (L1 l) (L2 l) (L3 l) (L2 l)) j j.2 (t j) _ (fun l => (e l).2.1) (fun l hl => ff l hl _ (f2 l hl))
  have s3 := fun j : Fin 512 => spread _ (fun l => wt (L1 l) (L2 l) (L3 l) (L3 l)) j j.2 (t j) _ (fun l => (e l).2.2) (fun l hl => ff l hl _ (f3 l hl))
  pointwise [k0_pay13, k0_pay14, k0_pay10, k0_pay11, k0_pay12, h6, h7, h9]
  simp only [s1, s2, s3, g1, g2, g3, hG, hA, hX, hw, hw']
  rfl

end Cert.Tail

end
-- ==== Proof.Tail.Outs.lean ====
/- The output call's block at an entry. -/
module

public import proofs.«01_k».proof.Proof.Tail.Block

@[expose] public section

set_option maxRecDepth 16384

noncomputable section

open Idealize.ShloMosaic Idealize.ShloMosaic.TcCoe Idealize.SL.Sem
open Idealize.ShloMosaic.Pipeline (Dat)
open Cert.OutIdeal Cert.OutIdeal.Gen Cert.Math Cert.Attn

namespace Cert.Tail

/-- The blocks read whole. -/
theorem ld_lse (x : Vec Ideal S1x512x128 .f32) : View.ld x r0_0 = x := by
  funext i; pointwise
  refine congrArg x (funext fun a => ?_)
  fin_cases a <;> first | rfl | exact Subsingleton.elim (α := Fin 1) _ _
theorem ld_tab (x : Vec Ideal S256x512 .bf16) : View.ld x r0_1 = x := by
  funext i; pointwise
theorem ld_val (x : Vec Ideal S1x512x512 .bf16) : View.ld x r0_2 = x := by
  funext i; pointwise
  refine congrArg x (funext fun a => ?_)
  fin_cases a <;> first | rfl | exact Subsingleton.elim (α := Fin 1) _ _
theorem ld_str (x : Vec Ideal S1x512x1024 .f32) : View.ld x r0_3 = x := by
  funext i; pointwise
  refine congrArg x (funext fun a => ?_)
  fin_cases a <;> first | rfl | exact Subsingleton.elim (α := Fin 1) _ _
theorem ld_row (x : Vec Ideal S1x1024 .f32) : View.ld x r0_6 = x := by
  funext i; pointwise
  refine congrArg x (funext fun a => ?_)
  fin_cases a <;> first | rfl | exact Subsingleton.elim (α := Fin 1) _ _
theorem ld_wg (x : Vec Ideal S1024x1024 .bf16) : View.ld x r0_7 = x := by
  funext i; pointwise
theorem ld_p (x : Vec Ideal S1x512x256 .f32) : View.ld x r0_8 = x := by
  funext i; pointwise
  refine congrArg x (funext fun a => ?_)
  fin_cases a <;> first | rfl | exact Subsingleton.elim (α := Fin 1) _ _
theorem ld_wp (x : Vec Ideal S256x1024 .bf16) : View.ld x r0_9 = x := by
  funext i; pointwise

theorem ix3_one {n k : ℕ} (x : (⟨3, ![1, n, k]⟩ : Shape).Idx) : ∃ (r : Fin n) (c : Fin k), x = ix3 0 r c :=
  ⟨x 1, x 2, funext fun a => by fin_cases a <;> first | rfl | exact Subsingleton.elim (α := Fin 1) _ _⟩

theorem out_at (x0 : Vec Ideal S1x512x1024 .f32) (x1 : Vec Ideal S1x512x256 .f32) (x2 x3 x4 : Vec Ideal S1x512x512 .bf16) (x5 x6 x7 : Vec Ideal S1x512x128 .f32)
    (x8 x9 : Vec Ideal S1x512x512 .bf16) (x10 : Vec Ideal S256x512 .bf16) (x11 : Vec Ideal S1024x1024 .bf16) (x12 : Vec Ideal S1x1024 .f32)
    (x13 : Vec Ideal S1024x1024 .bf16) (x14 : Vec Ideal S1x1024 .f32) (x15 : Vec Ideal S256x1024 .bf16)
    (X P O1 O2 O3 L1 L2 L3 G A : ℕ → ℕ → EReal) (W Wg Wp : ℕ → ℕ → EReal) (g b : ℕ → EReal)
    (h0 : ∀ (r : Fin 512) (k : Fin 1024), x0 (ix3 0 r k) = X r k) (h1 : ∀ (r : Fin 512) (k : Fin 256), x1 (ix3 0 r k) = P r k)
    (h2 : ∀ (r : Fin 512) (k : Fin 512), x2 (ix3 0 r k) = O1 r k) (h3 : ∀ (r : Fin 512) (k : Fin 512), x3 (ix3 0 r k) = O2 r k)
    (h4 : ∀ (r : Fin 512) (k : Fin 512), x4 (ix3 0 r k) = O3 r k) (h5 : ∀ (r : Fin 512) (k : Fin 128), x5 (ix3 0 r k) = L1 r k)
    (h6 : ∀ (r : Fin 512) (k : Fin 128), x6 (ix3 0 r k) = L2 r k) (h7 : ∀ (r : Fin 512) (k : Fin 128), x7 (ix3 0 r k) = L3 r k)
    (h8 : ∀ (r : Fin 512) (k : Fin 512), x8 (ix3 0 r k) = G r k) (h9 : ∀ (r : Fin 512) (k : Fin 512), x9 (ix3 0 r k) = A r k)
    (h10 : ∀ (x : Fin 256) (j : Fin 512), x10 (ix2 x j) = if (x : ℕ) % 128 = lane ((j : ℕ) / 64) then (1 : EReal) else 0)
    (h11 : ∀ j k : Fin 1024, x11 (ix2 j k) = W j k) (h12 : ∀ k : Fin 1024, x12 (ix2 0 k) = g k) (h13 : ∀ j k : Fin 1024, x13 (ix2 j k) = Wg j k)
    (h14 : ∀ k : Fin 1024, x14 (ix2 0 k) = b k) (h15 : ∀ (j : Fin 256) (k : Fin 1024), x15 (ix2 j k) = Wp j k)
    (f1 : ∀ r l : ℕ, Fin' (L1 r l)) (f2 : ∀ r l : ℕ, Fin' (L2 r l)) (f3 : ∀ r l : ℕ, Fin' (L3 r l)) (y : S1x512x1024.Idx) :
    out0_16 x0 x1 x2 x3 x4 x5 x6 x7 x8 x9 x10 x11 x12 x13 x14 x15 y
      = fin (res (X (y 1)) (fun j => att (L1 (y 1)) (L2 (y 1)) (L3 (y 1)) (O1 (y 1)) (O2 (y 1)) (O3 (y 1)) j * G (y 1) j) (A (y 1)) W) g Wg b (P (y 1)) Wp (y 2) := by
  unfold out0_16
  simp only [ld_lse, ld_tab, ld_val, ld_str, ld_row, ld_wg, ld_p, ld_wp]
  canon_tiles x q
  obtain ⟨r, c, rfl⟩ := ix3_one x
  have w1 : ∀ (j : Fin 512) (k : Fin 1024), View.ld x11 r0_4 (ix2 j k) = W j k := fun j k => by
    pointwise; exact h11 ⟨j, by omega⟩ k
  have w2 : ∀ (j : Fin 512) (k : Fin 1024), View.ld x11 r0_5 (ix2 j k) = W (512 + j) k := fun j k => by
    pointwise; exact h11 ⟨512 + j, by omega⟩ k
  rw [q1, q2]
  exact last_at _ _ _ _ _ _ _ _ _ _ _ _ _ r
    (stream_at x5 x6 x7 _ _ _ x10 x2 x3 x4 x8 x9 _ _ _ _ _ x0 _ _ _ W r (h5 r) (h6 r) (h7 r) (fun l _ => f1 r l) (fun l _ => f2 r l) (fun l _ => f3 r l)
      h10 (h2 r) (h3 r) (h4 r) (h8 r) (h9 r) (h0 r) w1 w2) h12 h13 h14 (h1 r) h15 c

end Cert.Tail

end
-- ==== Proof.Tail.Table.lean ====
/- The tables the output call is given. -/
module

public import proofs.«01_k».proof.Proof.Gen.OutIdeal.Frame
public import proofs.«01_k».proof.Proof.Proj.Table
public import proofs.«01_k».proof.Proof.Tail.Layer
public import Idealize.ShloMosaic.Lib.StableHlo.ReadAt

@[expose] public section

set_option maxRecDepth 16384

noncomputable section

open Idealize.ShloMosaic Idealize.ShloMosaic.TcCoe Idealize.SL.Sem
open Cert.OutIdeal Cert.OutIdeal.Gen Cert.Math Cert.Attn Cert.Mixer

namespace Cert.Tail

variable (m : (ℓ : Loc nD τ sig) → Buf (Elt Ideal) ℓ)

/-- A lane's group of sixteen, its head, and whether it holds the head's number, as the call's table computes them. -/
def six (x : ℕ) : BitVec 32 :=
  Scalar.select
    (IntOp.andi (IntOp.cmpi .ne (if BitVec.ofNat 32 x = 0 then 0 else if (BitVec.ofNat 32 x).msb = true then -1 else 1 : BitVec 32)
        (if (16#32 : BitVec 32) = 0 then 0 else if (16#32 : BitVec 32).msb = true then -1 else 1 : BitVec 32))
      (IntOp.cmpi .ne (IntOp.remsi .host (BitVec.ofNat 32 x) 16#32) 0#32))
    (IntOp.subi (IntOp.divsi .host (BitVec.ofNat 32 x) 16#32) 1#32)
    (IntOp.divsi .host (BitVec.ofNat 32 x) 16#32)

def headOf (x : ℕ) : BitVec 32 :=
  Scalar.select (IntOp.cmpi .slt (six x) 4#32) (IntOp.muli 2#32 (six x)) (IntOp.addi (IntOp.muli 2#32 (IntOp.subi (six x) 4#32)) 1#32)

def sixteen : BitVec 32 := Scalar.select (IntOp.cmpi .eq 16#32 0#32) 1#32 16#32

def first (x : ℕ) : BitVec 1 :=
  IntOp.cmpi .eq
    (Scalar.select
      (IntOp.andi (IntOp.cmpi .ne (IntOp.cmpi .slt (IntOp.remsi .host (BitVec.ofNat 32 x) sixteen) 0#32) (IntOp.cmpi .slt sixteen 0#32))
        (IntOp.cmpi .ne (IntOp.remsi .host (BitVec.ofNat 32 x) sixteen) 0#32))
      (IntOp.addi (IntOp.remsi .host (BitVec.ofNat 32 x) sixteen) sixteen)
      (IntOp.remsi .host (BitVec.ofNat 32 x) sixteen))
    0#32

theorem headOf_at : ∀ x : Fin 128, headOf x = BitVec.ofNat 32 (2 * ((x : ℕ) / 16 % 4) + (x : ℕ) / 64) := by decide +kernel
theorem first_at : ∀ x : Fin 128, first x = if (x : ℕ) % 16 = 0 then 1#1 else 0#1 := by decide +kernel

theorem lane_iff : ∀ (x : Fin 128) (h : Fin 8), (x : ℕ) = lane h ↔ 2 * ((x : ℕ) / 16 % 4) + (x : ℕ) / 64 = h ∧ (x : ℕ) % 16 = 0 := by
  unfold lane
  decide +kernel

theorem e_cell (x : Fin 128) (j : Fin 512) :
    FloatOps.uitofp (F := Ideal) FTy.f32 (IntOp.andi (IntOp.cmpi .eq (headOf x) (group j)) (first x)) = if (x : ℕ) = lane ((j : ℕ) / 64) then (1 : EReal) else 0 := by
  have hx := x.2
  have hj := j.2
  rw [headOf_at, group_at, first_at, bits_at ⟨2 * ((x : ℕ) / 16 % 4) + (x : ℕ) / 64, by omega⟩ ⟨(j : ℕ) / 64, by omega⟩]
  have e := lane_iff x ⟨(j : ℕ) / 64, by omega⟩
  by_cases h1 : 2 * ((x : ℕ) / 16 % 4) + (x : ℕ) / 64 = (j : ℕ) / 64 <;> by_cases h2 : (x : ℕ) % 16 = 0
  · rw [if_pos h1, if_pos h2, if_pos (e.2 ⟨h1, h2⟩)]; exact Mixer.bit_one
  · rw [if_pos h1, if_neg h2, if_neg fun h => h2 (e.1 h).2]; exact Mixer.bit_zero
  · rw [if_neg h1, if_pos h2, if_neg fun h => h1 (e.1 h).1]; exact Mixer.bit_zero
  · rw [if_neg h1, if_neg h2, if_neg fun h => h1 (e.1 h).1]; exact Mixer.bit_zero

set_option maxHeartbeats 4000000 in
theorem e_tab (c : Dev nD) (x : Fin 256) (j : Fin 512) :
    (V m c main_v28 : (⟨2, ![256, 512]⟩ : Shape).Idx → EReal) (ix2 x j) = if (x : ℕ) % 128 = lane ((j : ℕ) / 64) then (1 : EReal) else 0 := by
  show StableHlo.after (List.flatten [hostOps0, hostOps0_1, hostOps0_2, hostOps0_3, hostOps0_4, hostOps0_5, hostOps0_6, hostOps0_7, hostOps0_8]) (fun b => m (c, b)) main_v28 (ix2 x j) = _
  after_reads_at
  by_cases h : (x : ℕ) < 128
  · rw [dif_pos h, Nat.mod_eq_of_lt h]
    after_reads_at
    exact e_cell ⟨x, h⟩ j
  · rw [dif_neg h, show (x : ℕ) % 128 = (x : ℕ) - 128 by omega]
    after_reads_at
    exact e_cell ⟨(x : ℕ) - 128, by omega⟩ j

set_option maxHeartbeats 2000000 in
theorem wo_tab (c : Dev nD) (j k : Fin 1024) :
    (V m c main_v29 : (⟨2, ![1024, 1024]⟩ : Shape).Idx → EReal) (ix2 j k) = rd2 (m (c.tc.loc main_arg10) : Mat 1024 1024) j k := by
  show StableHlo.after (List.flatten [hostOps0, hostOps0_1, hostOps0_2, hostOps0_3, hostOps0_4, hostOps0_5, hostOps0_6, hostOps0_7, hostOps0_8]) (fun b => m (c, b)) main_v29 (ix2 j k) = _
  after_reads_at
  exact rd2_of (m (c.tc.loc main_arg10) : Mat 1024 1024) j k

set_option maxHeartbeats 2000000 in
theorem g_tab (c : Dev nD) (k : Fin 1024) :
    (V m c main_v30 : (⟨2, ![1, 1024]⟩ : Shape).Idx → EReal) (ix2 0 k) = rd1 (m (c.tc.loc main_arg11) : Row 1024) k := by
  show StableHlo.after (List.flatten [hostOps0, hostOps0_1, hostOps0_2, hostOps0_3, hostOps0_4, hostOps0_5, hostOps0_6, hostOps0_7, hostOps0_8]) (fun b => m (c, b)) main_v30 (ix2 0 k) = _
  after_reads_at
  exact rd1_of (m (c.tc.loc main_arg11) : Row 1024) k

set_option maxHeartbeats 2000000 in
theorem wg_tab (c : Dev nD) (j k : Fin 1024) :
    (V m c main_v31 : (⟨2, ![1024, 1024]⟩ : Shape).Idx → EReal) (ix2 j k) = rd2 (m (c.tc.loc main_arg12) : Mat 1024 1024) j k := by
  show StableHlo.after (List.flatten [hostOps0, hostOps0_1, hostOps0_2, hostOps0_3, hostOps0_4, hostOps0_5, hostOps0_6, hostOps0_7, hostOps0_8]) (fun b => m (c, b)) main_v31 (ix2 j k) = _
  after_reads_at
  exact rd2_of (m (c.tc.loc main_arg12) : Mat 1024 1024) j k

set_option maxHeartbeats 2000000 in
theorem bg_tab (c : Dev nD) (k : Fin 1024) :
    (V m c main_v32 : (⟨2, ![1, 1024]⟩ : Shape).Idx → EReal) (ix2 0 k) = rd1 (m (c.tc.loc main_arg13) : Row 1024) k := by
  show StableHlo.after (List.flatten [hostOps0, hostOps0_1, hostOps0_2, hostOps0_3, hostOps0_4, hostOps0_5, hostOps0_6, hostOps0_7, hostOps0_8]) (fun b => m (c, b)) main_v32 (ix2 0 k) = _
  after_reads_at
  exact rd1_of (m (c.tc.loc main_arg13) : Row 1024) k

set_option maxHeartbeats 2000000 in
theorem wp_tab (c : Dev nD) (j : Fin 256) (k : Fin 1024) :
    (V m c main_v33 : (⟨2, ![256, 1024]⟩ : Shape).Idx → EReal) (ix2 j k) = rd2 (m (c.tc.loc main_arg14) : Mat 256 1024) j k := by
  show StableHlo.after (List.flatten [hostOps0, hostOps0_1, hostOps0_2, hostOps0_3, hostOps0_4, hostOps0_5, hostOps0_6, hostOps0_7, hostOps0_8]) (fun b => m (c, b)) main_v33 (ix2 j k) = _
  after_reads_at
  exact rd2_of (m (c.tc.loc main_arg14) : Mat 256 1024) j k

end Cert.Tail

end
-- ==== Proof.Tail.Arr.lean ====
/- The array the output call leaves. -/
module

public import proofs.«01_k».proof.Proof.Gen.OutIdeal.Value
public import proofs.«01_k».proof.Proof.Tail.Outs
public import proofs.«01_k».proof.Proof.Tail.Table

@[expose] public section

set_option maxRecDepth 16384

noncomputable section

open Idealize.ShloMosaic Idealize.ShloMosaic.TcCoe Idealize.SL.Sem Cert.Math
open Idealize.ShloMosaic.Pipeline (Dat)
open Cert.OutIdeal Cert.OutIdeal.Gen Cert.Attn Cert.Mixer

namespace Cert.Tail

variable (m : (ℓ : Loc nD τ sig) → Buf (Elt Ideal) ℓ)

theorem idx_0 : ∀ t : Fin cfg0.N, win0_0.index t = ![(grid0.coords t 0 : ℕ), (grid0.coords t 1 : ℕ), 0] := (by decide +kernel : ∀ t : Fin grid0.N, _)
theorem idx_1 : ∀ t : Fin cfg0.N, win0_1.index t = ![(grid0.coords t 0 : ℕ), (grid0.coords t 1 : ℕ), 0] := (by decide +kernel : ∀ t : Fin grid0.N, _)
theorem idx_2 : ∀ t : Fin cfg0.N, win0_2.index t = ![(grid0.coords t 0 : ℕ), (grid0.coords t 1 : ℕ), 0] := (by decide +kernel : ∀ t : Fin grid0.N, _)
theorem idx_3 : ∀ t : Fin cfg0.N, win0_3.index t = ![(grid0.coords t 0 : ℕ), (grid0.coords t 1 : ℕ), 0] := (by decide +kernel : ∀ t : Fin grid0.N, _)
theorem idx_4 : ∀ t : Fin cfg0.N, win0_4.index t = ![(grid0.coords t 0 : ℕ), (grid0.coords t 1 : ℕ), 0] := (by decide +kernel : ∀ t : Fin grid0.N, _)
theorem idx_5 : ∀ t : Fin cfg0.N, win0_5.index t = ![(grid0.coords t 0 : ℕ), (grid0.coords t 1 : ℕ), 0] := (by decide +kernel : ∀ t : Fin grid0.N, _)
theorem idx_6 : ∀ t : Fin cfg0.N, win0_6.index t = ![(grid0.coords t 0 : ℕ), (grid0.coords t 1 : ℕ), 0] := (by decide +kernel : ∀ t : Fin grid0.N, _)
theorem idx_7 : ∀ t : Fin cfg0.N, win0_7.index t = ![(grid0.coords t 0 : ℕ), (grid0.coords t 1 : ℕ), 0] := (by decide +kernel : ∀ t : Fin grid0.N, _)
theorem idx_8 : ∀ t : Fin cfg0.N, win0_8.index t = ![(grid0.coords t 0 : ℕ), (grid0.coords t 1 : ℕ), 0] := (by decide +kernel : ∀ t : Fin grid0.N, _)
theorem idx_9 : ∀ t : Fin cfg0.N, win0_9.index t = ![(grid0.coords t 0 : ℕ), (grid0.coords t 1 : ℕ), 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![(grid0.coords t 0 : ℕ), (grid0.coords t 1 : ℕ), 0] := (by decide +kernel : ∀ t : Fin grid0.N, _)

/-- The blocks of the arrays cut along the tokens, and of the tables. -/
theorem blk_0 (c : Dev nD) (t : Fin cfg0.N) (r : Fin 512) (k : Fin 1024) : (iblk m c 0 t : (⟨3, ![1, 512, 1024]⟩ : Shape).Idx → EReal) (ix3 0 r k)
    = rd3 (V m c main_arg0 : (⟨3, ![4, 8192, 1024]⟩ : Shape).Idx → EReal) (grid0.coords t 0) ((grid0.coords t 1 : ℕ) * 512 + r) k := by
  blk_simp [iblk, idx_0]
  refine eq_rd3 _ _ _ _ _ ?_ ?_ ?_ <;> blk_simp [idx_0] <;> rfl
theorem blk_1 (c : Dev nD) (t : Fin cfg0.N) (r : Fin 512) (k : Fin 256) : (iblk m c 1 t : (⟨3, ![1, 512, 256]⟩ : Shape).Idx → EReal) (ix3 0 r k)
    = rd3 (V m c main_arg1 : (⟨3, ![4, 8192, 256]⟩ : Shape).Idx → EReal) (grid0.coords t 0) ((grid0.coords t 1 : ℕ) * 512 + r) k := by
  blk_simp [iblk, idx_1]
  refine eq_rd3 _ _ _ _ _ ?_ ?_ ?_ <;> blk_simp [idx_1] <;> rfl
theorem blk_2 (c : Dev nD) (t : Fin cfg0.N) (r : Fin 512) (k : Fin 512) : (iblk m c 2 t : (⟨3, ![1, 512, 512]⟩ : Shape).Idx → EReal) (ix3 0 r k)
    = rd3 (V m c main_arg2 : (⟨3, ![4, 8192, 512]⟩ : Shape).Idx → EReal) (grid0.coords t 0) ((grid0.coords t 1 : ℕ) * 512 + r) k := by
  blk_simp [iblk, idx_2]
  refine eq_rd3 _ _ _ _ _ ?_ ?_ ?_ <;> blk_simp [idx_2] <;> rfl
theorem blk_3 (c : Dev nD) (t : Fin cfg0.N) (r : Fin 512) (k : Fin 512) : (iblk m c 3 t : (⟨3, ![1, 512, 512]⟩ : Shape).Idx → EReal) (ix3 0 r k)
    = rd3 (V m c main_arg3 : (⟨3, ![4, 8192, 512]⟩ : Shape).Idx → EReal) (grid0.coords t 0) ((grid0.coords t 1 : ℕ) * 512 + r) k := by
  blk_simp [iblk, idx_3]
  refine eq_rd3 _ _ _ _ _ ?_ ?_ ?_ <;> blk_simp [idx_3] <;> rfl
theorem blk_4 (c : Dev nD) (t : Fin cfg0.N) (r : Fin 512) (k : Fin 512) : (iblk m c 4 t : (⟨3, ![1, 512, 512]⟩ : Shape).Idx → EReal) (ix3 0 r k)
    = rd3 (V m c main_arg4 : (⟨3, ![4, 8192, 512]⟩ : Shape).Idx → EReal) (grid0.coords t 0) ((grid0.coords t 1 : ℕ) * 512 + r) k := by
  blk_simp [iblk, idx_4]
  refine eq_rd3 _ _ _ _ _ ?_ ?_ ?_ <;> blk_simp [idx_4] <;> rfl
theorem blk_5 (c : Dev nD) (t : Fin cfg0.N) (r : Fin 512) (k : Fin 128) : (iblk m c 5 t : (⟨3, ![1, 512, 128]⟩ : Shape).Idx → EReal) (ix3 0 r k)
    = rd3 (V m c main_arg5 : (⟨3, ![4, 8192, 128]⟩ : Shape).Idx → EReal) (grid0.coords t 0) ((grid0.coords t 1 : ℕ) * 512 + r) k := by
  blk_simp [iblk, idx_5]
  refine eq_rd3 _ _ _ _ _ ?_ ?_ ?_ <;> blk_simp [idx_5] <;> rfl
theorem blk_6 (c : Dev nD) (t : Fin cfg0.N) (r : Fin 512) (k : Fin 128) : (iblk m c 6 t : (⟨3, ![1, 512, 128]⟩ : Shape).Idx → EReal) (ix3 0 r k)
    = rd3 (V m c main_arg6 : (⟨3, ![4, 8192, 128]⟩ : Shape).Idx → EReal) (grid0.coords t 0) ((grid0.coords t 1 : ℕ) * 512 + r) k := by
  blk_simp [iblk, idx_6]
  refine eq_rd3 _ _ _ _ _ ?_ ?_ ?_ <;> blk_simp [idx_6] <;> rfl
theorem blk_7 (c : Dev nD) (t : Fin cfg0.N) (r : Fin 512) (k : Fin 128) : (iblk m c 7 t : (⟨3, ![1, 512, 128]⟩ : Shape).Idx → EReal) (ix3 0 r k)
    = rd3 (V m c main_arg7 : (⟨3, ![4, 8192, 128]⟩ : Shape).Idx → EReal) (grid0.coords t 0) ((grid0.coords t 1 : ℕ) * 512 + r) k := by
  blk_simp [iblk, idx_7]
  refine eq_rd3 _ _ _ _ _ ?_ ?_ ?_ <;> blk_simp [idx_7] <;> rfl
theorem blk_8 (c : Dev nD) (t : Fin cfg0.N) (r : Fin 512) (k : Fin 512) : (iblk m c 8 t : (⟨3, ![1, 512, 512]⟩ : Shape).Idx → EReal) (ix3 0 r k)
    = rd3 (V m c main_arg8 : (⟨3, ![4, 8192, 512]⟩ : Shape).Idx → EReal) (grid0.coords t 0) ((grid0.coords t 1 : ℕ) * 512 + r) k := by
  blk_simp [iblk, idx_8]
  refine eq_rd3 _ _ _ _ _ ?_ ?_ ?_ <;> blk_simp [idx_8] <;> rfl
theorem blk_9 (c : Dev nD) (t : Fin cfg0.N) (r : Fin 512) (k : Fin 512) : (iblk m c 9 t : (⟨3, ![1, 512, 512]⟩ : Shape).Idx → EReal) (ix3 0 r k)
    = rd3 (V m c main_arg9 : (⟨3, ![4, 8192, 512]⟩ : Shape).Idx → EReal) (grid0.coords t 0) ((grid0.coords t 1 : ℕ) * 512 + r) k := by
  blk_simp [iblk, idx_9]
  refine eq_rd3 _ _ _ _ _ ?_ ?_ ?_ <;> blk_simp [idx_9] <;> rfl
theorem blk_10 (c : Dev nD) (t : Fin cfg0.N) : (iblk m c 10 t : (⟨2, ![256, 512]⟩ : Shape).Idx → EReal) = V m c main_v28 := by
  funext i
  blk_simp [iblk, idx_10]
  refine congrArg (V m c main_v28) (funext fun a => Fin.ext ?_)
  fin_cases a <;> blk_simp [idx_10] <;> exact Nat.zero_add _
theorem blk_11 (c : Dev nD) (t : Fin cfg0.N) : (iblk m c 11 t : (⟨2, ![1024, 1024]⟩ : Shape).Idx → EReal) = V m c main_v29 := by
  funext i
  blk_simp [iblk, idx_11]
  refine congrArg (V m c main_v29) (funext fun a => Fin.ext ?_)
  fin_cases a <;> blk_simp [idx_11] <;> exact Nat.zero_add _
theorem blk_12 (c : Dev nD) (t : Fin cfg0.N) : (iblk m c 12 t : (⟨2, ![1, 1024]⟩ : Shape).Idx → EReal) = V m c main_v30 := by
  funext i
  blk_simp [iblk, idx_12]
  refine congrArg (V m c main_v30) (funext fun a => Fin.ext ?_)
  fin_cases a <;> blk_simp [idx_12] <;> exact Nat.zero_add _
theorem blk_13 (c : Dev nD) (t : Fin cfg0.N) : (iblk m c 13 t : (⟨2, ![1024, 1024]⟩ : Shape).Idx → EReal) = V m c main_v31 := by
  funext i
  blk_simp [iblk, idx_13]
  refine congrArg (V m c main_v31) (funext fun a => Fin.ext ?_)
  fin_cases a <;> blk_simp [idx_13] <;> exact Nat.zero_add _
theorem blk_14 (c : Dev nD) (t : Fin cfg0.N) : (iblk m c 14 t : (⟨2, ![1, 1024]⟩ : Shape).Idx → EReal) = V m c main_v32 := by
  funext i
  blk_simp [iblk, idx_14]
  refine congrArg (V m c main_v32) (funext fun a => Fin.ext ?_)
  fin_cases a <;> blk_simp [idx_14] <;> exact Nat.zero_add _
theorem blk_15 (c : Dev nD) (t : Fin cfg0.N) : (iblk m c 15 t : (⟨2, ![256, 1024]⟩ : Shape).Idx → EReal) = V m c main_v33 := by
  funext i
  blk_simp [iblk, idx_15]
  refine congrArg (V m c main_v33) (funext fun a => Fin.ext ?_)
  fin_cases a <;> blk_simp [idx_15] <;> exact Nat.zero_add _

theorem fin_rd {n0 n1 n2 : ℕ} (X : (⟨3, ![n0, n1, n2]⟩ : Shape).Idx → EReal) (h : ∀ i, Fin' (X i)) (a b c : ℕ) : Fin' (rd3 X a b c) := by
  unfold rd3
  split
  · exact h _
  · exact Fin'.coe 0

/-- A tile's rows of an array. -/
abbrev rows {k : ℕ} (t : Fin cfg0.N) (X : (⟨3, ![4, 8192, k]⟩ : Shape).Idx → EReal) (r : ℕ) : ℕ → EReal :=
  rd3 X (grid0.coords t 0) ((grid0.coords t 1 : ℕ) * 512 + r)

/-- The result. -/
theorem arr_out (c : Dev nD) (f1 : ∀ i, Fin' ((V m c main_arg5 : (⟨3, ![4, 8192, 128]⟩ : Shape).Idx → EReal) i))
    (f2 : ∀ i, Fin' ((V m c main_arg6 : (⟨3, ![4, 8192, 128]⟩ : Shape).Idx → EReal) i))
    (f3 : ∀ i, Fin' ((V m c main_arg7 : (⟨3, ![4, 8192, 128]⟩ : Shape).Idx → EReal) i)) :
    (dats (F := Ideal) m 0 c).arrAt 16 cfg0.N = fun i : S4x8192x1024.Idx =>
      fin (res (rd3 (V m c main_arg0 : Stream) (i 0) (i 1))
          (fun j => att (rd3 (V m c main_arg5 : (⟨3, ![4, 8192, 128]⟩ : Shape).Idx → EReal) (i 0) (i 1)) (rd3 (V m c main_arg6 : (⟨3, ![4, 8192, 128]⟩ : Shape).Idx → EReal) (i 0) (i 1))
              (rd3 (V m c main_arg7 : (⟨3, ![4, 8192, 128]⟩ : Shape).Idx → EReal) (i 0) (i 1)) (rd3 (V m c main_arg2 : Toks) (i 0) (i 1))
              (rd3 (V m c main_arg3 : Toks) (i 0) (i 1)) (rd3 (V m c main_arg4 : Toks) (i 0) (i 1)) j * rd3 (V m c main_arg8 : Toks) (i 0) (i 1) j)
          (rd3 (V m c main_arg9 : Toks) (i 0) (i 1)) (rd2 (m (c.tc.loc main_arg10) : Mat 1024 1024)))
        (rd1 (m (c.tc.loc main_arg11) : Row 1024)) (rd2 (m (c.tc.loc main_arg12) : Mat 1024 1024)) (rd1 (m (c.tc.loc main_arg13) : Row 1024))
        (rd3 (V m c main_arg1 : (⟨3, ![4, 8192, 256]⟩ : Shape).Idx → EReal) (i 0) (i 1)) (rd2 (m (c.tc.loc main_arg14) : Mat 256 1024)) (i 2) := by
  refine (dats m 0 c).arrAt_eq_of_covers 16 _ (by decide +kernel) fun t hf y => ?_
  blk_simp [idx_16]
  rw [after0_16]
  refine (out_at _ _ _ _ _ _ _ _ _ _ _ _ _ _ _ _
    (rows t (V m c main_arg0)) (rows t (V m c main_arg1)) (rows t (V m c main_arg2)) (rows t (V m c main_arg3)) (rows t (V m c main_arg4)) (rows t (V m c main_arg5)) (rows t (V m c main_arg6)) (rows t (V m c main_arg7)) (rows t (V m c main_arg8)) (rows t (V m c main_arg9)) _ _ _ _ _
    (blk_0 m c t) (blk_1 m c t) (blk_2 m c t) (blk_3 m c t) (blk_4 m c t) (blk_5 m c t) (blk_6 m c t) (blk_7 m c t) (blk_8 m c t) (blk_9 m c t)
    (fun x j => by rw [blk_10 m c t]; exact e_tab m c x j) (fun j k => by rw [blk_11 m c t]; exact wo_tab m c j k) (fun k => by rw [blk_12 m c t]; exact g_tab m c k)
    (fun j k => by rw [blk_13 m c t]; exact wg_tab m c j k) (fun k => by rw [blk_14 m c t]; exact bg_tab m c k) (fun j k => by rw [blk_15 m c t]; exact wp_tab m c j k)
    (fun _ _ => fin_rd _ f1 _ _ _) (fun _ _ => fin_rd _ f2 _ _ _) (fun _ _ => fin_rd _ f3 _ _ _) y).trans ?_
  rfl

end Cert.Tail

end
-- ==== Proof.Tail.Finite.lean ====
/- The precondition read: every log-sum-exp is a real number. -/
module

public import proofs.«01_k».proof.Proof.Gen.Pre_finite_lse
public import proofs.«01_k».proof.Proof.Attn.Finite
public import Idealize.ShloMosaic.Lib.ReduceAll

@[expose] public section

noncomputable section

open Idealize.ShloMosaic Cert.Math Cert.Pre_finite_lse

namespace Cert.Tail

theorem allFin_of (X : FVec Ideal S4x8192x128 .f32) (bc) (hr : S4x8192x128.ReducesTo [0, 1, 2] S_) (hs : 0 < S_.numel)
    (h : Host.reduce IntOp.andi (cmpf .olt (Host.absf X : FVec Ideal S4x8192x128 .f32) (broadcastInDim S4x8192x128 ![] bc (constant S_ .f32 0x7F800000#32)))
      (constantI S_ 1 1#1) hr hs = fun _ => 1#1) : ∀ i, Fin' (X i) := fun i => by
  have e := Host.reduce_andi_all _ _ hr hs ix0 (congrFun h ix0) i
  refine Cert.Attn.fin_of_lt _ ?_
  rw [← Cert.Attn.top_bits]
  exact e

theorem fin_of_pre (x0 : FVec Ideal S4x8192x1024 .f32) (x1 : FVec Ideal S4x8192x256 .f32) (x2 x3 x4 : FVec Ideal S4x8192x512 .bf16)
    (X Y Z : FVec Ideal S4x8192x128 .f32) (x8 x9 : FVec Ideal S4x8192x512 .bf16) (x10 : FVec Ideal S1024x1024 .f32) (x11 : FVec Ideal S1024 .f32)
    (x12 : FVec Ideal S1024x1024 .f32) (x13 : FVec Ideal S1024 .f32) (x14 : FVec Ideal S256x1024 .f32)
    (h : Cert.Pre_finite_lse.fn (F := Ideal) x0 x1 x2 x3 x4 X Y Z x8 x9 x10 x11 x12 x13 x14 = fun _ => 1#1) :
    (∀ i, Fin' (X i)) ∧ (∀ i, Fin' (Y i)) ∧ ∀ i, Fin' (Z i) := by
  obtain ⟨h12, h3⟩ := Cert.Attn.and_ones _ _ h
  obtain ⟨h1, h2⟩ := Cert.Attn.and_ones _ _ h12
  exact ⟨allFin_of X _ _ _ h1, allFin_of Y _ _ _ h2, allFin_of Z _ _ _ h3⟩

end Cert.Tail

end
-- ==== Proof.Tail.Ref.lean ====
/- What the reference's combination and output compute, entry by entry. -/
module

public import proofs.«01_k».proof.Proof.Gen.TailIdeal.Read
public import proofs.«01_k».proof.Proof.Proj.Layer
public import proofs.«01_k».proof.Proof.Tail.Layer

@[expose] public section

set_option maxRecDepth 16384

noncomputable section

open Idealize.ShloMosaic Idealize.ShloMosaic.TcCoe Idealize.SL.Sem
open Cert.TailIdeal Cert.TailIdeal.Gen Cert.TailIdeal.Read Cert.Math Cert.Attn Cert.Mixer

namespace Cert.Tail.Ref

/-- A branch's packed log-sum-exps. -/
abbrev Lses := (⟨3, ![4, 8192, 128]⟩ : Shape).Idx → EReal

variable (X : Stream) (O1 O2 O3 : Toks) (L1 L2 L3 : Lses) (G A : Toks) (W : Mat 1024 1024)

/-- The branches' heads. -/
theorem l1_at (b : Fin 4) (s : Fin 8192) (h : Fin 8) : val_main_v10 (F := Ideal) L1 (ix3 b s h) = rd3 L1 b s (lane h) := by
  pointwise [val_main_v10, val_main_v9, val_main_v8, val_main_v7, val_main_v6]
  exact rd3_of L1 _ _ _ _ _ _ b.2 s.2 (by omega) rfl rfl (by unfold lane; omega)
theorem l2_at (b : Fin 4) (s : Fin 8192) (h : Fin 8) : val_main_v15 (F := Ideal) L2 (ix3 b s h) = rd3 L2 b s (lane h) := l1_at L2 b s h
theorem l3_at (b : Fin 4) (s : Fin 8192) (h : Fin 8) : val_main_v20 (F := Ideal) L3 (ix3 b s h) = rd3 L3 b s (lane h) := l1_at L3 b s h

theorem o1_at (b : Fin 4) (s : Fin 8192) (h : Fin 8) (d : Fin 64) : val_main_v1 (F := Ideal) O1 (ix4 b s h d) = rd3 O1 b s (64 * (h : ℕ) + d) := by
  pointwise [val_main_v1, val_main_v0]
  exact rd3_of O1 _ _ _ _ _ _ b.2 s.2 (by omega) rfl rfl (by omega)
theorem o2_at (b : Fin 4) (s : Fin 8192) (h : Fin 8) (d : Fin 64) : val_main_v3 (F := Ideal) O2 (ix4 b s h d) = rd3 O2 b s (64 * (h : ℕ) + d) := o1_at O2 b s h d
theorem o3_at (b : Fin 4) (s : Fin 8192) (h : Fin 8) (d : Fin 64) : val_main_v5 (F := Ideal) O3 (ix4 b s h d) = rd3 O3 b s (64 * (h : ℕ) + d) := o1_at O3 b s h d

/-- One of three, by number. -/
def pick (a b c : EReal) (n : Fin 3) : EReal := if (n : ℕ) < 1 then a else if (n : ℕ) - 1 < 1 then b else c

/-- The branches' log-sum-exps of a head, and the largest. -/
theorem stk_at (b : Fin 4) (s : Fin 8192) (h : Fin 8) (n : Fin 3) :
    val_main_v24 (F := Ideal) L1 L2 L3 (ix4 n b s h) = pick (rd3 L1 b s (lane h)) (rd3 L2 b s (lane h)) (rd3 L3 b s (lane h)) n := by
  have e1 := l1_at L1 b s h
  have e2 := l2_at L2 b s h
  have e3 := l3_at L3 b s h
  generalize h1 : val_main_v10 (F := Ideal) L1 = l1 at e1
  generalize h2 : val_main_v15 (F := Ideal) L2 = l2 at e2
  generalize h3 : val_main_v20 (F := Ideal) L3 = l3 at e3
  pointwise [val_main_v24, val_main_v23, val_main_v22, val_main_v21, h1, h2, h3]
  simp only [e1, e2, e3]
  rfl

theorem bot_bits : Ideal.ofBits FTy.f32 4286578688#32 = ⊥ := by decide +kernel

theorem fold3 (f : Fin 3 → EReal) : Finset.fold max ⊥ f Finset.univ = max (max (f 0) (f 1)) (f 2) := by
  rw [show (Finset.univ : Finset (Fin 3)) = {0, 1, 2} by decide]
  rw [Finset.fold_insert (by decide), Finset.fold_insert (by decide), Finset.fold_singleton, max_bot_right, max_assoc]

theorem max_at (b : Fin 4) (s : Fin 8192) (h : Fin 8) : val_main_v27 (F := Ideal) L1 L2 L3 (ix3 b s h)
    = max (max (rd3 L1 b s (lane h)) (rd3 L2 b s (lane h))) (rd3 L3 b s (lane h)) := by
  have e := stk_at L1 L2 L3 b s h
  generalize hX : val_main_v24 (F := Ideal) L1 L2 L3 = Y at e
  pointwise [val_main_v27, val_main_v26, val_main_v25, val_main_cst, val_main_cst_0, hX]
  rw [bot_bits, max_bot_left, fold3, e, e, e]
  rfl

/-- The branches' weights. -/
theorem wt_at (n : Fin 3) (b : Fin 4) (s : Fin 8192) (h : Fin 8) : val_main_v35 (F := Ideal) L1 L2 L3 (ix4 n b s h)
    = wt (rd3 L1 b s (lane h)) (rd3 L2 b s (lane h)) (rd3 L3 b s (lane h)) (pick (rd3 L1 b s (lane h)) (rd3 L2 b s (lane h)) (rd3 L3 b s (lane h)) n) := by
  have e := stk_at L1 L2 L3 b s h
  have e2 := max_at L1 L2 L3 b s h
  generalize hX : val_main_v24 (F := Ideal) L1 L2 L3 = Y at e
  generalize hM : val_main_v27 (F := Ideal) L1 L2 L3 = M at e2
  pointwise [val_main_v35, val_main_v34, val_main_v33, val_main_v32, val_main_v31, val_main_v30, val_main_v29, val_main_v28, val_main_cst_1, hX, hM]
  simp only [e, e2, Fin.sum_univ_three]
  rfl

/-- The branches' values, stacked. -/
theorem outs_at (b : Fin 4) (s : Fin 8192) (h : Fin 8) (d : Fin 64) (n : Fin 3) :
    val_main_v40 (F := Ideal) O1 O2 O3 (ix5 n b s h d) = pick (rd3 O1 b s (64 * (h : ℕ) + d)) (rd3 O2 b s (64 * (h : ℕ) + d)) (rd3 O3 b s (64 * (h : ℕ) + d)) n := by
  have e1 := o1_at O1 b s h d
  have e2 := o2_at O2 b s h d
  have e3 := o3_at O3 b s h d
  generalize h1 : val_main_v1 (F := Ideal) O1 = l1 at e1
  generalize h2 : val_main_v3 (F := Ideal) O2 = l2 at e2
  generalize h3 : val_main_v5 (F := Ideal) O3 = l3 at e3
  pointwise [val_main_v40, val_main_v39, val_main_v38, val_main_v37, h1, h2, h3]
  simp only [e1, e2, e3]
  rfl

/-- The combination. -/
theorem att_at (b : Fin 4) (s : Fin 8192) (c : Fin 512) : val_main_v44 (F := Ideal) O1 O2 O3 L1 L2 L3 (ix3 b s c)
    = att (rd3 L1 b s) (rd3 L2 b s) (rd3 L3 b s) (rd3 O1 b s) (rd3 O2 b s) (rd3 O3 b s) c := by
  have e := fun n => wt_at L1 L2 L3 n b s ⟨(c : ℕ) / 64, by omega⟩
  have e2 := outs_at O1 O2 O3 b s ⟨(c : ℕ) / 64, by omega⟩ ⟨(c : ℕ) % 64, by omega⟩
  generalize hX : val_main_v35 (F := Ideal) L1 L2 L3 = Y at e
  generalize hZ : val_main_v40 (F := Ideal) O1 O2 O3 = Z at e2
  pointwise [val_main_v44, val_main_v43, val_main_v42, val_main_v41, val_main_v36, val_main_cst_2, hX, hZ]
  simp only [e, e2, Fin.sum_univ_three]
  rw [show 64 * ((c : ℕ) / 64) + (c : ℕ) % 64 = c from Nat.div_add_mod _ _]
  rfl

end Cert.Tail.Ref

end
-- ==== Proof.Tail.RefOut.lean ====
/- The reference's last lines, entry by entry. -/
module

public import proofs.«01_k».proof.Proof.Tail.Ref

@[expose] public section

set_option maxRecDepth 16384

noncomputable section

open Idealize.ShloMosaic Idealize.ShloMosaic.TcCoe Idealize.SL.Sem
open Cert.TailIdeal Cert.TailIdeal.Gen Cert.TailIdeal.Read Cert.Math Cert.Attn Cert.Mixer

namespace Cert.Tail.Ref

variable (X : Stream) (P : (⟨3, ![4, 8192, 256]⟩ : Shape).Idx → EReal) (O1 O2 O3 : Toks) (L1 L2 L3 : Lses) (G A : Toks) (W : Mat 1024 1024)
    (g : Row 1024) (Wg : Mat 1024 1024) (bg : Row 1024) (Wp : Mat 256 1024)

/-- A left entry of two arrays of columns side by side. -/
theorem cat_left (U V : S4x8192x512.Idx → EReal) (h : Shape.Concatenates [S4x8192x512, S4x8192x512] S4x8192x1024 2) (b : Fin 4) (s : Fin 8192) (j : Fin 512) :
    concatenate S4x8192x1024 2 [⟨S4x8192x512, U⟩, ⟨S4x8192x512, V⟩] h (ix3 b s (⟨j, by omega⟩ : Fin 1024)) = U (ix3 b s j) :=
  concatenate_pair_apply_left (s₁ := S4x8192x512) (s₂ := S4x8192x512) 2 U V h _ rfl (ix3 b s j) fun a => by
    match a with
    | 0 => rfl
    | 1 => rfl
    | 2 => rfl

/-- A right entry of the same. -/
theorem cat_right (U V : S4x8192x512.Idx → EReal) (h : Shape.Concatenates [S4x8192x512, S4x8192x512] S4x8192x1024 2) (b : Fin 4) (s : Fin 8192) (j : Fin 512) :
    concatenate S4x8192x1024 2 [⟨S4x8192x512, U⟩, ⟨S4x8192x512, V⟩] h (ix3 b s (⟨512 + j, by omega⟩ : Fin 1024)) = V (ix3 b s j) :=
  concatenate_pair_apply_right (s₁ := S4x8192x512) (s₂ := S4x8192x512) 2 U V h _ rfl rfl (ix3 b s j) (fun a ha => by
    match a with
    | 0 => rfl
    | 1 => rfl
    | 2 => exact absurd rfl ha) (Nat.add_comm (j : ℕ) 512)

/-- The mixed row: the attention's gated columns, then the mixing's. -/
theorem mix_left (b : Fin 4) (s : Fin 8192) (j : Fin 512) : val_main_v48 (F := Ideal) O1 O2 O3 L1 L2 L3 G A (ix3 b s (⟨j, by omega⟩ : Fin 1024))
    = val_main_v46 (F := Ideal) O1 O2 O3 L1 L2 L3 G (ix3 b s j) := by
  unfold val_main_v48
  exact cat_left _ _ _ b s j

theorem mix_right (b : Fin 4) (s : Fin 8192) (j : Fin 512) : val_main_v48 (F := Ideal) O1 O2 O3 L1 L2 L3 G A (ix3 b s (⟨512 + j, by omega⟩ : Fin 1024))
    = val_main_v47 (F := Ideal) A (ix3 b s j) := by
  unfold val_main_v48
  exact cat_right _ _ _ b s j

theorem gate_at (b : Fin 4) (s : Fin 8192) (j : Fin 512) : val_main_v45 (F := Ideal) G (ix3 b s j) = rd3 G b s j := by
  pointwise [val_main_v45]
  exact rd3_ix G b s j

theorem gated_at (b : Fin 4) (s : Fin 8192) (j : Fin 512) (a : EReal) (h : val_main_v44 (F := Ideal) O1 O2 O3 L1 L2 L3 (ix3 b s j) = a) :
    val_main_v46 (F := Ideal) O1 O2 O3 L1 L2 L3 G (ix3 b s j) = (a * rd3 G b s j : EReal) := by
  rw [val_main_v46_apply, h, gate_at]
  rfl

theorem mixing_at (b : Fin 4) (s : Fin 8192) (j : Fin 512) : val_main_v47 (F := Ideal) A (ix3 b s j) = rd3 A b s j := by
  pointwise [val_main_v47]
  exact rd3_ix A b s j

theorem sum_split (f : Fin 1024 → EReal) : (∑ x, f x) = (∑ x : Fin 512, f ⟨x, by omega⟩) + ∑ x : Fin 512, f ⟨512 + x, by omega⟩ :=
  Fin.sum_univ_add (a := 512) (b := 512) f

/-- The residual stream after the mixers, the attention's row being `a`. -/
theorem res_at (a : ℕ → EReal) (b : Fin 4) (s : Fin 8192) (h : ∀ j : Fin 512, val_main_v44 (F := Ideal) O1 O2 O3 L1 L2 L3 (ix3 b s j) = a j) (k : Fin 1024) :
    val_main_v50 (F := Ideal) X O1 O2 O3 L1 L2 L3 G A W (ix3 b s k)
      = res (rd3 X b s) (fun j => a j * rd3 G b s j) (rd3 A b s) (rd2 W) k := by
  have e1 := fun j => (mix_left O1 O2 O3 L1 L2 L3 G A b s j).trans (gated_at O1 O2 O3 L1 L2 L3 G b s j _ (h j))
  have e2 := fun j => (mix_right O1 O2 O3 L1 L2 L3 G A b s j).trans (mixing_at A b s j)
  have hX : X (ix3 b s k) = rd3 X b s k := rd3_ix X b s k
  have hW : ∀ j : Fin 1024, W (ix2 j k) = rd2 W j k := fun j => rd2_of W j k
  clear h
  generalize hY : val_main_v48 (F := Ideal) O1 O2 O3 L1 L2 L3 G A = Y at e1 e2
  pointwise [val_main_v50, val_main_v49, hY]
  rw [sum_split]
  simp only [e1, e2, hX, hW]
  unfold res
  rw [add_assoc]

theorem sigmoid_of (x : EReal) : Ideal.div 1 (1 + Ideal.exp (-x)) = Ideal.logistic x := rfl

/-- The result, in the stream's row. -/
theorem out_at (H : ℕ → ℕ → ℕ → EReal) (b : Fin 4) (s : Fin 8192)
    (e : ∀ k : Fin 1024, val_main_v50 (F := Ideal) X O1 O2 O3 L1 L2 L3 G A W (ix3 b s k) = H b s k) (k : Fin 1024) :
    val_main_v76 (F := Ideal) X P O1 O2 O3 L1 L2 L3 G A W g Wg bg Wp (ix3 b s k) = fin (H b s) (rd1 g) (rd2 Wg) (rd1 bg) (rd3 P b s) (rd2 Wp) k := by
  have hg : ∀ j : Fin 1024, g (ix1 j) = rd1 g j := fun j => rd1_of g j
  have hb : bg (ix1 k) = rd1 bg k := rd1_of bg k
  have hW : ∀ j : Fin 1024, Wg (ix2 j k) = rd2 Wg j k := fun j => rd2_of Wg j k
  have hP : ∀ j : Fin 256, P (ix3 b s j) = rd3 P b s j := fun j => rd3_ix P b s j
  have hp : ∀ j : Fin 256, Wp (ix2 j k) = rd2 Wp j k := fun j => rd2_of Wp j k
  generalize hX : val_main_v50 (F := Ideal) X O1 O2 O3 L1 L2 L3 G A W = Y at e
  pointwise [val_main_v76, val_main_v75, val_main_v74, val_main_v73, val_main_v72, val_main_v71, val_main_v70, val_main_v69, val_main_v68,
    val_main_v67, val_main_v66, val_main_v65, val_main_v64, val_main_v63, val_main_v62, val_main_v61, val_main_v60, val_main_v59, val_main_v58,
    val_main_v57, val_main_v56, val_main_v55, val_main_v54, val_main_v53, val_main_v52, val_main_v51, val_main_cst_3, val_main_cst_4,
    val_main_cst_5, val_main_cst_6, val_main_cst_7, hX]
  simp only [e, hg, hb, hW, hP, hp, Ideal.ofBits_one_f32, Ideal.ofBits_zero_f32, zero_add]
  rw [sigmoid_of]
  rfl

end Cert.Tail.Ref

end
-- ==== Proof.Tail.Same.lean ====
/- The output call computes the reference's last lines. -/
module

public import proofs.«01_k».proof.Defs
public import proofs.«01_k».proof.Proof.Tail.Arr
public import proofs.«01_k».proof.Proof.Tail.Finite
public import proofs.«01_k».proof.Proof.Tail.RefOut
public import proofs.«01_k».proof.Proof.Gen.TailIdeal.Run
public import Idealize.ShloMosaic.Lib.Claim

@[expose] public section

set_option maxRecDepth 16384

noncomputable section

open Idealize.ShloMosaic Idealize.ShloMosaic.TcCoe Idealize.SL.Sem Cert.Math Cert.Attn Cert.Mixer
open Cert.TailIdeal.Read

namespace Cert.Tail

/-- The reference's result, as one function of the arguments. -/
theorem ref_out (X : Stream) (P : (⟨3, ![4, 8192, 256]⟩ : Shape).Idx → EReal) (O1 O2 O3 : Toks) (L1 L2 L3 : (⟨3, ![4, 8192, 128]⟩ : Shape).Idx → EReal)
    (G A : Toks) (W : Mat 1024 1024) (g : Row 1024) (Wg : Mat 1024 1024) (bg : Row 1024) (Wp : Mat 256 1024) :
    val_main_v76 (F := Ideal) X P O1 O2 O3 L1 L2 L3 G A W g Wg bg Wp = fun i =>
      fin (res (rd3 X (i 0) (i 1)) (fun j => att (rd3 L1 (i 0) (i 1)) (rd3 L2 (i 0) (i 1)) (rd3 L3 (i 0) (i 1)) (rd3 O1 (i 0) (i 1)) (rd3 O2 (i 0) (i 1))
          (rd3 O3 (i 0) (i 1)) j * rd3 G (i 0) (i 1) j) (rd3 A (i 0) (i 1)) (rd2 W)) (rd1 g) (rd2 Wg) (rd1 bg) (rd3 P (i 0) (i 1)) (rd2 Wp) (i 2) := by
  funext i
  obtain ⟨b, s, k, rfl⟩ : ∃ (b : Fin 4) (s : Fin 8192) (k : Fin 1024), i = ix3 b s k := ⟨i 0, i 1, i 2, by funext a; fin_cases a <;> rfl⟩
  exact Ref.out_at X P O1 O2 O3 L1 L2 L3 G A W g Wg bg Wp
    (fun b s => res (rd3 X b s) (fun j => att (rd3 L1 b s) (rd3 L2 b s) (rd3 L3 b s) (rd3 O1 b s) (rd3 O2 b s) (rd3 O3 b s) j * rd3 G b s j) (rd3 A b s) (rd2 W)) b s
    (Ref.res_at X O1 O2 O3 L1 L2 L3 G A W _ b s (Ref.att_at O1 O2 O3 L1 L2 L3 b s)) k

open Cert.OutIdeal.Gen in
set_option maxHeartbeats 3000000 in
theorem same (m : (ℓ : Loc Cert.OutIdeal.nD Cert.OutIdeal.τ Cert.OutIdeal.sig) → Buf (Elt Ideal) ℓ) (hpre : Cert.Pre_OutIdeal_finite_lse m)
    (c : Dev Cert.OutIdeal.nD) (X : Stream) (P : (⟨3, ![4, 8192, 256]⟩ : Shape).Idx → EReal) (O1 O2 O3 : Toks)
    (L1 L2 L3 : (⟨3, ![4, 8192, 128]⟩ : Shape).Idx → EReal) (G A : Toks) (W : Mat 1024 1024) (g : Row 1024) (Wg : Mat 1024 1024) (bg : Row 1024) (Wp : Mat 256 1024)
    (h0 : X = m (c.tc.loc Cert.OutIdeal.main_arg0)) (h1 : P = m (c.tc.loc Cert.OutIdeal.main_arg1)) (h2 : O1 = m (c.tc.loc Cert.OutIdeal.main_arg2))
    (h3 : O2 = m (c.tc.loc Cert.OutIdeal.main_arg3)) (h4 : O3 = m (c.tc.loc Cert.OutIdeal.main_arg4)) (h5 : L1 = m (c.tc.loc Cert.OutIdeal.main_arg5))
    (h6 : L2 = m (c.tc.loc Cert.OutIdeal.main_arg6)) (h7 : L3 = m (c.tc.loc Cert.OutIdeal.main_arg7)) (h8 : G = m (c.tc.loc Cert.OutIdeal.main_arg8))
    (h9 : A = m (c.tc.loc Cert.OutIdeal.main_arg9)) (h10 : W = m (c.tc.loc Cert.OutIdeal.main_arg10)) (h11 : g = m (c.tc.loc Cert.OutIdeal.main_arg11))
    (h12 : Wg = m (c.tc.loc Cert.OutIdeal.main_arg12)) (h13 : bg = m (c.tc.loc Cert.OutIdeal.main_arg13)) (h14 : Wp = m (c.tc.loc Cert.OutIdeal.main_arg14)) :
    val_main_v76 (F := Ideal) X P O1 O2 O3 L1 L2 L3 G A W g Wg bg Wp = (dats (F := Ideal) m 0 c).arrAt 16 Cert.OutIdeal.cfg0.N := by
  obtain ⟨f1, f2, f3⟩ := fin_of_pre _ _ _ _ _ _ _ _ _ _ _ _ _ _ _ (hpre c)
  have e0 := h0.trans (V_main_arg0 m c).symm
  have e1 := h1.trans (V_main_arg1 m c).symm
  have e2 := h2.trans (V_main_arg2 m c).symm
  have e3 := h3.trans (V_main_arg3 m c).symm
  have e4 := h4.trans (V_main_arg4 m c).symm
  have e5 := h5.trans (V_main_arg5 m c).symm
  have e6 := h6.trans (V_main_arg6 m c).symm
  have e7 := h7.trans (V_main_arg7 m c).symm
  have e8 := h8.trans (V_main_arg8 m c).symm
  have e9 := h9.trans (V_main_arg9 m c).symm
  rw [← h5] at f1
  rw [← h6] at f2
  rw [← h7] at f3
  clear h0 h1 h2 h3 h4 h5 h6 h7 h8 h9
  subst e0 e1 e2 e3 e4 e5 e6 e7 e8 e9 h10 h11 h12 h13 h14
  exact (ref_out _ _ _ _ _ _ _ _ _ _ _ _ _ _ _).trans (arr_out m c f1 f2 f3).symm

theorem algebraic : Cert.algebraic_OutIdeal_TailIdeal_pre_finite_lse := by
  pair_intro
  · run_from Cert.OutIdeal.Value.run_blocks m g
  · exact (θ_run _ _ _).mono (fun r h c => by
      obtain ⟨h0, h1, h2, h3, h4, h5, h6, h7, h8, h9, h10, h11, h12, h13, h14⟩ := hagree c
      exact ⟨(h c).1.trans ((val_main_v76_eq m' c).trans (same m hpre c _ _ _ _ _ _ _ _ _ _ _ _ _ _ _ h0 h1 h2 h3 h4 h5 h6 h7 h8 h9 h10 h11 h12 h13 h14)),
        (h c).2⟩) (Cert.TailIdeal.Value.run m' g')

end Cert.Tail

end
-- ==== Proof.lean ====
module

public import proofs.«01_k».proof.Defs
public import proofs.«01_k».proof.Proof.Gen.Attn1
public import proofs.«01_k».proof.Proof.Gen.Attn1.Frame
public import proofs.«01_k».proof.Proof.Gen.Attn1Ideal
public import proofs.«01_k».proof.Proof.Gen.Attn1Ideal.Frame
public import proofs.«01_k».proof.Proof.Gen.Attn1Ideal.Value
public import proofs.«01_k».proof.Proof.Gen.Branch1Ideal
public import proofs.«01_k».proof.Proof.Gen.Branch1Ideal.Run
public import proofs.«01_k».proof.Proof.Gen.Branch1Ideal.Read
public import proofs.«01_k».proof.Proof.Gen.Pre_finite_qk
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.MixersIdeal
public import proofs.«01_k».proof.Proof.Gen.MixersIdeal.Run
public import proofs.«01_k».proof.Proof.Gen.MixersIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.TailIdeal
public import proofs.«01_k».proof.Proof.Gen.TailIdeal.Run
public import proofs.«01_k».proof.Proof.Gen.TailIdeal.Read
public import proofs.«01_k».proof.Proof.Gen.Pre_finite_lse
public import proofs.«01_k».proof.Proof.Attn.Same1
public import proofs.«01_k».proof.Proof.Proj.Same
public import proofs.«01_k».proof.Proof.Tail.Same
public import Idealize.ShloMosaic.Adequacy
public import Idealize.ShloMosaic.Init

@[expose] public section

noncomputable section

namespace Cert.Proof

open Idealize.ShloMosaic Idealize.SL.Sem

/-- The reference of the first attention call runs, keeps its arguments and ends quiet. -/
theorem frame_branch1 : Cert.quiescent_Branch1Ideal := fun m ρ _ =>
  (θ_run Cert.Branch1Ideal.defs _ _).mono (fun r h => ⟨fun c => (h c).2.2, sem_eq_zero_of_no_sems (by decide) r.2⟩)
    (Cert.Branch1Ideal.Value.run (F := Ideal) m ρ)

/-- The reference of the projections runs, keeps its arguments and ends quiet. -/
theorem frame_mixers : Cert.quiescent_MixersIdeal := fun m ρ _ =>
  (θ_run Cert.MixersIdeal.defs _ _).mono (fun r h => ⟨fun c => (h c).2.2.2.2.2, sem_eq_zero_of_no_sems (by decide) r.2⟩)
    (Cert.MixersIdeal.Value.run (F := Ideal) m ρ)

/-- The reference of the output call runs, keeps its arguments and ends quiet. -/
theorem frame_tail : Cert.quiescent_TailIdeal := fun m ρ _ =>
  (θ_run Cert.TailIdeal.defs _ _).mono (fun r h => ⟨fun c => (h c).2, sem_eq_zero_of_no_sems (by decide) r.2⟩)
    (Cert.TailIdeal.Value.run (F := Ideal) m ρ)

theorem claim : Cert.Claim :=
  ⟨Cert.Attn1.Gen.facts, Cert.Attn1Ideal.Gen.facts, Cert.Branch1Ideal.Gen.facts, Cert.Proj.Gen.facts, Cert.ProjIdeal.Gen.facts,
    Cert.MixersIdeal.Gen.facts, Cert.Out.Gen.facts, Cert.OutIdeal.Gen.facts, Cert.TailIdeal.Gen.facts, Cert.Pre_finite_qk.Gen.facts,
    Cert.Pre_finite_lse.Gen.facts,
    fun m ρ _ => Cert.Attn1.Gen.frame m ρ,
    fun m ρ _ => Cert.Attn1Ideal.Gen.frame m ρ,
    fun m ρ _ => Cert.Attn1Ideal.Gen.frame m ρ,
    frame_branch1,
    fun m ρ _ => frame_branch1 m ρ trivial,
    fun m ρ _ => Cert.Proj.Gen.frame m ρ,
    fun m ρ _ => Cert.ProjIdeal.Gen.frame m ρ,
    frame_mixers,
    fun m ρ _ => Cert.Out.Gen.frame m ρ,
    fun m ρ _ => Cert.OutIdeal.Gen.frame m ρ,
    fun m ρ _ => Cert.OutIdeal.Gen.frame m ρ,
    frame_tail,
    fun m ρ _ => frame_tail m ρ trivial,
    trivial, Cert.Attn.algebraic1, trivial, Cert.Mixer.algebraic, trivial, Cert.Tail.algebraic⟩

end Cert.Proof

end
